-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 512, 8, 64]⟩ ⟨4, ![2, 512, 64, 64]⟩ 2 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 512, 64, 64]⟩ 2 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x512x768 : Shape := ⟨3, ![2, 512, 768]⟩
abbrev S768x4096 : Shape := ⟨2, ![768, 4096]⟩
abbrev S2x512x8x64 : Shape := ⟨4, ![2, 512, 8, 64]⟩
abbrev S4096x768 : Shape := ⟨2, ![4096, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x4096 : S_.BroadcastsInDim S768x4096 (![] : Fin 0 → Fin S768x4096.rank)
  reducesTo_S768x4096_S_d0_1 : S768x4096.ReducesTo [0, 1] S_
  bcast_S_S2x512x8x64 : S_.BroadcastsInDim S2x512x8x64 (![] : Fin 0 → Fin S2x512x8x64.rank)
  reducesTo_S2x512x8x64_S_d0_1_2_3 : S2x512x8x64.ReducesTo [0, 1, 2, 3] S_

variable [Facts]

def fn {F : FTy → Type} [FloatOps F] (main_arg0 : FVec F S2x512x768 .bf16) (main_arg1 : FVec F S768x4096 .bf16) (main_arg2 : FVec F S2x512x8x64 .bf16) (main_arg3 : FVec F S2x512x8x64 .bf16) (main_arg4 : FVec F S4096x768 .bf16) : IVec S_ 1 :=
  let main_v0 : FVec F S2x512x768 .bf16 := Host.absf main_arg0
  let main_cst : FVec F S_ .bf16 := constant S_ .bf16 0x7F80#16
  let main_v1 : FVec F S2x512x768 .bf16 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x4096 .bf16 := Host.absf main_arg1
  let main_cst_0 : FVec F S_ .bf16 := constant S_ .bf16 0x7F80#16
  let main_v5 : FVec F S768x4096 .bf16 := broadcastInDim S768x4096 ![] bcast_S_S768x4096 main_cst_0
  let main_v6 : IVec S768x4096 1 := cmpf .olt main_v4 main_v5
  let main_c_1 : IVec S_ 1 := constantI S_ 1 1#1
  let main_v7 : IVec S_ 1 := (fun x v => Host.reduce IntOp.andi x v reducesTo_S768x4096_S_d0_1 h_S_) main_v6 main_c_1
  let main_v8 : IVec S_ 1 := andi main_v3 main_v7
  let main_v9 : FVec F S2x512x8x64 .bf16 := Host.absf main_arg2
  let main_cst_2 : FVec F S_ .bf16 := constant S_ .bf16 0x7F80#16
  let main_v10 : FVec F S2x512x8x64 .bf16 := broadcastInDim S2x512x8x64 ![] bcast_S_S2x512x8x64 main_cst_2
  let main_v11 : IVec S2x512x8x64 1 := cmpf .olt main_v9 main_v10
  let main_c_3 : IVec S_ 1 := constantI S_ 1 1#1
  let main_v12 : IVec S_ 1 := (fun x v => Host.reduce IntOp.andi x v reducesTo_S2x512x8x64_S_d0_1_2_3 h_S_) main_v11 main_c_3
  let main_v13 : IVec S_ 1 := andi main_v8 main_v12
  main_v13
-- ==== Pre_finite_scores_ReferenceIdeal.lean ====
abbrev S2x512x768 : Shape := ⟨3, ![2, 512, 768]⟩
abbrev S768x4096 : Shape := ⟨2, ![768, 4096]⟩
abbrev S2x512x64x64 : Shape := ⟨4, ![2, 512, 64, 64]⟩
abbrev S4096x768 : Shape := ⟨2, ![4096, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x4096 : S_.BroadcastsInDim S768x4096 (![] : Fin 0 → Fin S768x4096.rank)
  reducesTo_S768x4096_S_d0_1 : S768x4096.ReducesTo [0, 1] S_
  bcast_S_S2x512x64x64 : S_.BroadcastsInDim S2x512x64x64 (![] : Fin 0 → Fin S2x512x64x64.rank)
  reducesTo_S2x512x64x64_S_d0_1_2_3 : S2x512x64x64.ReducesTo [0, 1, 2, 3] S_

variable [Facts]

def fn {F : FTy → Type} [FloatOps F] (main_arg0 : FVec F S2x512x768 .bf16) (main_arg1 : FVec F S768x4096 .bf16) (main_arg2 : FVec F S2x512x64x64 .bf16) (main_arg3 : FVec F S2x512x64x64 .bf16) (main_arg4 : FVec F S4096x768 .bf16) : IVec S_ 1 :=
  let main_v0 : FVec F S2x512x768 .bf16 := Host.absf main_arg0
  let main_cst : FVec F S_ .bf16 := constant S_ .bf16 0x7F80#16
  let main_v1 : FVec F S2x512x768 .bf16 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x4096 .bf16 := Host.absf main_arg1
  let main_cst_0 : FVec F S_ .bf16 := constant S_ .bf16 0x7F80#16
  let main_v5 : FVec F S768x4096 .bf16 := broadcastInDim S768x4096 ![] bcast_S_S768x4096 main_cst_0
  let main_v6 : IVec S768x4096 1 := cmpf .olt main_v4 main_v5
  let main_c_1 : IVec S_ 1 := constantI S_ 1 1#1
  let main_v7 : IVec S_ 1 := (fun x v => Host.reduce IntOp.andi x v reducesTo_S768x4096_S_d0_1 h_S_) main_v6 main_c_1
  let main_v8 : IVec S_ 1 := andi main_v3 main_v7
  let main_v9 : FVec F S2x512x64x64 .bf16 := Host.absf main_arg2
  let main_cst_2 : FVec F S_ .bf16 := constant S_ .bf16 0x7F80#16
  let main_v10 : FVec F S2x512x64x64 .bf16 := broadcastInDim S2x512x64x64 ![] bcast_S_S2x512x64x64 main_cst_2
  let main_v11 : IVec S2x512x64x64 1 := cmpf .olt main_v9 main_v10
  let main_c_3 : IVec S_ 1 := constantI S_ 1 1#1
  let main_v12 : IVec S_ 1 := (fun x v => Host.reduce IntOp.andi x v reducesTo_S2x512x64x64_S_d0_1_2_3 h_S_) main_v11 main_c_3
  let main_v13 : IVec S_ 1 := andi main_v8 main_v12
  main_v13
-- ==== Kernel.lean ====
abbrev S2x512x768 : Shape := ⟨3, ![2, 512, 768]⟩
abbrev S768x4096 : Shape := ⟨2, ![768, 4096]⟩
abbrev S2x512x8x64 : Shape := ⟨4, ![2, 512, 8, 64]⟩
abbrev S4096x768 : Shape := ⟨2, ![4096, 768]⟩
abbrev S_ : Shape := ⟨0, ![]⟩
abbrev S768x512 : Shape := ⟨2, ![768, 512]⟩
abbrev S1024x768 : Shape := ⟨2, ![1024, 768]⟩
abbrev S1024x512 : Shape := ⟨2, ![1024, 512]⟩
abbrev S16x128x256 : Shape := ⟨3, ![16, 128, 256]⟩
abbrev S128x768 : Shape := ⟨2, ![128, 768]⟩
abbrev S8x128x768 : Shape := ⟨3, ![8, 128, 768]⟩
abbrev S16 : Shape := ⟨1, ![16]⟩
abbrev S8 : Shape := ⟨1, ![8]⟩
abbrev S512x512 : Shape := ⟨2, ![512, 512]⟩
abbrev S512x64 : Shape := ⟨2, ![512, 64]⟩
abbrev S1x512x1x64 : Shape := ⟨4, ![1, 512, 1, 64]⟩
abbrev S512 : Shape := ⟨1, ![512]⟩
abbrev S512x1 : Shape := ⟨2, ![512, 1]⟩
abbrev S128x256 : Shape := ⟨2, ![128, 256]⟩
abbrev S1x128x256 : Shape := ⟨3, ![1, 128, 256]⟩
abbrev S1 : Shape := ⟨1, ![1]⟩
abbrev S256x768 : Shape := ⟨2, ![256, 768]⟩
abbrev S1x128x768 : Shape := ⟨3, ![1, 128, 768]⟩

abbrev nBuf : Space → Nat
  | .hbm => 23
  | .vmem => 11
  | .smem => 0
  | _ => 0

abbrev bufTy : (tb : Table) → Fin (tcTables nBuf tb) → BufTy
  | .hbm, ⟨0, _⟩ => ⟨S2x512x768, .bf16⟩
  | .hbm, ⟨1, _⟩ => ⟨S768x4096, .bf16⟩
  | .hbm, ⟨2, _⟩ => ⟨S2x512x8x64, .bf16⟩
  | .hbm, ⟨3, _⟩ => ⟨S2x512x8x64, .bf16⟩
  | .hbm, ⟨4, _⟩ => ⟨S4096x768, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S768x512, .bf16⟩
  | .hbm, ⟨20, _⟩ => ⟨S1024x768, .bf16⟩
  | .hbm, ⟨21, _⟩ => ⟨S1024x768, .f32⟩
  | .hbm, ⟨22, _⟩ => ⟨S2x512x768, .f32⟩
  | .local _ .vmem, ⟨0, _⟩ => ⟨S1024x768, .bf16⟩
  | .local _ .vmem, ⟨1, _⟩ => ⟨S768x512, .bf16⟩
  | .local _ .vmem, ⟨2, _⟩ => ⟨S2x512x8x64, .bf16⟩
  | .local _ .vmem, ⟨3, _⟩ => ⟨S2x512x8x64, .bf16⟩
  | .local _ .vmem, ⟨4, _⟩ => ⟨S4096x768, .bf16⟩
  | .local _ .vmem, ⟨5, _⟩ => ⟨S1024x768, .f32⟩
  | .local _ .vmem, ⟨6, _⟩ => ⟨S1024x512, .bf16⟩
  | .local _ .vmem, ⟨7, _⟩ => ⟨S16x128x256, .bf16⟩
  | .local _ .vmem, ⟨8, _⟩ => ⟨S16x128x256, .bf16⟩
  | .local _ .vmem, ⟨9, _⟩ => ⟨S128x768, .bf16⟩
  | .local _ .vmem, ⟨10, _⟩ => ⟨S8x128x768, .bf16⟩
  | _, _ => ⟨S2x512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  (ofTc nBuf bufTy 1 54 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c0_i32_153 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v228 : BitVec 32 := Scalar.addi v2 c0_i32_153
  let c8_i32_154 : BitVec 32 := 8#32
  let v229 : BitVec 32 := Scalar.remsi v228 c8_i32_154
  let c128_i32_155 : BitVec 32 := 128#32
  let v230 : BitVec 32 := Scalar.muli v229 c128_i32_155
  let v231 : Index := Scalar.indexCast v230
  let c0_156 : Index := 0#32
  ![v231.toNat, 0]
def k0_dev8 (d0 : Dev nD) : Nat :=
  let c0_i32_172 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_160 : BitVec 32 := 1#32
  let v236 : BitVec 32 := Scalar.addi v2 c1_i32_160
  let c8_i32_161 : BitVec 32 := 8#32
  let v237 : BitVec 32 := Scalar.remsi v236 c8_i32_161
  let c1_i32_171 : BitVec 32 := 1#32
  let v244 : BitVec 32 := Scalar.muli v237 c1_i32_171
  let v245 : BitVec 32 := Scalar.addi c0_i32_172 v244
  v245.toNat
def k0_dev9 (d0 : Dev nD) : Nat :=
  let c0_i32_189 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_177 : BitVec 32 := 2#32
  let v254 : BitVec 32 := Scalar.addi v2 c2_i32_177
  let c8_i32_178 : BitVec 32 := 8#32
  let v255 : BitVec 32 := Scalar.remsi v254 c8_i32_178
  let c1_i32_188 : BitVec 32 := 1#32
  let v262 : BitVec 32 := Scalar.muli v255 c1_i32_188
  let v263 : BitVec 32 := Scalar.addi c0_i32_189 v262
  v263.toNat
def k0_dev10 (d0 : Dev nD) : Nat :=
  let c0_i32_206 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_194 : BitVec 32 := 3#32
  let v272 : BitVec 32 := Scalar.addi v2 c3_i32_194
  let c8_i32_195 : BitVec 32 := 8#32
  let v273 : BitVec 32 := Scalar.remsi v272 c8_i32_195
  let c1_i32_205 : BitVec 32 := 1#32
  let v280 : BitVec 32 := Scalar.muli v273 c1_i32_205
  let v281 : BitVec 32 := Scalar.addi c0_i32_206 v280
  v281.toNat
def k0_dev11 (d0 : Dev nD) : Nat :=
  let c0_i32_222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_211 : BitVec 32 := 4#32
  let v290 : BitVec 32 := Scalar.addi v2 c4_i32_211
  let c8_i32_212 : BitVec 32 := 8#32
  let v291 : BitVec 32 := Scalar.remsi v290 c8_i32_212
  let c1_i32_221 : BitVec 32 := 1#32
  let v298 : BitVec 32 := Scalar.muli v291 c1_i32_221
  let v299 : BitVec 32 := Scalar.addi c0_i32_222 v298
  v299.toNat
def k0_dev12 (d0 : Dev nD) : Nat :=
  let c0_i32_238 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_227 : BitVec 32 := 5#32
  let v308 : BitVec 32 := Scalar.addi v2 c5_i32_227
  let c8_i32_228 : BitVec 32 := 8#32
  let v309 : BitVec 32 := Scalar.remsi v308 c8_i32_228
  let c1_i32_237 : BitVec 32 := 1#32
  let v316 : BitVec 32 := Scalar.muli v309 c1_i32_237
  let v317 : BitVec 32 := Scalar.addi c0_i32_238 v316
  v317.toNat
def k0_dev13 (d0 : Dev nD) : Nat :=
  let c0_i32_254 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_243 : BitVec 32 := 6#32
  let v326 : BitVec 32 := Scalar.addi v2 c6_i32_243
  let c8_i32_244 : BitVec 32 := 8#32
  let v327 : BitVec 32 := Scalar.remsi v326 c8_i32_244
  let c1_i32_253 : BitVec 32 := 1#32
  let v334 : BitVec 32 := Scalar.muli v327 c1_i32_253
  let v335 : BitVec 32 := Scalar.addi c0_i32_254 v334
  v335.toNat
def k0_dev14 (d0 : Dev nD) : Nat :=
  let c0_i32_270 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_259 : BitVec 32 := 7#32
  let v344 : BitVec 32 := Scalar.addi v2 c7_i32_259
  let c8_i32_260 : BitVec 32 := 8#32
  let v345 : BitVec 32 := Scalar.remsi v344 c8_i32_260
  let c1_i32_269 : BitVec 32 := 1#32
  let v352 : BitVec 32 := Scalar.muli v345 c1_i32_269
  let v353 : BitVec 32 := Scalar.addi c0_i32_270 v352
  v353.toNat
def k0_off2 (d0 : Dev nD) (c0_i32_399 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v546 : BitVec 32 := Scalar.addi v2 c0_i32_399
  let c8_i32_400 : BitVec 32 := 8#32
  let v547 : BitVec 32 := Scalar.remsi v546 c8_i32_400
  let c128_i32_401 : BitVec 32 := 128#32
  let v548 : BitVec 32 := Scalar.muli v547 c128_i32_401
  let v549 : Index := Scalar.indexCast v548
  let c256_402 : Index := 256#32
  ![v549.toNat, 256]
def k0_dev15 (d0 : Dev nD) : Nat :=
  let c0_i32_415 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_405 : BitVec 32 := 1#32
  let v554 : BitVec 32 := Scalar.addi v2 c1_i32_405
  let c8_i32_406 : BitVec 32 := 8#32
  let v555 : BitVec 32 := Scalar.remsi v554 c8_i32_406
  let c1_i32_414 : BitVec 32 := 1#32
  let v562 : BitVec 32 := Scalar.muli v555 c1_i32_414
  let v563 : BitVec 32 := Scalar.addi c0_i32_415 v562
  v563.toNat
def k0_dev16 (d0 : Dev nD) : Nat :=
  let c0_i32_430 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_420 : BitVec 32 := 2#32
  let v572 : BitVec 32 := Scalar.addi v2 c2_i32_420
  let c8_i32_421 : BitVec 32 := 8#32
  let v573 : BitVec 32 := Scalar.remsi v572 c8_i32_421
  let c1_i32_429 : BitVec 32 := 1#32
  let v580 : BitVec 32 := Scalar.muli v573 c1_i32_429
  let v581 : BitVec 32 := Scalar.addi c0_i32_430 v580
  v581.toNat
def k0_dev17 (d0 : Dev nD) : Nat :=
  let c0_i32_445 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_435 : BitVec 32 := 3#32
  let v590 : BitVec 32 := Scalar.addi v2 c3_i32_435
  let c8_i32_436 : BitVec 32 := 8#32
  let v591 : BitVec 32 := Scalar.remsi v590 c8_i32_436
  let c1_i32_444 : BitVec 32 := 1#32
  let v598 : BitVec 32 := Scalar.muli v591 c1_i32_444
  let v599 : BitVec 32 := Scalar.addi c0_i32_445 v598
  v599.toNat
def k0_dev18 (d0 : Dev nD) : Nat :=
  let c0_i32_460 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_450 : BitVec 32 := 4#32
  let v608 : BitVec 32 := Scalar.addi v2 c4_i32_450
  let c8_i32_451 : BitVec 32 := 8#32
  let v609 : BitVec 32 := Scalar.remsi v608 c8_i32_451
  let c1_i32_459 : BitVec 32 := 1#32
  let v616 : BitVec 32 := Scalar.muli v609 c1_i32_459
  let v617 : BitVec 32 := Scalar.addi c0_i32_460 v616
  v617.toNat
def k0_dev19 (d0 : Dev nD) : Nat :=
  let c0_i32_475 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_465 : BitVec 32 := 5#32
  let v626 : BitVec 32 := Scalar.addi v2 c5_i32_465
  let c8_i32_466 : BitVec 32 := 8#32
  let v627 : BitVec 32 := Scalar.remsi v626 c8_i32_466
  let c1_i32_474 : BitVec 32 := 1#32
  let v634 : BitVec 32 := Scalar.muli v627 c1_i32_474
  let v635 : BitVec 32 := Scalar.addi c0_i32_475 v634
  v635.toNat
def k0_dev20 (d0 : Dev nD) : Nat :=
  let c0_i32_490 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_480 : BitVec 32 := 6#32
  let v644 : BitVec 32 := Scalar.addi v2 c6_i32_480
  let c8_i32_481 : BitVec 32 := 8#32
  let v645 : BitVec 32 := Scalar.remsi v644 c8_i32_481
  let c1_i32_489 : BitVec 32 := 1#32
  let v652 : BitVec 32 := Scalar.muli v645 c1_i32_489
  let v653 : BitVec 32 := Scalar.addi c0_i32_490 v652
  v653.toNat
def k0_dev21 (d0 : Dev nD) : Nat :=
  let c0_i32_505 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_495 : BitVec 32 := 7#32
  let v662 : BitVec 32 := Scalar.addi v2 c7_i32_495
  let c8_i32_496 : BitVec 32 := 8#32
  let v663 : BitVec 32 := Scalar.remsi v662 c8_i32_496
  let c1_i32_504 : BitVec 32 := 1#32
  let v670 : BitVec 32 := Scalar.muli v663 c1_i32_504
  let v671 : BitVec 32 := Scalar.addi c0_i32_505 v670
  v671.toNat
def k0_off3 (d0 : Dev nD) (c0_i32_511 : BitVec 32) (c0_i32_514 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v681 : BitVec 32 := Scalar.subi v2 c0_i32_511
  let c8_i32_512 : BitVec 32 := 8#32
  let v682 : BitVec 32 := Scalar.addi v681 c8_i32_512
  let c8_i32_513 : BitVec 32 := 8#32
  let v683 : BitVec 32 := Scalar.remsi v682 c8_i32_513
  let c512_i32 : BitVec 32 := 512#32
  let v684 : BitVec 32 := Scalar.muli v683 c512_i32
  let v685 : BitVec 32 := Scalar.addi v684 c0_i32_514
  let v686 : Index := Scalar.indexCast v685
  let c0_515 : Index := 0#32
  ![v686.toNat, 0]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_809 : BitVec 32 := 128#32
  let v985 : BitVec 32 := Scalar.muli v2 c128_i32_809
  let v986 : Index := Scalar.indexCast v985
  let c0_810 : Index := 0#32
  ![v986.toNat, 0]
def k0_dev22 (d0 : Dev nD) : Nat :=
  let c0_i32_819 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_813 : BitVec 32 := 1#32
  let v992 : BitVec 32 := Scalar.addi v2 c1_i32_813
  let c8_i32_814 : BitVec 32 := 8#32
  let v993 : BitVec 32 := Scalar.remsi v992 c8_i32_814
  let c1_i32_818 : BitVec 32 := 1#32
  let v994 : BitVec 32 := Scalar.muli v993 c1_i32_818
  let v995 : BitVec 32 := Scalar.addi c0_i32_819 v994
  v995.toNat
def k0_dev23 (d0 : Dev nD) : Nat :=
  let c0_i32_828 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_822 : BitVec 32 := 2#32
  let v1002 : BitVec 32 := Scalar.addi v2 c2_i32_822
  let c8_i32_823 : BitVec 32 := 8#32
  let v1003 : BitVec 32 := Scalar.remsi v1002 c8_i32_823
  let c1_i32_827 : BitVec 32 := 1#32
  let v1004 : BitVec 32 := Scalar.muli v1003 c1_i32_827
  let v1005 : BitVec 32 := Scalar.addi c0_i32_828 v1004
  v1005.toNat
def k0_dev24 (d0 : Dev nD) : Nat :=
  let c0_i32_837 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_831 : BitVec 32 := 3#32
  let v1012 : BitVec 32 := Scalar.addi v2 c3_i32_831
  let c8_i32_832 : BitVec 32 := 8#32
  let v1013 : BitVec 32 := Scalar.remsi v1012 c8_i32_832
  let c1_i32_836 : BitVec 32 := 1#32
  let v1014 : BitVec 32 := Scalar.muli v1013 c1_i32_836
  let v1015 : BitVec 32 := Scalar.addi c0_i32_837 v1014
  v1015.toNat
def k0_dev25 (d0 : Dev nD) : Nat :=
  let c0_i32_846 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_840 : BitVec 32 := 4#32
  let v1022 : BitVec 32 := Scalar.addi v2 c4_i32_840
  let c8_i32_841 : BitVec 32 := 8#32
  let v1023 : BitVec 32 := Scalar.remsi v1022 c8_i32_841
  let c1_i32_845 : BitVec 32 := 1#32
  let v1024 : BitVec 32 := Scalar.muli v1023 c1_i32_845
  let v1025 : BitVec 32 := Scalar.addi c0_i32_846 v1024
  v1025.toNat
def k0_dev26 (d0 : Dev nD) : Nat :=
  let c0_i32_855 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_849 : BitVec 32 := 5#32
  let v1032 : BitVec 32 := Scalar.addi v2 c5_i32_849
  let c8_i32_850 : BitVec 32 := 8#32
  let v1033 : BitVec 32 := Scalar.remsi v1032 c8_i32_850
  let c1_i32_854 : BitVec 32 := 1#32
  let v1034 : BitVec 32 := Scalar.muli v1033 c1_i32_854
  let v1035 : BitVec 32 := Scalar.addi c0_i32_855 v1034
  v1035.toNat
def k0_dev27 (d0 : Dev nD) : Nat :=
  let c0_i32_864 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_858 : BitVec 32 := 6#32
  let v1042 : BitVec 32 := Scalar.addi v2 c6_i32_858
  let c8_i32_859 : BitVec 32 := 8#32
  let v1043 : BitVec 32 := Scalar.remsi v1042 c8_i32_859
  let c1_i32_863 : BitVec 32 := 1#32
  let v1044 : BitVec 32 := Scalar.muli v1043 c1_i32_863
  let v1045 : BitVec 32 := Scalar.addi c0_i32_864 v1044
  v1045.toNat
def k0_dev28 (d0 : Dev nD) : Nat :=
  let c0_i32_873 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_867 : BitVec 32 := 7#32
  let v1052 : BitVec 32 := Scalar.addi v2 c7_i32_867
  let c8_i32_868 : BitVec 32 := 8#32
  let v1053 : BitVec 32 := Scalar.remsi v1052 c8_i32_868
  let c1_i32_872 : BitVec 32 := 1#32
  let v1054 : BitVec 32 := Scalar.muli v1053 c1_i32_872
  let v1055 : BitVec 32 := Scalar.addi c0_i32_873 v1054
  v1055.toNat
def k0_off5 (d0 : Dev nD) (c1_i32_883 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1068 : BitVec 32 := Scalar.subi v2 c1_i32_883
  let c8_i32_884 : BitVec 32 := 8#32
  let v1069 : BitVec 32 := Scalar.addi v1068 c8_i32_884
  let c8_i32_885 : BitVec 32 := 8#32
  let v1070 : BitVec 32 := Scalar.remsi v1069 c8_i32_885
  let c128_i32_889 : BitVec 32 := 128#32
  let v1074 : BitVec 32 := Scalar.muli v1070 c128_i32_889
  let v1075 : Index := Scalar.indexCast v1074
  let c0_890 : Index := 0#32
  ![v1075.toNat, 0]
abbrev stage0_0 : Fin 1 → Memref sig .tc .vmem S1024x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x8x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x8x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x512x768 : Shape := ⟨3, ![2, 512, 768]⟩
abbrev S768x4096 : Shape := ⟨2, ![768, 4096]⟩
abbrev S2x512x64x64 : Shape := ⟨4, ![2, 512, 64, 64]⟩
abbrev S4096x768 : Shape := ⟨2, ![4096, 768]⟩
abbrev S2x512x4096 : Shape := ⟨3, ![2, 512, 4096]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S2x64x512x512 : Shape := ⟨4, ![2, 64, 512, 512]⟩
abbrev S1x1x512x512 : Shape := ⟨4, ![1, 1, 512, 512]⟩
abbrev S2x64x512 : Shape := ⟨3, ![2, 64, 512]⟩
abbrev S2x64x512x1 : Shape := ⟨4, ![2, 64, 512, 1]⟩
abbrev S1x1x512x1 : Shape := ⟨4, ![1, 1, 512, 1]⟩
abbrev S2x64x64x512 : Shape := ⟨4, ![2, 64, 64, 512]⟩

abbrev nBuf : Space → Nat
  | .hbm => 62
  | .vmem => 0
  | .smem => 0
  | _ => 0

abbrev bufTy : (tb : Table) → Fin (tcTables nBuf tb) → BufTy
  | .hbm, ⟨0, _⟩ => ⟨S2x512x768, .bf16⟩
  | .hbm, ⟨1, _⟩ => ⟨S768x4096, .bf16⟩
  | .hbm, ⟨2, _⟩ => ⟨S2x512x64x64, .bf16⟩
  | .hbm, ⟨3, _⟩ => ⟨S2x512x64x64, .bf16⟩
  | .hbm, ⟨4, _⟩ => ⟨S4096x768, .bf16⟩
  | .hbm, ⟨5, _⟩ => ⟨S2x512x768, .f32⟩
  | .hbm, ⟨6, _⟩ => ⟨S768x4096, .f32⟩
  | .hbm, ⟨7, _⟩ => ⟨S2x512x64x64, .f32⟩
  | .hbm, ⟨8, _⟩ => ⟨S2x512x64x64, .f32⟩
  | .hbm, ⟨9, _⟩ => ⟨S4096x768, .f32⟩
  | .hbm, ⟨10, _⟩ => ⟨S2x512x4096, .f32⟩
  | .hbm, ⟨11, _⟩ => ⟨S2x512x64x64, .f32⟩
  | .hbm, ⟨12, _⟩ => ⟨S512, .i32⟩
  | .hbm, ⟨13, _⟩ => ⟨S512x1, .i32⟩
  | .hbm, ⟨14, _⟩ => ⟨S512, .i32⟩
  | .hbm, ⟨15, _⟩ => ⟨S1x512, .i32⟩
  | .hbm, ⟨16, _⟩ => ⟨S512x512, .i32⟩
  | .hbm, ⟨17, _⟩ => ⟨S512x512, .i32⟩
  | .hbm, ⟨18, _⟩ => ⟨S512x512, .i32⟩
  | .hbm, ⟨19, _⟩ => ⟨S512x512, .i32⟩
  | .hbm, ⟨20, _⟩ => ⟨S_, .i32⟩
  | .hbm, ⟨21, _⟩ => ⟨S512x512, .i32⟩
  | .hbm, ⟨22, _⟩ => ⟨S512x512, .i1⟩
  | .hbm, ⟨23, _⟩ => ⟨S2x64x512x512, .f32⟩
  | .hbm, ⟨24, _⟩ => ⟨S_, .f32⟩
  | .hbm, ⟨25, _⟩ => ⟨S2x64x512x512, .f32⟩
  | .hbm, ⟨26, _⟩ => ⟨S2x64x512x512, .f32⟩
  | .hbm, ⟨27, _⟩ => ⟨S1x1x512x512, .i1⟩
  | .hbm, ⟨28, _⟩ => ⟨S_, .f32⟩
  | .hbm, ⟨29, _⟩ => ⟨S_, .f32⟩
  | .hbm, ⟨30, _⟩ => ⟨S2x64x512x512, .i1⟩
  | .hbm, ⟨31, _⟩ => ⟨S2x64x512x512, .f32⟩
  | .hbm, ⟨32, _⟩ => ⟨S2x64x512x512, .f32⟩
  | .hbm, ⟨33, _⟩ => ⟨S_, .f32⟩
  | .hbm, ⟨34, _⟩ => ⟨S2x64x512, .f32⟩
  | .hbm, ⟨35, _⟩ => ⟨S2x64x512x1, .f32⟩
  | .hbm, ⟨36, _⟩ => ⟨S2x64x512x512, .f32⟩
  | .hbm, ⟨37, _⟩ => ⟨S2x64x512x512, .f32⟩
  | .hbm, ⟨38, _⟩ => ⟨S2x64x512x512, .f32⟩
  | .hbm, ⟨39, _⟩ => ⟨S_, .i1⟩
  | .hbm, ⟨40, _⟩ => ⟨S512, .i1⟩
  | .hbm, ⟨41, _⟩ => ⟨S1x1x512x1, .i1⟩
  | .hbm, ⟨42, _⟩ => ⟨S_, .f32⟩
  | .hbm, ⟨43, _⟩ => ⟨S2x64x512, .f32⟩
  | .hbm, ⟨44, _⟩ => ⟨S2x64x512x1, .f32⟩
  | .hbm, ⟨45, _⟩ => ⟨S_, .f32⟩
  | .hbm, ⟨46, _⟩ => ⟨S_, .f32⟩
  | .hbm, ⟨47, _⟩ => ⟨S2x64x512x1, .i1⟩
  | .hbm, ⟨48, _⟩ => ⟨S2x64x512x1, .f32⟩
  | .hbm, ⟨49, _⟩ => ⟨S2x64x512x1, .f32⟩
  | .hbm, ⟨50, _⟩ => ⟨S2x64x512x512, .f32⟩
  | .hbm, ⟨51, _⟩ => ⟨S2x64x512x512, .f32⟩
  | .hbm, ⟨52, _⟩ => ⟨S1x1x512x1, .i1⟩
  | .hbm, ⟨53, _⟩ => ⟨S_, .f32⟩
  | .hbm, ⟨54, _⟩ => ⟨S_, .f32⟩
  | .hbm, ⟨55, _⟩ => ⟨S2x64x512x512, .i1⟩
  | .hbm, ⟨56, _⟩ => ⟨S2x64x512x512, .f32⟩
  | .hbm, ⟨57, _⟩ => ⟨S2x64x512x512, .f32⟩
  | .hbm, ⟨58, _⟩ => ⟨S2x64x64x512, .f32⟩
  | .hbm, ⟨59, _⟩ => ⟨S2x512x64x64, .f32⟩
  | .hbm, ⟨60, _⟩ => ⟨S2x512x4096, .f32⟩
  | .hbm, ⟨61, _⟩ => ⟨S2x512x768, .f32⟩
  | _, _ => ⟨S2x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_2 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩

abbrev nD : Nat := 1
abbrev τ : Topo := Topo.v7x

variable {F : FTy → Type} [FloatOps F]
-- ==== Proof.Contents.lean ====
/-
  What every buffer of the kernel holds, as plain functions of the five blocks each device starts from: the attention
  context of a device, the slabs it sends and receives, the partial sums of its reduction, the chunk it broadcasts, and
  the result. Nothing here speaks of the machine.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import Idealize.ShloMosaic.Lib.Pipeline.Launch
public import Idealize.ShloMosaic.Lib.Pipeline.Kit
public import Idealize.ShloMosaic.Lib.Pipeline.Regions
public import Idealize.ShloMosaic.Lib.Pipeline.RegionTalk
public import Idealize.ShloMosaic.Lib.ValueIdx
public import Idealize.ShloMosaic.Lib.ValueLayout
public import Idealize.ShloMosaic.Lib.ViewIndex
public import Idealize.ShloMosaic.Lib.Tactic

@[expose] public section

noncomputable section

namespace Cert.KernelIdealProof

open Cert.KernelIdeal Cert.KernelIdeal.Gen
open Idealize.ShloMosaic Idealize.ShloMosaic.ValueIdx

variable {F : FTy → Type} [FloatOps F]

/-! ## The ring of eight devices -/

set_option backward.proofsInPublic true in
/-- The device `s` places after `c`. -/
def fwd (c : Dev nD) (s : ℕ) : Dev nD := ⟨(c.val + s) % 8, Nat.mod_lt _ (by decide)⟩
set_option backward.proofsInPublic true in
/-- The device `s` places before `c` (`s ≤ 8`). -/
def bwd (c : Dev nD) (s : ℕ) : Dev nD := ⟨(c.val + 8 - s) % 8, Nat.mod_lt _ (by decide)⟩

theorem fwd_val (c : Dev nD) (s : ℕ) : (fwd c s).val = (c.val + s) % 8 := rfl
theorem bwd_val (c : Dev nD) (s : ℕ) : (bwd c s).val = (c.val + 8 - s) % 8 := rfl

theorem dev_lt (c : Dev nD) : c.val < 8 := c.isLt

theorem bwd_fwd (c : Dev nD) (s : ℕ) (hs : s ≤ 8) : bwd (fwd c s) s = c := by
  have := dev_lt c
  apply Fin.ext; rw [bwd_val, fwd_val]; omega
theorem fwd_bwd (c : Dev nD) (s : ℕ) (hs : s ≤ 8) : fwd (bwd c s) s = c := by
  have := dev_lt c
  apply Fin.ext; rw [fwd_val, bwd_val]; omega
theorem bwd_zero (c : Dev nD) : bwd c 0 = c := by
  have := dev_lt c
  apply Fin.ext; rw [bwd_val]; omega
theorem fwd_fwd (c : Dev nD) (s : ℕ) (hs : s ≤ 8) : fwd (fwd c s) (8 - s) = c := by
  have := dev_lt c
  apply Fin.ext; rw [fwd_val, fwd_val]; omega

/-! ## The contents -/

/-- The five blocks a device's kernel reads: the rows of `x` (both batches), its 512 columns of `Wq`, its eight heads of
    `K` and `V`, and all of `Wo`. -/
structure Ins (F : FTy → Type) where
  x : Vec F S1024x768 .bf16
  wq : Vec F S768x512 .bf16
  k : Vec F S2x512x8x64 .bf16
  v : Vec F S2x512x8x64 .bf16
  wo : Vec F S4096x768 .bf16

/-- The 512 by 64 block of batch `b` and head `h` of `K` or `V`, in the shape the kernel loads it. -/
def headBlk (y : Vec F S2x512x8x64 .bf16) (b h : ℕ) (hb : b < 2) (hh : h < 8) : Vec F S1x512x1x64 .bf16 :=
  fun i => y (ix4 ⟨b, hb⟩ (i 1) ⟨h, hh⟩ (i 3))

theorem slices_q (b h : ℕ) (hb : b < 2) (hh : h < 8) : S1024x512.Slices ![512 * b, 64 * h] S512x64 :=
  ⟨rfl, fun a => match a with
    | ⟨0, _⟩ => (by omega : 512 * b + 512 ≤ 1024)
    | ⟨1, _⟩ => (by omega : 64 * h + 64 ≤ 512)⟩

/-- The queries of batch `b` and head `h`: rows `512 b` on, columns `64 h` on, of the device's query matrix. -/
def qBlk (q : FVec F S1024x512 .bf16) (b h : ℕ) (hb : b < 2) (hh : h < 8) : FVec F S512x64 .bf16 :=
  extractStridedSlice S512x64 ![512 * b, 64 * h] q (slices_q b h hb hh)

/-- The attention of batch `b` and head `h` of a device. -/
def head (a : Ins F) (b h : ℕ) (hb : b < 2) (hh : h < 8) : FVec F S512x64 .bf16 :=
  k0_pay9 k0_pay2 (qBlk (k0_pay1 a.x a.wq) b h hb hh) (headBlk a.k b h hb hh) (headBlk a.v b h hb hh)

/-- The device's whole attention context: row `512 b + i`, column `64 h + d`. -/
def ctxAll (a : Ins F) : Vec F S1024x512 .bf16 := fun i =>
  head a ((i 0).val / 512) ((i 1).val / 64) (by have := idx2_lt0 i; omega) (by have := idx2_lt1 i; omega)
    (ix2 ⟨(i 0).val % 512, Nat.mod_lt _ (by decide)⟩ ⟨(i 1).val % 64, Nat.mod_lt _ (by decide)⟩)

/-- What device `c`'s sixteen outgoing slabs hold: slab `8 hg + s` is the 128 rows of its context that belong to the
    device `s` places on, columns `256 hg` on. -/
def sSlab (A : Dev nD → Ins F) (c : Dev nD) : Vec F S16x128x256 .bf16 := fun i =>
  ctxAll (A c) (ix2 ⟨128 * ((c.val + (i 0).val % 8) % 8) + (i 1).val, by have : (i 1).val < 128 := (i 1).isLt; omega⟩
    ⟨256 * ((i 0).val / 8) + (i 2).val, by
      have h0 : (i 0).val < 16 := (i 0).isLt; have h2 : (i 2).val < 256 := (i 2).isLt; omega⟩)

/-- What device `c`'s sixteen incoming slabs hold: slab `8 hg + s` comes from the device `s` places before. -/
def rSlab (A : Dev nD → Ins F) (c : Dev nD) : Vec F S16x128x256 .bf16 := fun i =>
  sSlab A (bwd c ((i 0).val % 8)) i

/-- Slab `n` of sixteen, in the shape the kernel loads it. -/
def slab1 (r : Vec F S16x128x256 .bf16) (n : ℕ) (hn : n < 16) : Vec F S1x128x256 .bf16 := fun i => r (ix3 ⟨n, hn⟩ (i 1) (i 2))

/-- The 256 rows of `Wo` that step `n = 8 hg + s` of device `c`'s reduction multiplies by. -/
def woBlk (w : Vec F S4096x768 .bf16) (c : Dev nD) (n : ℕ) (hn : n < 16) : Vec F S256x768 .bf16 := fun i =>
  w (ix2 ⟨512 * ((c.val + 8 - n % 8) % 8) + 256 * (n / 8) + (i 0).val, by have := idx2_lt0 i; omega⟩ (i 1))

/-- The reduction of device `c` after `n` slabs. -/
def redUp (A : Dev nD → Ins F) (c : Dev nD) : ℕ → FVec F S128x768 .f32
  | 0 => broadcast S128x768 (Scalar.ofBits .f32 0x00000000#32)
  | n + 1 => if hn : n < 16 then k0_pay60 (redUp A c n) (woBlk (A c).wo c n hn) (slab1 (rSlab A c) n hn) else redUp A c n

/-- Device `c`'s 128 rows of the result, in full precision; -/
def red (A : Dev nD → Ins F) (c : Dev nD) : FVec F S128x768 .f32 := redUp A c 16
/-- and rounded, as it broadcasts them. -/
def redBf (A : Dev nD → Ins F) (c : Dev nD) : FVec F S128x768 .bf16 := truncf .bf16 (red A c) bitsLt_bf16_f32

/-- What device `c`'s eight landing slots of the broadcast hold: slot `s` the rows of the device `s` places before. -/
def gSlab (A : Dev nD → Ins F) (c : Dev nD) : Vec F S8x128x768 .bf16 := fun i =>
  redBf A (bwd c (i 0).val) (ix2 (i 1) (i 2))

/-- Device `c`'s result: its own 128 rows in full precision, every other device's rows rounded and widened again. -/
def outAll (A : Dev nD → Ins F) (c : Dev nD) : Vec F S1024x768 .f32 := fun i =>
  if (i 0).val / 128 = c.val then red A c (ix2 ⟨(i 0).val % 128, Nat.mod_lt _ (by decide)⟩ (i 1))
  else extf .f32 (redBf A ⟨(i 0).val / 128, by have := idx2_lt0 i; show (i 0).val / 128 < 8; omega⟩) bitsLt_bf16_f32
    (ix2 ⟨(i 0).val % 128, Nat.mod_lt _ (by decide)⟩ (i 1))

theorem redUp_succ (A : Dev nD → Ins F) (c : Dev nD) (n : ℕ) (hn : n < 16) :
    redUp A c (n + 1) = k0_pay60 (redUp A c n) (woBlk (A c).wo c n hn) (slab1 (rSlab A c) n hn) := dif_pos hn

end Cert.KernelIdealProof
-- ==== Proof.Protocol.lean ====
/-
  The protocol the eight devices follow: the semaphore cells, what each cell's one round of duties hands over, the order
  in which a device pays what it owes, and the levels that make every wait safe.
-/
module

public import proofs.«01_k».proof.Proof.Contents

@[expose] public section

noncomputable section

namespace Cert.KernelIdealProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

abbrev UU : Type := UR sig nD τ × URounds (GSem nD τ sig) (Fin 8)

local notation "𝕄" => MT nD τ sig Unit (Elt F) ℕ UU ℕ

/-- The pipeline library's copy (left) and the protocol's (right). -/
abbrev EP : Emb (UR sig nD τ) (MT nD τ sig Unit (Elt F) ℕ UU ℕ) := embL
abbrev ER : Emb (URounds (GSem nD τ sig) (Fin 8)) (MT nD τ sig Unit (Elt F) ℕ UU ℕ) := embR

/-- The kernels' variants: none. -/
abbrev 𝒱₀ : Variants := Variants.none

/-! ## The cells -/

/-- The barrier semaphore; the semaphores of slab `i`'s send and arrival; those of the broadcast to (from) the device `s`
    places after (before). -/
abbrev barS : Sem sig := (SemArray.scalar (sig.barrier 0 rfl) : Sems sig S_).sem
abbrev sS (i : ℕ) : DmaSem sig := (⟨6 + i % 16, by omega⟩ : Fin 54)
abbrev rS (i : ℕ) : DmaSem sig := (⟨22 + i % 16, by omega⟩ : Fin 54)
abbrev bS (s : ℕ) : DmaSem sig := (⟨38 + s % 8, by omega⟩ : Fin 54)
abbrev gS (s : ℕ) : DmaSem sig := (⟨46 + s % 8, by omega⟩ : Fin 54)

abbrev barCell (c : Dev nD) : GSem nD τ sig := ((c : Thread nD τ), .reg barS)
abbrev dCell (c : Dev nD) (m : DmaSem sig) : GSem nD τ sig := ((c : Thread nD τ), .dma m)

/-! ## The slots of the scratch buffers -/

/-- The elements of slot `i` of a sixteen-slot buffer, and of an eight-slot buffer. -/
def slot16 (i : ℕ) : Finset S16x128x256.Idx := Finset.univ.filter fun x => (x 0).val = i
def slot8 (i : ℕ) : Finset S8x128x768.Idx := Finset.univ.filter fun x => (x 0).val = i

theorem mem_slot16 {i : ℕ} {x : S16x128x256.Idx} : x ∈ slot16 i ↔ (x 0).val = i := by simp [slot16]
theorem mem_slot8 {i : ℕ} {x : S8x128x768.Idx} : x ∈ slot8 i ↔ (x 0).val = i := by simp [slot8]

/-- Slot `i` of device `c`'s outgoing slabs holds `f`; of its incoming slabs; slot `s` of its landing slots of the
    broadcast; a share of its chunk. -/
def sb (c : Dev nD) (i : ℕ) (f : Vec F S16x128x256 .bf16) : sProp 𝕄 := (c : Thread nD τ).loc cc0_scratch1 ↦[slot16 i]{fullShare} f
def rb (c : Dev nD) (i : ℕ) (f : Vec F S16x128x256 .bf16) : sProp 𝕄 := (c : Thread nD τ).loc cc0_scratch2 ↦[slot16 i]{fullShare} f
def gb (c : Dev nD) (s : ℕ) (f : Vec F S8x128x768 .bf16) : sProp 𝕄 := (c : Thread nD τ).loc cc0_scratch4 ↦[slot8 s]{fullShare} f
def bbq (c : Dev nD) (q : PosShare TreeShare) (f : Vec F S128x768 .bf16) : sProp 𝕄 := (c : Thread nD τ).loc cc0_scratch3 ↦{q} f

/-- The share of its chunk that the broadcast `s` places on reads. -/
def bq (s : ℕ) : PosShare TreeShare := Transfers.shareTokN fullShare s

/-- A slab's slot and a landing slot, as the transfers name them. -/
theorem inb16 (i : ℕ) (hi : i < 16) : ∀ a, (![i, 0, 0] : Fin 3 → Nat) a + S1x128x256.size a ≤ S16x128x256.size a := by
  intro a; fin_cases a <;> simp <;> omega
theorem inb8 (s : ℕ) (hs : s < 8) : ∀ a, (![s, 0, 0] : Fin 3 → Nat) a + S1x128x768.size a ≤ S8x128x768.size a := by
  intro a; fin_cases a <;> simp <;> omega

abbrev slotM (b : Memref sig .tc .vmem S16x128x256 .bf16) (i : ℕ) (hi : i < 16) : Memref sig .tc .vmem S128x256 .bf16 :=
  (b.slice (Rect.unit (s := S16x128x256) ![i, 0, 0] S1x128x256.size (inb16 i hi)) (fun _ => rfl)).squeeze S128x256 squeezes_S1x128x256_S128x256
abbrev slotG (b : Memref sig .tc .vmem S8x128x768 .bf16) (s : ℕ) (hs : s < 8) : Memref sig .tc .vmem S128x768 .bf16 :=
  (b.slice (Rect.unit (s := S8x128x768) ![s, 0, 0] S1x128x768.size (inb8 s hs)) (fun _ => rfl)).squeeze S128x768 squeezes_S1x128x768_S128x768

/-- What a slab's transfer credits, and a chunk's. -/
abbrev Ns : ℕ := (slotM (Memref.whole cc0_scratch2) 0 (by decide)).view.dmaCredit
abbrev Nb : ℕ := (slotG (Memref.whole cc0_scratch4) 0 (by decide)).view.dmaCredit
theorem Ns_pos : 0 < Ns := View.dmaCredit_pos _ (by decide)
theorem Nb_pos : 0 < Nb := View.dmaCredit_pos _ (by decide)

/-! ## The schedule -/

/-- What device `p`'s barrier signal to the device it will receive from hands over: the three slots that device may write
    — the two slab slots and the broadcast slot `s` — and that their cells have been opened. -/
def landing (p : Dev nD) (s : ℕ) : sProp 𝕄 :=
  iprop((∃ f, rb p s f) ∗ (∃ f, rb p (8 + s) f) ∗ (∃ f, gb p s f)
    ∗ reached ER (dCell p (rS s)) 0 ∗ reached ER (dCell p (rS (8 + s))) 0 ∗ reached ER (dCell p (gS s)) 0)

/-- What the round of the transfer cell `m` of device `c` hands over. -/
def dmaPay (A : Dev nD → Ins F) (c : Dev nD) (m : ℕ) : sProp 𝕄 :=
  if m < 22 then sb c (m - 6) (sSlab A c)
  else if m < 38 then rb c (m - 22) (rSlab A c)
  else if m < 46 then bbq c (bq (m - 38)) (redBf A c)
  else gb c (m - 46) (gSlab A c)

/-- One round on every cell in use: seven units on a barrier cell, one transfer on each of the others. -/
def Rd (A : Dev nD → Ins F) : Rounds.Schedule (GSem nD τ sig) (Fin 8) 𝕄 where
  duties g r := match g.2 with
    | .reg b => if r = 0 ∧ b = barS then Finset.univ.erase 0 else ∅
    | .dma m => if r = 0 ∧ 6 ≤ m.val ∧ (m.val - 6) % 8 ≠ 0 then {0} else ∅
  unitless _ := False
  amount g _ _ := match g.2 with
    | .reg _ => 1
    | .dma m => if m.val < 38 then Ns else Nb
  payload g _ d := match g.2 with
    | .reg _ => landing (fwd g.1.1 d.val) d.val
    | .dma m => dmaPay A g.1.1 m.val
  amount_pos g _ _ _ := by
    match g.2 with
    | .reg _ => exact Nat.one_pos
    | .dma m => dsimp only; split; exacts [Ns_pos, Nb_pos]

instance Rd_payload_storable (A : Dev nD → Ins F) (g : GSem nD τ sig) (r : ℕ) (d : Fin 8) :
    BI.Storable (upEmb : UEmb _ 𝕄) ((Rd A).payload g r d) := by
  obtain ⟨t, sm⟩ := g
  cases sm with
  | reg b => show BI.Storable upEmb (landing (fwd t.1 d.val) d.val); unfold landing rb gb; infer_instance
  | dma m =>
    show BI.Storable upEmb (dmaPay A t.1 m.val)
    unfold dmaPay sb rb bbq gb
    (repeat' split) <;> infer_instance

section Sched

variable (A : Dev nD → Ins F) (c : Dev nD)

theorem duties_bar : (Rd A).duties (barCell c) 0 = Finset.univ.erase 0 := by
  dsimp only [Rd]; exact if_pos ⟨rfl, rfl⟩
theorem duties_dma (m : DmaSem sig) (h6 : 6 ≤ m.val) (h8 : (m.val - 6) % 8 ≠ 0) : (Rd A).duties (dCell c m) 0 = {0} :=
  if_pos ⟨rfl, h6, h8⟩
theorem duties_none (m : DmaSem sig) (h : ¬ (6 ≤ m.val ∧ (m.val - 6) % 8 ≠ 0)) (r : ℕ) : (Rd A).duties (dCell c m) r = ∅ :=
  if_neg fun h' => h h'.2
theorem duties_later (g : GSem nD τ sig) : ∀ r, 1 ≤ r → (Rd A).duties g r = ∅ := fun r hr => by
  obtain ⟨t, sm⟩ := g
  cases sm with
  | reg b => exact if_neg fun h => by omega
  | dma m => exact if_neg fun h => by omega

theorem expect_bar : (Rd A).expect (barCell c) 0 = 7 := by
  unfold Schedule.expect Schedule.amountOf
  rw [duties_bar]
  exact (Finset.sum_const _).trans (by simp)
theorem expect_dma (m : DmaSem sig) (h6 : 6 ≤ m.val) (h8 : (m.val - 6) % 8 ≠ 0) :
    (Rd A).expect (dCell c m) 0 = if m.val < 38 then Ns else Nb := by
  unfold Schedule.expect Schedule.amountOf
  rw [duties_dma A c m h6 h8, Finset.sum_singleton]; rfl

theorem rest_dma (m : DmaSem sig) (h6 : 6 ≤ m.val) (h8 : (m.val - 6) % 8 ≠ 0) :
    bigSep ((Rd A).duties (dCell c m) 0 \ ∅) (fun d => (Rd A).payload (dCell c m) 0 d) = dmaPay A c m.val := by
  rw [Finset.sdiff_empty, duties_dma A c m h6 h8, bigSep_singleton]; rfl

theorem rest_bar :
    bigSep ((Rd A).duties (barCell c) 0 \ ∅) (fun d => (Rd A).payload (barCell c) 0 d)
      = bigSep (Finset.univ.erase (0 : Fin 8)) (fun d => landing (F := F) (fwd c d.val) d.val) := by
  rw [Finset.sdiff_empty, duties_bar]; rfl

end Sched

/-! ## What a device owes, and in what order it pays -/

/-- The cell device `c`'s payment `p` goes to: seven barrier signals, seven slabs of the first half of its columns, seven of
    the second, seven broadcasts. -/
def payCell (c : Dev nD) (p : ℕ) : GSem nD τ sig :=
  if p < 7 then barCell (fwd c (p + 1))
  else if p < 14 then dCell (fwd c (p - 6)) (rS (p - 6))
  else if p < 21 then dCell (fwd c (p - 13)) (rS (8 + (p - 13)))
  else dCell (fwd c (p - 20)) (gS (p - 20))
/-- and the units it pays. -/
def payAmt (p : ℕ) : ℕ := if p < 7 then 1 else if p < 21 then Ns else Nb

/-- What device `c` still owes when `n` payments are left. -/
def debt (c : Dev nD) : ℕ → CellTallies nD τ sig Unit
  | 0 => 0
  | n + 1 => debt c n + tallyAt (payCell c (27 - n)) () (payAmt (27 - n))

theorem debt_succ (c : Dev nD) (n : ℕ) : debt c (n + 1) = debt c n + tallyAt (payCell c (27 - n)) () (payAmt (27 - n)) := rfl

/-- A cell that is still owed something is the cell of one of the payments left. -/
theorem debt_pos (c : Dev nD) (n : ℕ) (g : GSem nD τ sig) (u : Unit) (h : 0 < debt c n g u) :
    ∃ p, 28 - n ≤ p ∧ p < 28 ∧ g = payCell c p := by
  induction n with
  | zero => exact absurd h (Nat.lt_irrefl 0)
  | succ n ih =>
    rw [debt_succ] at h
    by_cases hn : 0 < debt c n g u
    · obtain ⟨p, hp, hp', e⟩ := ih hn; exact ⟨p, by omega, hp', e⟩
    · refine ⟨27 - n, by omega, by omega, ?_⟩
      have h2 : 0 < (tallyAt (payCell c (27 - n)) () (payAmt (27 - n)) : CellTallies nD τ sig Unit) g u := by
        have h' : 0 < debt c n g u + (tallyAt (payCell c (27 - n)) () (payAmt (27 - n)) : CellTallies nD τ sig Unit) g u := h
        omega
      rw [tallyAt_apply] at h2
      by_contra hne
      rw [if_neg fun hh => hne hh.1] at h2
      exact Nat.lt_irrefl 0 h2

def L (g : GSem nD τ sig) : Finset Unit := if g.1.2 = .tc then {()} else ∅
/-- Barrier cells at 1, arrivals of slabs at 2, arrivals of the broadcast at 3, everything else at 0. -/
def lv (g : GSem nD τ sig) (_ : Unit) : ℕ := match g.2 with
  | .reg _ => 1
  | .dma m => if m.val < 22 then 0 else if m.val < 38 then 2 else if m.val < 46 then 0 else 3

theorem L_of_ne (g : GSem nD τ sig) (h : g.1.2 ≠ .tc) : L g = ∅ := if_neg h
theorem L_tc (c : Dev nD) (sm : SemLoc sig) : L ((c : Thread nD τ), sm) = {()} := if_pos rfl

theorem L_payCell (c : Dev nD) (p : ℕ) : L (payCell c p) = {()} := by
  unfold payCell; split_ifs <;> exact L_tc _ _

theorem lv_payCell_two (c : Dev nD) (p : ℕ) (hp : 7 ≤ p) (u : Unit) : 1 < lv (payCell c p) u := by
  unfold payCell
  rw [if_neg (by omega)]
  have h1 : ∀ d i, 1 < lv (dCell d (rS i)) u := fun d i => by
    show 1 < if 22 + i % 16 < 22 then 0 else if 22 + i % 16 < 38 then 2 else if 22 + i % 16 < 46 then 0 else 3
    rw [if_neg (by omega), if_pos (by omega)]; decide
  have h2 : ∀ d i, 1 < lv (dCell d (gS i)) u := fun d i => by
    show 1 < if 46 + i % 8 < 22 then 0 else if 46 + i % 8 < 38 then 2 else if 46 + i % 8 < 46 then 0 else 3
    rw [if_neg (by omega), if_neg (by omega), if_neg (by omega)]; decide
  split_ifs
  exacts [h1 _ _, h1 _ _, h2 _ _]

theorem lv_payCell_three (c : Dev nD) (p : ℕ) (hp : 21 ≤ p) (u : Unit) : 2 < lv (payCell c p) u := by
  unfold payCell
  rw [if_neg (by omega), if_neg (by omega), if_neg (by omega)]
  generalize p - 20 = i
  show 2 < if 46 + i % 8 < 22 then 0 else if 46 + i % 8 < 38 then 2 else if 46 + i % 8 < 46 then 0 else 3
  rw [if_neg (by omega), if_neg (by omega), if_neg (by omega)]; decide

/-- A wait at level `n` is safe while every payment left is to a cell above `n`. -/
theorem mayWait_of (c : Dev nD) (sm : SemLoc sig) (k n : ℕ) (hsm : lv ((c : Thread nD τ), sm) () = n)
    (hk : ∀ p, 28 - k ≤ p → p < 28 → n < lv (payCell c p) ()) :
    (levAts L lv : sProp 𝕄) ⊢ MayWait (c : Thread nD τ) sm () (debt c k) :=
  MayOwe.of_cut (L := L) (lev := lv) n (fun p hp => by rw [Finset.mem_singleton.mp hp, L_tc]; exact Finset.mem_singleton_self _)
    (fun g u hg => by obtain ⟨p, _, _, rfl⟩ := debt_pos c k g u hg; rw [L_payCell]; exact Finset.mem_singleton_self _)
    (fun p hp => by rw [Finset.mem_singleton.mp hp]; exact hsm.le)
    (fun g u hg => by obtain ⟨p, hp, hp', rfl⟩ := debt_pos c k g u hg; exact hk p hp hp')

/-- The barrier wait, with all the transfers still owed. -/
theorem mayWait_bar (c : Dev nD) : (levAts L lv : sProp 𝕄) ⊢ MayWait (c : Thread nD τ) (.reg barS) () (debt c 21) :=
  mayWait_of c _ 21 1 rfl fun p hp _ => lv_payCell_two c p (by omega) ()

/-- The wait for a slab, with the broadcasts still owed. -/
theorem mayWait_slab (c : Dev nD) (i : ℕ) : (levAts L lv : sProp 𝕄) ⊢ MayWait (c : Thread nD τ) (.dma (rS i)) () (debt c 7) :=
  mayWait_of c _ 7 2 (by
    show (if 22 + i % 16 < 22 then 0 else if 22 + i % 16 < 38 then 2 else if 22 + i % 16 < 46 then 0 else 3) = 2
    rw [if_neg (by omega), if_pos (by omega)]) fun p hp _ => lv_payCell_three c p (by omega) ()

/-- Any wait with nothing owed. -/
theorem mayWait_done (c : Dev nD) (sm : SemLoc sig) : (levAts L lv : sProp 𝕄) ⊢ MayWait (c : Thread nD τ) sm () (debt c 0) :=
  mayWait_of c sm 0 (lv ((c : Thread nD τ), sm) ()) rfl fun p hp hp' => by omega

end Cert.KernelIdealProof
-- ==== Proof.Local.lean ====
/-
  The kernel's local steps: one load or store each, over the contents named in Contents.lean.
-/
module

public import proofs.«01_k».proof.Proof.Protocol

@[expose] public section

noncomputable section

namespace Cert.KernelIdealProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

/-- The weakest precondition of a piece of device `c`'s kernel. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Reading and writing blocks of a buffer -/

/-- A rectangle's element, axis by axis. -/
theorem unit_emb_val {s : Shape} {off size : Fin s.rank → ℕ} {inb : ∀ a, off a + size a ≤ s.size a}
    (x : (Rect.unit (s := s) off size inb).shape.Idx) (a : Fin s.rank) :
    ((Rect.unit (s := s) off size inb).emb x a).val = off a + (x a).val := by
  rw [Rect.emb_apply, Rect.off_unit, Rect.stride_unit]
  simp

/-- A load reads what the buffer holds under the rectangle, whatever name that has. -/
theorem wp_load_named (c : Dev nD) {cs : CoreSpace} {s : Shape} {e : EltTy} {m : Memref sig .tc cs s e} {r : Rect s}
    {hl : m.view.LoadsAt r} {α : Type} {Q : α → sProp 𝕄}
    {k : (r.shape.Idx → Elt F e) → Prog (TpuEff nD τ sig (Elt F) Λ₀ .tc) α}
    {S : Finset (Idx ((m.access r).loc (c : Thread nD τ)))} {q : PosShare TreeShare}
    {f : Buf (Elt F) ((m.access r).loc (c : Thread nD τ))} {v : r.shape.Idx → Elt F e}
    (hS : (m.access r).set ⊆ S) (hv : (m.access r).read (Elt F) f = v) :
    ((m.access r).loc (c : Thread nD τ) ↦[S]{q} f : sProp 𝕄)
      ⊢ iprop((((m.access r).loc (c : Thread nD τ) ↦[S]{q} f) -∗ WP c (k v) Q) -∗ WP c (.op (.load m r hl) k) Q) := by
  subst hv
  exact wp_load_rect 𝒱₀ (c : Thread nD τ) none Set.univ hS

/-! ## The staged inputs -/

/-- A buffer of device `c` held whole. -/
abbrev whole (c : Dev nD) (b : Ref sig .tc) (f : b.ty.Contents (Elt F)) : sProp 𝕄 := (c : Thread nD τ).loc b ↦{fullShare} f

/-- The five staged inputs of device `c`. -/
def Inp (a : Ins F) (c : Dev nD) : sProp 𝕄 :=
  iprop(whole c cc0_stg0_0 a.x ∗ whole c cc0_stg1_0 a.wq ∗ whole c cc0_stg2_0 a.k ∗ whole c cc0_stg3_0 a.v
    ∗ whole c cc0_stg4_0 a.wo)

section Loads

variable (a : Ins F) (c : Dev nD)

/-- Loading all of `x`. -/
theorem step_x {inb : ∀ d, (![0, 0] : Fin 2 → ℕ) d + S1024x768.size d ≤ S1024x768.size d}
    {hl : (Memref.whole cc0_stg0_0).view.LoadsAt (Rect.unit (s := S1024x768) ![0, 0] S1024x768.size inb).toLoadRect}
    {α : Type} {Q : α → sProp 𝕄} {k : Vec F S1024x768 .bf16 → Prog (TpuEff nD τ sig (Elt F) Λ₀ .tc) α} :
    Inp a c ⊢ iprop((Inp a c -∗ WP c (k a.x) Q)
      -∗ WP c (.op (.load (Memref.whole cc0_stg0_0) (Rect.unit (s := S1024x768) ![0, 0] S1024x768.size inb).toLoadRect hl) k) Q) := by
  have hv : (((Memref.whole cc0_stg0_0).access (Rect.unit (s := S1024x768) ![0, 0] S1024x768.size inb)).read (Elt F) a.x
      : Vec F S1024x768 .bf16) = a.x := by
    funext x
    show a.x _ = a.x x
    congr 1
    funext d; apply Fin.ext
    refine (unit_emb_val _ _).trans ?_
    match d with | ⟨0, _⟩ => exact Nat.zero_add _ | ⟨1, _⟩ => exact Nat.zero_add _
  unfold Inp
  iintro ⟨Hx, Hq, Hk, Hv, Hw⟩ Hwp
  iapply (wp_load_named c (m := Memref.whole cc0_stg0_0) (S := Finset.univ) (f := a.x) (v := a.x) (Finset.subset_univ _) hv) $$ [Hx]
  · iexact Hx
  iintro Hx
  iapply Hwp
  isplitl [Hx]; · iexact Hx
  isplitl [Hq]; · iexact Hq
  isplitl [Hk]; · iexact Hk
  isplitl [Hv]; · iexact Hv
  iexact Hw

/-- Loading all of the query weights. -/
theorem step_wq {inb : ∀ d, (![0, 0] : Fin 2 → ℕ) d + S768x512.size d ≤ S768x512.size d}
    {hl : (Memref.whole cc0_stg1_0).view.LoadsAt (Rect.unit (s := S768x512) ![0, 0] S768x512.size inb).toLoadRect}
    {α : Type} {Q : α → sProp 𝕄} {k : Vec F S768x512 .bf16 → Prog (TpuEff nD τ sig (Elt F) Λ₀ .tc) α} :
    Inp a c ⊢ iprop((Inp a c -∗ WP c (k a.wq) Q)
      -∗ WP c (.op (.load (Memref.whole cc0_stg1_0) (Rect.unit (s := S768x512) ![0, 0] S768x512.size inb).toLoadRect hl) k) Q) := by
  have hv : (((Memref.whole cc0_stg1_0).access (Rect.unit (s := S768x512) ![0, 0] S768x512.size inb)).read (Elt F) a.wq
      : Vec F S768x512 .bf16) = a.wq := by
    funext x
    show a.wq _ = a.wq x
    congr 1
    funext d; apply Fin.ext
    refine (unit_emb_val _ _).trans ?_
    match d with | ⟨0, _⟩ => exact Nat.zero_add _ | ⟨1, _⟩ => exact Nat.zero_add _
  unfold Inp
  iintro ⟨Hx, Hq, Hk, Hv, Hw⟩ Hwp
  iapply (wp_load_named c (m := Memref.whole cc0_stg1_0) (S := Finset.univ) (f := a.wq) (v := a.wq) (Finset.subset_univ _) hv) $$ [Hq]
  · iexact Hq
  iintro Hq
  iapply Hwp
  isplitl [Hx]; · iexact Hx
  isplitl [Hq]; · iexact Hq
  isplitl [Hk]; · iexact Hk
  isplitl [Hv]; · iexact Hv
  iexact Hw

/-- One head's block read out of `K` or `V`. -/
theorem read_head (y : Vec F S2x512x8x64 .bf16) (b h : ℕ) (hb : b < 2) (hh : h < 8)
    {inb : ∀ d, (![b, 0, h, 0] : Fin 4 → ℕ) d + S1x512x1x64.size d ≤ S2x512x8x64.size d} :
    (fun i => y ((Rect.unit (s := S2x512x8x64) ![b, 0, h, 0] S1x512x1x64.size inb).emb i)) = headBlk y b h hb hh := by
  funext x
  unfold headBlk
  congr 1
  funext d; apply Fin.ext
  refine (unit_emb_val _ _).trans ?_
  have h0 : (x 0).val < 1 := (x 0).isLt
  have h2 : (x 2).val < 1 := (x 2).isLt
  match d with
  | ⟨0, _⟩ => show b + (x 0).val = b; omega
  | ⟨1, _⟩ => exact Nat.zero_add _
  | ⟨2, _⟩ => show h + (x 2).val = h; omega
  | ⟨3, _⟩ => exact Nat.zero_add _

/-- Loading head `h` of batch `b` of `K`; -/
theorem step_k (b h : ℕ) (hb : b < 2) (hh : h < 8)
    {inb : ∀ d, (![b, 0, h, 0] : Fin 4 → ℕ) d + S1x512x1x64.size d ≤ S2x512x8x64.size d}
    {hl : (Memref.whole cc0_stg2_0).view.LoadsAt (Rect.unit (s := S2x512x8x64) ![b, 0, h, 0] S1x512x1x64.size inb).toLoadRect}
    {α : Type} {Q : α → sProp 𝕄} {k : Vec F S1x512x1x64 .bf16 → Prog (TpuEff nD τ sig (Elt F) Λ₀ .tc) α} :
    Inp a c ⊢ iprop((Inp a c -∗ WP c (k (headBlk a.k b h hb hh)) Q)
      -∗ WP c (.op (.load (Memref.whole cc0_stg2_0) (Rect.unit (s := S2x512x8x64) ![b, 0, h, 0] S1x512x1x64.size inb).toLoadRect hl) k) Q) := by
  unfold Inp
  iintro ⟨Hx, Hq, Hk, Hv, Hw⟩ Hwp
  iapply (wp_load_named c (m := Memref.whole cc0_stg2_0) (S := Finset.univ) (f := a.k) (Finset.subset_univ _) (read_head a.k b h hb hh)) $$ [Hk]
  · iexact Hk
  iintro Hk
  iapply Hwp
  isplitl [Hx]; · iexact Hx
  isplitl [Hq]; · iexact Hq
  isplitl [Hk]; · iexact Hk
  isplitl [Hv]; · iexact Hv
  iexact Hw

/-- of `V`. -/
theorem step_v (b h : ℕ) (hb : b < 2) (hh : h < 8)
    {inb : ∀ d, (![b, 0, h, 0] : Fin 4 → ℕ) d + S1x512x1x64.size d ≤ S2x512x8x64.size d}
    {hl : (Memref.whole cc0_stg3_0).view.LoadsAt (Rect.unit (s := S2x512x8x64) ![b, 0, h, 0] S1x512x1x64.size inb).toLoadRect}
    {α : Type} {Q : α → sProp 𝕄} {k : Vec F S1x512x1x64 .bf16 → Prog (TpuEff nD τ sig (Elt F) Λ₀ .tc) α} :
    Inp a c ⊢ iprop((Inp a c -∗ WP c (k (headBlk a.v b h hb hh)) Q)
      -∗ WP c (.op (.load (Memref.whole cc0_stg3_0) (Rect.unit (s := S2x512x8x64) ![b, 0, h, 0] S1x512x1x64.size inb).toLoadRect hl) k) Q) := by
  unfold Inp
  iintro ⟨Hx, Hq, Hk, Hv, Hw⟩ Hwp
  iapply (wp_load_named c (m := Memref.whole cc0_stg3_0) (S := Finset.univ) (f := a.v) (Finset.subset_univ _) (read_head a.v b h hb hh)) $$ [Hv]
  · iexact Hv
  iintro Hv
  iapply Hwp
  isplitl [Hx]; · iexact Hx
  isplitl [Hq]; · iexact Hq
  isplitl [Hk]; · iexact Hk
  isplitl [Hv]; · iexact Hv
  iexact Hw

/-- Loading the rows of `Wo` that step `n` of the reduction multiplies by. -/
theorem step_wo (n : ℕ) (hn : n < 16) {off : Fin 2 → ℕ} (hoff : off = ![512 * ((c.val + 8 - n % 8) % 8) + 256 * (n / 8), 0])
    {inb : ∀ d, off d + S256x768.size d ≤ S4096x768.size d}
    {hl : (Memref.whole cc0_stg4_0).view.LoadsAt (Rect.unit (s := S4096x768) off S256x768.size inb).toLoadRect}
    {α : Type} {Q : α → sProp 𝕄} {k : Vec F S256x768 .bf16 → Prog (TpuEff nD τ sig (Elt F) Λ₀ .tc) α} :
    Inp a c ⊢ iprop((Inp a c -∗ WP c (k (woBlk a.wo c n hn)) Q)
      -∗ WP c (.op (.load (Memref.whole cc0_stg4_0) (Rect.unit (s := S4096x768) off S256x768.size inb).toLoadRect hl) k) Q) := by
  subst hoff
  have hv : (fun i => a.wo ((Rect.unit (s := S4096x768) _ S256x768.size inb).emb i)) = woBlk a.wo c n hn := by
    funext x
    unfold woBlk
    congr 1
    funext d; apply Fin.ext
    refine (unit_emb_val _ _).trans ?_
    match d with | ⟨0, _⟩ => rfl | ⟨1, _⟩ => exact Nat.zero_add _
  unfold Inp
  iintro ⟨Hx, Hq, Hk, Hv, Hw⟩ Hwp
  iapply (wp_load_named c (m := Memref.whole cc0_stg4_0) (S := Finset.univ) (f := a.wo) (Finset.subset_univ _) hv) $$ [Hw]
  · iexact Hw
  iintro Hw
  iapply Hwp
  isplitl [Hx]; · iexact Hx
  isplitl [Hq]; · iexact Hq
  isplitl [Hk]; · iexact Hk
  isplitl [Hv]; · iexact Hv
  iexact Hw

end Loads

/-! ## The attention context -/

/-- The context buffer once `n` of the sixteen (head, batch) blocks are in it, heads first. -/
def Ctx (a : Ins F) (c : Dev nD) (n : ℕ) : sProp 𝕄 :=
  iprop(∃ f : Vec F S1024x512 .bf16, ⌜∀ i, 2 * ((i 1).val / 64) + (i 0).val / 512 < n → f i = ctxAll a i⌝ ∗ whole c cc0_scratch0 f)

theorem head_congr (a : Ins F) {b b' h h' : ℕ} (eb : b = b') (eh : h = h') (hb : b < 2) (hh : h < 8) (hb' : b' < 2) (hh' : h' < 8) :
    head a b h hb hh = head a b' h' hb' hh' := by subst eb; subst eh; rfl

section CtxSteps

variable (a : Ins F) (c : Dev nD)

/-- A load of part of the context whose value is not used. -/
theorem step_ctx_dead (n : ℕ) {r : Rect S1024x512} {hl : (Memref.whole cc0_scratch0).view.LoadsAt r.toLoadRect}
    {α : Type} {Q : α → sProp 𝕄} {p : Prog (TpuEff nD τ sig (Elt F) Λ₀ .tc) α} :
    Ctx a c n ⊢ iprop((Ctx a c n -∗ WP c p Q)
      -∗ WP c (.op (.load (Memref.whole cc0_scratch0) r.toLoadRect hl) fun _ => p) Q) := by
  unfold Ctx
  iintro ⟨%f, %hf, Hc⟩ Hwp
  iapply (wp_load_named c (m := Memref.whole cc0_scratch0) (S := Finset.univ) (f := f) (Finset.subset_univ _) rfl) $$ [Hc]
  · iexact Hc
  iintro Hc
  iapply Hwp
  iexists f
  isplitr
  · ipureintro; exact hf
  · iexact Hc

/-- Storing the attention of batch `b` and head `h`, the next block. -/
theorem step_ctx (b h : ℕ) (hb : b < 2) (hh : h < 8)
    {inb : ∀ d, (![512 * b, 64 * h] : Fin 2 → ℕ) d + S512x64.size d ≤ S1024x512.size d} {v : Vec F S512x64 .bf16}
    (hv : v = head a b h hb hh)
    {hx : ((Memref.whole cc0_scratch0).access (Rect.unit (s := S1024x512) ![512 * b, 64 * h] S512x64.size inb)).Stores Finset.univ}
    {hm : (Finset.univ : Finset (Rect.unit (s := S1024x512) ![512 * b, 64 * h] S512x64.size inb).shape.Idx) = Finset.univ
      ∨ ∀ d, (Rect.unit (s := S1024x512) ![512 * b, 64 * h] S512x64.size inb).stride d = 1}
    {α : Type} {Q : α → sProp 𝕄} {k : PUnit → Prog (TpuEff nD τ sig (Elt F) Λ₀ .tc) α} :
    Ctx a c (2 * h + b) ⊢ iprop((Ctx a c (2 * h + b + 1) -∗ WP c (k ⟨⟩) Q)
      -∗ WP c (.op (.store (Memref.whole cc0_scratch0) (Rect.unit (s := S1024x512) ![512 * b, 64 * h] S512x64.size inb) v Finset.univ hx hm) k) Q) := by
  unfold Ctx
  iintro ⟨%f, %hf, Hc⟩ Hwp
  iapply (wp_store 𝒱₀ (c : Thread nD τ) none Set.univ (m := Memref.whole cc0_scratch0) (S := Finset.univ) (f := f) (Finset.subset_univ _)) $$ [Hc]
  · iexact Hc
  iintro Hc
  iapply Hwp
  iexists _
  isplitr
  rotate_left
  · iexact Hc
  ipureintro
  intro i hi
  have i0 := idx2_lt0 i
  have i1 := idx2_lt1 i
  by_cases hin : (i 0).val / 512 = b ∧ (i 1).val / 64 = h
  · have e : i = ((Memref.whole cc0_scratch0).access (Rect.unit (s := S1024x512) ![512 * b, 64 * h] S512x64.size inb)).emb
        (ix2 ⟨(i 0).val % 512, Nat.mod_lt _ (by decide)⟩ ⟨(i 1).val % 64, Nat.mod_lt _ (by decide)⟩) := by
      funext d; apply Fin.ext
      refine Eq.trans ?_ (unit_emb_val _ _).symm
      match d with
      | ⟨0, _⟩ => show (i 0).val = 512 * b + (i 0).val % 512; omega
      | ⟨1, _⟩ => show (i 1).val = 64 * h + (i 1).val % 64; omega
    conv_lhs => rw [e]
    refine (View.write_emb_of_mem _ _ (Finset.mem_univ _)).trans ?_
    rw [hv]
    unfold ctxAll
    rw [head_congr a hin.1.symm hin.2.symm hb hh (by omega) (by omega)]
    rfl
  · refine (View.write_of_not_mem _ _ _ ?_).trans (hf i ?_)
    · intro hmem
      obtain ⟨x, hx⟩ := View.exists_of_mem_set_slice hmem
      apply hin
      have e0 : (i 0).val = 512 * b + (x 0).val := by rw [← hx]; exact unit_emb_val _ _
      have e1 : (i 1).val = 64 * h + (x 1).val := by rw [← hx]; exact unit_emb_val _ _
      have x0 : (x 0).val < 512 := (x 0).isLt
      have x1 : (x 1).val < 64 := (x 1).isLt
      omega
    · omega

end CtxSteps

end Cert.KernelIdealProof
-- ==== Proof.Slabs.lean ====
/-
  The slots of the scratch buffers as rectangles, and the loads and stores of the slabs.
-/
module

public import proofs.«01_k».proof.Proof.Local

@[expose] public section

noncomputable section

namespace Cert.KernelIdealProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

/-! ## Slots as rectangles -/

theorem rect16_set (i : ℕ) {inb : ∀ d, (![i, 0, 0] : Fin 3 → ℕ) d + S1x128x256.size d ≤ S16x128x256.size d} :
    (Rect.unit (s := S16x128x256) ![i, 0, 0] S1x128x256.size inb).set = slot16 i := by
  ext x
  rw [Rect.mem_set_unit, mem_slot16]
  have h1 : (x 1).val < 128 := (x 1).isLt
  have h2 : (x 2).val < 256 := (x 2).isLt
  constructor
  · intro h
    have h0 : i ≤ (x 0).val ∧ (x 0).val < i + 1 := h 0
    omega
  · intro h d
    match d with
    | ⟨0, _⟩ => exact (⟨h.ge, by show (x 0).val < i + 1; omega⟩ : i ≤ (x 0).val ∧ (x 0).val < i + 1)
    | ⟨1, _⟩ => exact (⟨Nat.zero_le _, by omega⟩ : 0 ≤ (x 1).val ∧ (x 1).val < 0 + 128)
    | ⟨2, _⟩ => exact (⟨Nat.zero_le _, by omega⟩ : 0 ≤ (x 2).val ∧ (x 2).val < 0 + 256)

theorem rect8_set (i : ℕ) {inb : ∀ d, (![i, 0, 0] : Fin 3 → ℕ) d + S1x128x768.size d ≤ S8x128x768.size d} :
    (Rect.unit (s := S8x128x768) ![i, 0, 0] S1x128x768.size inb).set = slot8 i := by
  ext x
  rw [Rect.mem_set_unit, mem_slot8]
  have h1 : (x 1).val < 128 := (x 1).isLt
  have h2 : (x 2).val < 768 := (x 2).isLt
  constructor
  · intro h
    have h0 : i ≤ (x 0).val ∧ (x 0).val < i + 1 := h 0
    omega
  · intro h d
    match d with
    | ⟨0, _⟩ => exact (⟨h.ge, by show (x 0).val < i + 1; omega⟩ : i ≤ (x 0).val ∧ (x 0).val < i + 1)
    | ⟨1, _⟩ => exact (⟨Nat.zero_le _, by omega⟩ : 0 ≤ (x 1).val ∧ (x 1).val < 0 + 128)
    | ⟨2, _⟩ => exact (⟨Nat.zero_le _, by omega⟩ : 0 ≤ (x 2).val ∧ (x 2).val < 0 + 768)

theorem rect16_emb (i : ℕ) (hi : i < 16) {inb : ∀ d, (![i, 0, 0] : Fin 3 → ℕ) d + S1x128x256.size d ≤ S16x128x256.size d}
    (y : S1x128x256.Idx) : (Rect.unit (s := S16x128x256) ![i, 0, 0] S1x128x256.size inb).emb y = ix3 ⟨i, hi⟩ (y 1) (y 2) := by
  have h0 : (y 0).val < 1 := (y 0).isLt
  funext d; apply Fin.ext
  refine (unit_emb_val _ _).trans ?_
  match d with
  | ⟨0, _⟩ => show i + (y 0).val = i; omega
  | ⟨1, _⟩ => exact Nat.zero_add _
  | ⟨2, _⟩ => exact Nat.zero_add _

theorem rect8_emb (i : ℕ) (hi : i < 8) {inb : ∀ d, (![i, 0, 0] : Fin 3 → ℕ) d + S1x128x768.size d ≤ S8x128x768.size d}
    (y : S1x128x768.Idx) : (Rect.unit (s := S8x128x768) ![i, 0, 0] S1x128x768.size inb).emb y = ix3 ⟨i, hi⟩ (y 1) (y 2) := by
  have h0 : (y 0).val < 1 := (y 0).isLt
  funext d; apply Fin.ext
  refine (unit_emb_val _ _).trans ?_
  match d with
  | ⟨0, _⟩ => show i + (y 0).val = i; omega
  | ⟨1, _⟩ => exact Nat.zero_add _
  | ⟨2, _⟩ => exact Nat.zero_add _

/-- The elements under the view a transfer names slot `i` by are the slot's. -/
theorem slotS_set (i : ℕ) (hi : i < 16) : (slotM (Memref.whole cc0_scratch1) i hi).view.set = slot16 i :=
  (View.set_reshape _ _).trans ((View.set_slice_whole _ _).trans (rect16_set i))
theorem slotR_set (i : ℕ) (hi : i < 16) : (slotM (Memref.whole cc0_scratch2) i hi).view.set = slot16 i :=
  (View.set_reshape _ _).trans ((View.set_slice_whole _ _).trans (rect16_set i))
theorem slotG_set (i : ℕ) (hi : i < 8) : (slotG (Memref.whole cc0_scratch4) i hi).view.set = slot8 i :=
  (View.set_reshape _ _).trans ((View.set_slice_whole _ _).trans (rect8_set i))

/-- Storing a whole rectangle of a buffer held on the rectangle's elements leaves any contents that agree with what was
    stored. -/
theorem wp_store_named (c : Dev nD) {cs : CoreSpace} {s : Shape} {e : EltTy} {m : Memref sig .tc cs s e} {r : Rect s} {w : r.shape.Idx → Elt F e}
    {hx : (m.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α}
    {S : Finset (Idx ((m.access r).loc (c : Thread nD τ)))} {f g : Buf (Elt F) ((m.access r).loc (c : Thread nD τ))}
    (hS : (m.access r).set = S) (hg : ∀ y, (m.access r).write (Elt F) f w Finset.univ ((m.access r).emb y) = g ((m.access r).emb y)) :
    ((m.access r).loc (c : Thread nD τ) ↦[S]{fullShare} f : sProp 𝕄)
      ⊢ iprop((((m.access r).loc (c : Thread nD τ) ↦[S]{fullShare} g) -∗ WP c (k ⟨⟩) Q)
        -∗ WP c (.op (.store m r w Finset.univ hx hm) k) Q) := by
  have e : ((m.access r).loc (c : Thread nD τ) ↦[S]{fullShare} g : sProp 𝕄)
      = ((m.access r).loc (c : Thread nD τ) ↦[S]{fullShare} (m.access r).write (Elt F) f w Finset.univ) :=
    pointsTo_congr fun i hi => by
      subst hS
      obtain ⟨y, -, rfl⟩ := Finset.mem_map.mp hi
      exact (hg y).symm
  rw [e]
  exact wp_store 𝒱₀ (c : Thread nD τ) none Set.univ (by rw [View.setOn_univ, hS])

/-! ## The slabs before they are sent -/

/-- Slab `i` of device `c`, as it is read out of the context. -/
def slabV (A : Dev nD → Ins F) (c : Dev nD) (i : ℕ) (hi : i < 16) : Vec F S128x256 .bf16 := fun y => sSlab A c (ix3 ⟨i, hi⟩ (y 0) (y 1))

/-- A slab under its leading unit axis. -/
theorem cast_slab (v : Vec F S128x256 .bf16) (h : S128x256.ShapeCasts S1x128x256) (y : S1x128x256.Idx) :
    shapeCast S1x128x256 v h y = v (ix2 (y 1) (y 2)) := by
  unfold shapeCast
  congr 1
  refine Shape.reshapeEquiv_eq_of_rowMajor _ ?_
  have h0 : (y 0).val < 1 := (y 0).isLt
  rw [Shape.rowMajor_val_three, Shape.rowMajor_val_two]
  show (y 1).val * 256 + (y 2).val = ((y 0).val * 128 + (y 1).val) * 256 + (y 2).val
  omega

/-- A slab without it. -/
theorem cast_slab1 (v : Vec F S1x128x256 .bf16) (h : S1x128x256.ShapeCasts S128x256) (y : S128x256.Idx) :
    shapeCast S128x256 v h y = v (ix3 ⟨0, by decide⟩ (y 0) (y 1)) := by
  unfold shapeCast
  congr 1
  refine Shape.reshapeEquiv_eq_of_rowMajor _ ?_
  rw [Shape.rowMajor_val_three, Shape.rowMajor_val_two]
  show ((0 * 128 + (y 0).val) * 256 + (y 1).val) = (y 0).val * 256 + (y 1).val
  omega

section Steps

variable (A : Dev nD → Ins F) (c : Dev nD)

/-- Reading slab `i` out of the context, once the blocks it spans are in. -/
theorem step_slab (n i : ℕ) (hi : i < 16) (hn : 8 * (i / 8) + 8 ≤ n) {off : Fin 2 → ℕ}
    (hoff : off = ![128 * ((c.val + i % 8) % 8), 256 * (i / 8)])
    {inb : ∀ d, off d + S128x256.size d ≤ S1024x512.size d}
    {hl : (Memref.whole cc0_scratch0).view.LoadsAt (Rect.unit (s := S1024x512) off S128x256.size inb).toLoadRect}
    {α : Type} {Q : α → sProp 𝕄} {k : Vec F S128x256 .bf16 → Prog (TpuEff nD τ sig (Elt F) Λ₀ .tc) α} :
    Ctx (A c) c n ⊢ iprop((Ctx (A c) c n -∗ WP c (k (slabV A c i hi)) Q)
      -∗ WP c (.op (.load (Memref.whole cc0_scratch0) (Rect.unit (s := S1024x512) off S128x256.size inb).toLoadRect hl) k) Q) := by
  subst hoff
  unfold Ctx
  iintro ⟨%f, %hf, Hc⟩ Hwp
  have hv : (fun y => f ((Rect.unit (s := S1024x512) _ S128x256.size inb).emb y)) = slabV A c i hi := by
    funext y
    have y0 := idx2_lt0 y
    have y1 := idx2_lt1 y
    have e0 := unit_emb_val (inb := inb) y 0
    have e1 := unit_emb_val (inb := inb) y 1
    have e0' : ((Rect.unit (s := S1024x512) _ S128x256.size inb).emb y 0).val = 128 * ((c.val + i % 8) % 8) + (y 0).val := e0
    have e1' : ((Rect.unit (s := S1024x512) _ S128x256.size inb).emb y 1).val = 256 * (i / 8) + (y 1).val := e1
    refine (hf _ ?_).trans ?_
    · rw [e0', e1']; omega
    · unfold slabV sSlab
      congr 1
      funext d; apply Fin.ext
      match d with
      | ⟨0, _⟩ => exact e0'
      | ⟨1, _⟩ => exact e1'
  iapply (wp_load_named c (m := Memref.whole cc0_scratch0) (S := Finset.univ) (f := f) (Finset.subset_univ _) hv) $$ [Hc]
  · iexact Hc
  iintro Hc
  iapply Hwp
  iexists f
  isplitr
  · ipureintro; exact hf
  · iexact Hc

/-- A load of an outgoing slot whose value is not used; -/
theorem step_sb_dead (i : ℕ) {inb : ∀ d, (![i, 0, 0] : Fin 3 → ℕ) d + S1x128x256.size d ≤ S16x128x256.size d}
    {hl : (Memref.whole cc0_scratch1).view.LoadsAt (Rect.unit (s := S16x128x256) ![i, 0, 0] S1x128x256.size inb).toLoadRect}
    {α : Type} {Q : α → sProp 𝕄} {p : Prog (TpuEff nD τ sig (Elt F) Λ₀ .tc) α} :
    iprop(∃ f, sb c i f) ⊢ iprop(((∃ f, sb c i f) -∗ WP c p Q)
      -∗ WP c (.op (.load (Memref.whole cc0_scratch1) (Rect.unit (s := S16x128x256) ![i, 0, 0] S1x128x256.size inb).toLoadRect hl) fun _ => p) Q) := by
  unfold sb
  iintro ⟨%f, Hs⟩ Hwp
  iapply (wp_load_named c (m := Memref.whole cc0_scratch1) (r := Rect.unit (s := S16x128x256) ![i, 0, 0] S1x128x256.size inb) (S := slot16 i) (f := f)
    (by rw [← rect16_set i (inb := inb)]; exact (View.set_slice_whole _ _).le) rfl) $$ [Hs]
  · iexact Hs
  iintro Hs
  iapply Hwp
  iexists f
  iexact Hs

/-- of an incoming slot. -/
theorem step_rb_dead (i : ℕ) {inb : ∀ d, (![i, 0, 0] : Fin 3 → ℕ) d + S1x128x256.size d ≤ S16x128x256.size d}
    {hl : (Memref.whole cc0_scratch2).view.LoadsAt (Rect.unit (s := S16x128x256) ![i, 0, 0] S1x128x256.size inb).toLoadRect}
    {α : Type} {Q : α → sProp 𝕄} {p : Prog (TpuEff nD τ sig (Elt F) Λ₀ .tc) α} :
    iprop(∃ f, rb c i f) ⊢ iprop(((∃ f, rb c i f) -∗ WP c p Q)
      -∗ WP c (.op (.load (Memref.whole cc0_scratch2) (Rect.unit (s := S16x128x256) ![i, 0, 0] S1x128x256.size inb).toLoadRect hl) fun _ => p) Q) := by
  unfold rb
  iintro ⟨%f, Hs⟩ Hwp
  iapply (wp_load_named c (m := Memref.whole cc0_scratch2) (r := Rect.unit (s := S16x128x256) ![i, 0, 0] S1x128x256.size inb) (S := slot16 i) (f := f)
    (by rw [← rect16_set i (inb := inb)]; exact (View.set_slice_whole _ _).le) rfl) $$ [Hs]
  · iexact Hs
  iintro Hs
  iapply Hwp
  iexists f
  iexact Hs

/-- Storing slab `i` in its outgoing slot; -/
theorem step_sb (i : ℕ) (hi : i < 16) {inb : ∀ d, (![i, 0, 0] : Fin 3 → ℕ) d + S1x128x256.size d ≤ S16x128x256.size d}
    {v : Vec F S1x128x256 .bf16} {hc : S128x256.ShapeCasts S1x128x256} (hv : v = shapeCast S1x128x256 (slabV A c i hi) hc)
    {hx : ((Memref.whole cc0_scratch1).access (Rect.unit (s := S16x128x256) ![i, 0, 0] S1x128x256.size inb)).Stores Finset.univ}
    {hm : (Finset.univ : Finset (Rect.unit (s := S16x128x256) ![i, 0, 0] S1x128x256.size inb).shape.Idx) = Finset.univ
      ∨ ∀ d, (Rect.unit (s := S16x128x256) ![i, 0, 0] S1x128x256.size inb).stride d = 1}
    {α : Type} {Q : α → sProp 𝕄} {k : PUnit → Prog (TpuEff nD τ sig (Elt F) Λ₀ .tc) α} :
    iprop(∃ f, sb c i f) ⊢ iprop((sb c i (sSlab A c) -∗ WP c (k ⟨⟩) Q)
      -∗ WP c (.op (.store (Memref.whole cc0_scratch1) (Rect.unit (s := S16x128x256) ![i, 0, 0] S1x128x256.size inb) v Finset.univ hx hm) k) Q) := by
  unfold sb
  iintro ⟨%f, Hs⟩ Hwp
  iapply (wp_store_named c (m := Memref.whole cc0_scratch1) (r := Rect.unit (s := S16x128x256) ![i, 0, 0] S1x128x256.size inb) (S := slot16 i) (f := f) (g := sSlab A c)
    ((View.set_slice_whole _ _).trans (rect16_set i)) (fun y => by
      refine (View.write_emb_of_mem _ _ (Finset.mem_univ _)).trans ?_
      subst hv
      show shapeCast S1x128x256 (slabV A c i hi) hc y = _
      refine (cast_slab _ _ _).trans ?_
      show sSlab A c _ = sSlab A c ((Rect.unit (s := S16x128x256) ![i, 0, 0] S1x128x256.size inb).emb y)
      rw [rect16_emb i hi]
      rfl)) $$ [Hs]
  · iexact Hs
  iexact Hwp

/-- the slab a device keeps, in its incoming slot. -/
theorem step_rb (i : ℕ) (hi : i < 16) (h0 : i % 8 = 0) {inb : ∀ d, (![i, 0, 0] : Fin 3 → ℕ) d + S1x128x256.size d ≤ S16x128x256.size d}
    {v : Vec F S1x128x256 .bf16} {hc : S128x256.ShapeCasts S1x128x256} (hv : v = shapeCast S1x128x256 (slabV A c i hi) hc)
    {hx : ((Memref.whole cc0_scratch2).access (Rect.unit (s := S16x128x256) ![i, 0, 0] S1x128x256.size inb)).Stores Finset.univ}
    {hm : (Finset.univ : Finset (Rect.unit (s := S16x128x256) ![i, 0, 0] S1x128x256.size inb).shape.Idx) = Finset.univ
      ∨ ∀ d, (Rect.unit (s := S16x128x256) ![i, 0, 0] S1x128x256.size inb).stride d = 1}
    {α : Type} {Q : α → sProp 𝕄} {k : PUnit → Prog (TpuEff nD τ sig (Elt F) Λ₀ .tc) α} :
    iprop(∃ f, rb c i f) ⊢ iprop((rb c i (rSlab A c) -∗ WP c (k ⟨⟩) Q)
      -∗ WP c (.op (.store (Memref.whole cc0_scratch2) (Rect.unit (s := S16x128x256) ![i, 0, 0] S1x128x256.size inb) v Finset.univ hx hm) k) Q) := by
  unfold rb
  iintro ⟨%f, Hs⟩ Hwp
  iapply (wp_store_named c (m := Memref.whole cc0_scratch2) (r := Rect.unit (s := S16x128x256) ![i, 0, 0] S1x128x256.size inb) (S := slot16 i) (f := f) (g := rSlab A c)
    ((View.set_slice_whole _ _).trans (rect16_set i)) (fun y => by
      refine (View.write_emb_of_mem _ _ (Finset.mem_univ _)).trans ?_
      subst hv
      show shapeCast S1x128x256 (slabV A c i hi) hc y = _
      refine (cast_slab _ _ _).trans ?_
      show sSlab A c _ = rSlab A c ((Rect.unit (s := S16x128x256) ![i, 0, 0] S1x128x256.size inb).emb y)
      rw [rect16_emb i hi]
      unfold rSlab
      show _ = sSlab A (bwd c (i % 8)) _
      rw [h0, bwd_zero]
      rfl)) $$ [Hs]
  · iexact Hs
  iexact Hwp

/-- Loading an incoming slot that is filled. -/
theorem step_rb_load (i : ℕ) (hi : i < 16) {inb : ∀ d, (![i, 0, 0] : Fin 3 → ℕ) d + S1x128x256.size d ≤ S16x128x256.size d}
    {hl : (Memref.whole cc0_scratch2).view.LoadsAt (Rect.unit (s := S16x128x256) ![i, 0, 0] S1x128x256.size inb).toLoadRect}
    {α : Type} {Q : α → sProp 𝕄} {k : Vec F S1x128x256 .bf16 → Prog (TpuEff nD τ sig (Elt F) Λ₀ .tc) α} :
    rb c i (rSlab A c) ⊢ iprop((rb c i (rSlab A c) -∗ WP c (k (slab1 (rSlab A c) i hi)) Q)
      -∗ WP c (.op (.load (Memref.whole cc0_scratch2) (Rect.unit (s := S16x128x256) ![i, 0, 0] S1x128x256.size inb).toLoadRect hl) k) Q) := by
  unfold rb
  have hv : (fun y => rSlab A c ((Rect.unit (s := S16x128x256) ![i, 0, 0] S1x128x256.size inb).emb y)) = slab1 (rSlab A c) i hi := by
    funext y
    rw [rect16_emb i hi]
    rfl
  exact wp_load_named c (m := Memref.whole cc0_scratch2) (r := Rect.unit (s := S16x128x256) ![i, 0, 0] S1x128x256.size inb) (S := slot16 i) (f := rSlab A c)
    (by rw [← rect16_set i (inb := inb)]; exact (View.set_slice_whole _ _).le) hv

end Steps

end Cert.KernelIdealProof
-- ==== Proof.Sends.lean ====
/-
  The cells' records, the barrier, and the transfers of the slabs.
-/
module

public import proofs.«01_k».proof.Proof.Slabs

@[expose] public section

noncomputable section

namespace Cert.KernelIdealProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

/-! ## What every device may consult -/

/-- The barrier cells; the cells of the transfers. -/
def barEmb : Dev nD ↪ GSem nD τ sig := ⟨fun c => barCell c, fun _ _ h => congrArg (fun g : GSem nD τ sig => g.1.1) h⟩
def dmaSem (j : Fin 48) : DmaSem sig := (⟨6 + j.val, by omega⟩ : Fin 54)
def dmaEmb : Dev nD × Fin 48 ↪ GSem nD τ sig :=
  ⟨fun cj => dCell cj.1 (dmaSem cj.2), fun x y h => by
    have h1 : x.1 = y.1 := congrArg (fun g : GSem nD τ sig => g.1.1) h
    have h2 : dmaSem x.2 = dmaSem y.2 := SemLoc.dma.inj (congrArg Prod.snd h)
    have h3 : 6 + x.2.val = 6 + y.2.val := congrArg Fin.val h2
    exact Prod.ext h1 (Fin.ext (by omega))⟩
abbrev barCells : Finset (GSem nD τ sig) := Finset.univ.map barEmb
abbrev dmaCells : Finset (GSem nD τ sig) := Finset.univ.map dmaEmb

theorem mem_barCells (c : Dev nD) : barCell c ∈ barCells := Finset.mem_map_of_mem barEmb (Finset.mem_univ c)
theorem mem_dmaCells (c : Dev nD) (m : DmaSem sig) (h : 6 ≤ m.val) : dCell c m ∈ dmaCells := by
  have hm : m.val < 54 := m.isLt
  have e : dmaEmb (c, (⟨m.val - 6, by omega⟩ : Fin 48)) = dCell c m := by
    show dCell c (dmaSem ⟨m.val - 6, _⟩) = dCell c m
    congr 2
    exact Fin.ext (by show 6 + (m.val - 6) = m.val; omega)
  exact e ▸ Finset.mem_map_of_mem dmaEmb (Finset.mem_univ _)

/-- Every cell's invariant, and that every barrier cell has been opened; with the order of the waits. -/
def Recs (A : Dev nD → Ins F) (K : GSem nD τ sig → ℕ) : sProp 𝕄 :=
  iprop((bigSep (barCells ∪ dmaCells) fun g => cellInv ER (Rd A) (K g) g) ∗ (bigSep barCells fun g => reached ER g 0) ∗ levAts L lv)

instance Recs_persistent (A : Dev nD → Ins F) (K : GSem nD τ sig → ℕ) : BI.Persistent (Recs A K) := by unfold Recs; infer_instance

section Recs

variable (A : Dev nD → Ins F) (K : GSem nD τ sig → ℕ)

theorem recs_bar (c : Dev nD) : Recs A K ⊢ cellInv ER (Rd A) (K (barCell c)) (barCell c) := by
  unfold Recs
  have h : (bigSep (barCells ∪ dmaCells) fun g => (cellInv ER (Rd A) (K g) g : sProp 𝕄)) ⊢ cellInv ER (Rd A) (K (barCell c)) (barCell c) :=
    bigSep_elim (Finset.mem_union_left _ (mem_barCells c))
  iintro ⟨H, -, -⟩
  iapply h $$ H
theorem recs_dma (c : Dev nD) (m : DmaSem sig) (h : 6 ≤ m.val) : Recs A K ⊢ cellInv ER (Rd A) (K (dCell c m)) (dCell c m) := by
  unfold Recs
  have h : (bigSep (barCells ∪ dmaCells) fun g => (cellInv ER (Rd A) (K g) g : sProp 𝕄)) ⊢ cellInv ER (Rd A) (K (dCell c m)) (dCell c m) :=
    bigSep_elim (Finset.mem_union_right _ (mem_dmaCells c m h))
  iintro ⟨H, -, -⟩
  iapply h $$ H
theorem recs_reached (c : Dev nD) : Recs A K ⊢ reached ER (barCell c) 0 := by
  unfold Recs
  have h : (bigSep barCells fun g => (reached ER g 0 : sProp 𝕄)) ⊢ reached ER (barCell c) 0 := bigSep_elim (mem_barCells c)
  iintro ⟨-, H, -⟩
  iapply h $$ H
theorem recs_lev : Recs A K ⊢ (levAts L lv : sProp 𝕄) := by
  unfold Recs
  iintro ⟨-, -, H⟩
  iexact H

end Recs

/-- What device `c` owes when `n` payments are left, whatever it has waited for. -/
def Owe (c : Dev nD) (n : ℕ) : sProp 𝕄 := iprop(∃ W, owes (c : Thread nD τ) (debt c n) W)

/-! ## The barrier -/

/-- What device `c` needs to signal the device `s` places after it. -/
def SigRes (c : Dev nD) (s : ℕ) : sProp 𝕄 :=
  iprop(dutyTok ER (barCell (fwd c s)) 0 (⟨(8 - s) % 8, by omega⟩ : Fin 8) ∗ landing c (8 - s))

section Steps

variable (A : Dev nD → Ins F) (K : GSem nD τ sig → ℕ) (c : Dev nD)

/-- The signal to the device `s` places on. -/
theorem step_signal (s : ℕ) (h1 : 1 ≤ s) (h8 : s < 8) {n : Dev nD} (hn : n = fwd c s) {w : Int} (hw : w = ((1 : ℕ) : Int))
    {α : Type} {Q : α → sProp 𝕄} {k : PUnit → Prog (TpuEff nD τ sig (Elt F) Λ₀ .tc) α} :
    iprop(Recs A K ∗ SigRes c s ∗ Owe c (29 - s)) ⊢ iprop((Owe c (28 - s) -∗ WP c (k ⟨⟩) Q)
      -∗ WP c (.op (.semSignal (n, Proc.tc) barS w) k) Q) := by
  subst hn hw
  unfold SigRes Owe
  iintro ⟨#HR, ⟨Ht, Hl⟩, ⟨%W, HO⟩⟩ Hwp
  have hm : (⟨(8 - s) % 8, by omega⟩ : Fin 8) ∈ (Rd A).duties (barCell (fwd c s)) 0 := by
    rw [duties_bar]
    exact Finset.mem_erase.mpr ⟨fun h => by have := congrArg Fin.val h; simp at this; omega, Finset.mem_univ _⟩
  have hO : debt c (29 - s) = debt c (28 - s) + tallyAt (((fwd c s : Dev nD) : Thread nD τ), SemLoc.reg barS) () 1 := by
    rw [show 29 - s = (28 - s) + 1 by omega, debt_succ, show 27 - (28 - s) = s - 1 by omega]
    unfold payCell payAmt
    rw [if_pos (by omega), if_pos (by omega), show s - 1 + 1 = s by omega]
  have hp : landing (F := F) c (8 - s) ⊢ (Rd A).payload (barCell (fwd c s)) 0 (⟨(8 - s) % 8, by omega⟩ : Fin 8) := by
    show _ ⊢ landing (fwd (fwd c s) ((8 - s) % 8)) ((8 - s) % 8)
    rw [Nat.mod_eq_of_lt (by omega), fwd_fwd c s (by omega)]
  iapply (Rounds.wp_signal 𝒱₀ ER (Rd A) (c : Thread nD τ) none (dst := ((fwd c s : Dev nD) : Thread nD τ)) (κ := K (barCell (fwd c s)))
      hm rfl () (debt c (28 - s)) hO) $$ [HO Ht Hl]
  · isplitr; · iapply (recs_bar A K (fwd c s)); iexact HR
    isplitl [HO]; · iexact HO
    isplitl [Ht]; · iexact Ht
    isplitl [Hl]; · iapply hp; iexact Hl
    iapply (recs_reached A K (fwd c s)); iexact HR
  iintro HO
  iapply Hwp
  iexists W
  iexact HO

/-- The wait for the seven signals: it brings what the seven others hand over. -/
theorem step_barrier {w : Int} (hw : w = ((7 : ℕ) : Int))
    {α : Type} {Q : α → sProp 𝕄} {k : PUnit → Prog (TpuEff nD τ sig (Elt F) Λ₀ .tc) α} :
    iprop(Recs A K ∗ cred (tallyAt (barCell c) () 7) ∗ atPos ER (barCell c) 0 ∅ 0 ∗ Owe c 21)
      ⊢ iprop(((atPos ER (barCell c) 1 ∅ 0 ∗ (bigSep (Finset.univ.erase (0 : Fin 8)) fun d => landing (fwd c d.val) d.val) ∗ Owe c 21) -∗ WP c (k ⟨⟩) Q)
      -∗ WP c (.op (.semWait barS w) k) Q) := by
  subst hw
  unfold Owe
  iintro ⟨#HR, Hc, Ha, ⟨%W, HO⟩⟩ Hwp
  iapply (Rounds.wp_wait_rest_token 𝒱₀ ER (Rd A) (c : Thread nD τ) none (κ := K (barCell c))
      (wpE_semWait_eq 𝒱₀ (c : Thread nD τ) none Set.univ) (Set.mem_univ _) () (O := debt c 21) (W := W) (R := 0) (m := 0) (T := ∅)
      (by rw [expect_bar])) $$ [Hc HO Ha]
  · isplitr; · iapply (recs_bar A K c); iexact HR
    isplitl [Hc]; · iexact Hc
    isplitl [HO]; · iexact HO
    isplitr; · iapply (mayWait_bar c); iapply (recs_lev A K); iexact HR
    iexact Ha
  iintro ⟨HO, Ha, -, Hp⟩
  ihave Hp := (Entails.of_eq (rest_bar A c)) $$ Hp
  iapply Hwp
  isplitl [Ha]; · iexact Ha
  isplitl [Hp]; · iexact Hp
  iexists _
  iexact HO

/-! ## The slabs' transfers -/

/-- What device `c` needs to send slab `i`, beside the slab: the slot it lands in, and what is recorded at the two cells. -/
def SendRes (c : Dev nD) (i : ℕ) : sProp 𝕄 :=
  iprop((∃ f, rb (fwd c (i % 8)) i f) ∗ dutyTok ER (dCell c (sS i)) 0 (0 : Fin 8) ∗ reached ER (dCell c (sS i)) 0
    ∗ dutyTok ER (dCell (fwd c (i % 8)) (rS i)) 0 (0 : Fin 8) ∗ reached ER (dCell (fwd c (i % 8)) (rS i)) 0)

/-- The credit for a transfer's units on a cell of device `c`, at round 0. -/
def Due (c : Dev nD) (m : DmaSem sig) (n : ℕ) : sProp 𝕄 := iprop(cred (tallyAt (dCell c m) () n) ∗ atPos ER (dCell c m) 0 ∅ 0)

/-- Sending slab `i` pays one of the debts. -/
theorem debt_send (c : Dev nD) (i : ℕ) (hi : i < 16) (h0 : i % 8 ≠ 0) :
    debt c (22 - (7 * (i / 8) + i % 8)) = debt c (21 - (7 * (i / 8) + i % 8)) + tallyAt (dCell (fwd c (i % 8)) (rS i)) () Ns := by
  rw [show 22 - (7 * (i / 8) + i % 8) = (21 - (7 * (i / 8) + i % 8)) + 1 by omega, debt_succ]
  congr 1
  have hp : payCell c (27 - (21 - (7 * (i / 8) + i % 8))) = dCell (fwd c (i % 8)) (rS i) := by
    unfold payCell
    rw [if_neg (by omega)]
    by_cases h : i < 8
    · rw [if_pos (by omega), show 27 - (21 - (7 * (i / 8) + i % 8)) - 6 = i by omega, show i % 8 = i by omega]
    · rw [if_neg (by omega), if_pos (by omega), show 27 - (21 - (7 * (i / 8) + i % 8)) - 13 = i % 8 by omega, show 8 + i % 8 = i by omega]
  have ha : payAmt (27 - (21 - (7 * (i / 8) + i % 8))) = Ns := by
    unfold payAmt; rw [if_neg (by omega), if_pos (by omega)]
  rw [hp, ha]

/-- A slot held is the elements a transfer names held. -/
theorem sb_view (c : Dev nD) (i : ℕ) (hi : i < 16) (f : Vec F S16x128x256 .bf16) :
    (sb c i f : sProp 𝕄) = ((slotM (Memref.whole cc0_scratch1) i hi).view.loc (c : Thread nD τ) ↦[(slotM (Memref.whole cc0_scratch1) i hi).view.set]{fullShare} f) := by
  unfold sb; rw [slotS_set i hi]
theorem rb_view (c : Dev nD) (i : ℕ) (hi : i < 16) (f : Vec F S16x128x256 .bf16) :
    (rb c i f : sProp 𝕄) = ((slotM (Memref.whole cc0_scratch2) i hi).view.loc (c : Thread nD τ) ↦[(slotM (Memref.whole cc0_scratch2) i hi).view.set]{fullShare} f) := by
  unfold rb; rw [slotR_set i hi]

theorem amt_slab (A : Dev nD → Ins F) (c : Dev nD) (m : DmaSem sig) (h : m.val < 38) : (Rd A).amount (dCell c m) 0 (0 : Fin 8) = Ns := if_pos h

/-- The slab that was sent, back on the sender's cell; -/
theorem pay_sent (A : Dev nD → Ins F) (c : Dev nD) (i : ℕ) (hi : i < 16) :
    (sb c i (sSlab A c) : sProp 𝕄) ⊢ (Rd A).payload (dCell c (sS i)) 0 0 := by
  have hS : (sS i).val = 6 + i := by show 6 + i % 16 = 6 + i; omega
  show _ ⊢ dmaPay A c (sS i).val
  unfold dmaPay
  rw [if_pos (by omega), hS, show 6 + i - 6 = i by omega]

/-- what landed is the receiver's incoming slab. -/
theorem pay_landed (A : Dev nD → Ins F) (c : Dev nD) (i : ℕ) (hi : i < 16) (h0 : i % 8 ≠ 0) (fd : Vec F S16x128x256 .bf16) :
    (rb (fwd c (i % 8)) i ((slotM (Memref.whole cc0_scratch2) i hi).view.write (Elt F) fd ((slotM (Memref.whole cc0_scratch1) i hi).view.read (Elt F) (sSlab A c)) Finset.univ) : sProp 𝕄)
      ⊢ (Rd A).payload (dCell (fwd c (i % 8)) (rS i)) 0 0 := by
  have hR : (rS i).val = 22 + i := by show 22 + i % 16 = 22 + i; omega
  show _ ⊢ dmaPay A (fwd c (i % 8)) (rS i).val
  unfold dmaPay
  rw [if_neg (by omega), if_pos (by omega), hR, show 22 + i - 22 = i by omega]
  unfold rb
  refine Entails.of_eq (pointsTo_congr fun x hx => ?_)
  have hx0' := hx
  rw [← slotR_set i hi] at hx
  obtain ⟨y, -, rfl⟩ := Finset.mem_map.mp hx
  refine (View.write_emb_of_mem _ _ (Finset.mem_univ _)).trans ?_
  have hx0 : ((slotM (Memref.whole cc0_scratch2) i hi).view.emb y 0).val = i := mem_slot16.mp hx0'
  unfold rSlab
  rw [hx0, bwd_fwd c (i % 8) (by omega)]
  rfl

/-- The transfer of slab `i`. -/
theorem step_send (i : ℕ) (hi : i < 16) (h0 : i % 8 ≠ 0) {n : Dev nD} (hn : n = fwd c (i % 8)) {s1 s2 : DmaSem sig} (e1 : s1 = sS i) (e2 : s2 = rS i)
    {hsc : ((slotM (Memref.whole cc0_scratch2) i hi : Memref sig (Dev.tc n : Thread nD τ).2.kind .vmem S128x256 .bf16)).view.ref.isScScratch = false}
    {hsrc : (slotM (Memref.whole cc0_scratch1) i hi).view.WordExact}
    {hdst : (slotM (Memref.whole cc0_scratch2) i hi : Memref sig (Dev.tc n : Thread nD τ).2.kind .vmem S128x256 .bf16).view.WordExact}
    {hsem : DmaTarget.Typed .vmem (.dma s2) (.remote (Dev.tc n : Thread nD τ) (slotM (Memref.whole cc0_scratch2) i hi : Memref sig (Dev.tc n : Thread nD τ).2.kind .vmem S128x256 .bf16) (.dma s1) hsc)}
    {α : Type} {Q : α → sProp 𝕄} {k : PUnit → Prog (TpuEff nD τ sig (Elt F) Λ₀ .tc) α} :
    iprop(Recs A K ∗ SendRes c i ∗ sb c i (sSlab A c) ∗ atPos ER (dCell c (sS i)) 0 ∅ 0 ∗ Owe c (22 - (7 * (i / 8) + i % 8)))
      ⊢ iprop(((Due c (sS i) Ns ∗ Owe c (21 - (7 * (i / 8) + i % 8))) -∗ WP c (k ⟨⟩) Q)
      -∗ WP c (.op (.enqueueDma (slotM (Memref.whole cc0_scratch1) i hi) (.remote (Dev.tc n : Thread nD τ) (slotM (Memref.whole cc0_scratch2) i hi) (.dma s1) hsc)
        (.dma s2) hsrc hdst hsem) k) Q) := by
  subst hn e1 e2
  unfold SendRes Owe Due
  iintro ⟨#HR, ⟨⟨%fd, Hd⟩, Ht1, Hr1, Ht2, Hr2⟩, Hs, Ha, ⟨%W, HO⟩⟩ Hwp
  have hS : (sS i).val = 6 + i := by show 6 + i % 16 = 6 + i; omega
  have hR : (rS i).val = 22 + i := by show 22 + i % 16 = 22 + i; omega
  have d1 := duties_dma A c (sS i) (by omega) (by omega)
  have d2 := duties_dma A (fwd c (i % 8)) (rS i) (by omega) (by omega)
  have hO := debt_send c i hi h0
  have es := sb_view c i hi (sSlab A c)
  have er := rb_view (F := F) (fwd c (i % 8)) i hi
  have key := Rounds.wp_send_pointsTo 𝒱₀ ER (Rd A) (c : Thread nD τ) none (defs := defs₀ (F := F)) (Γ := .empty) (Es := Set.univ) (Q := Q) (k := k)
    (src := slotM (Memref.whole cc0_scratch1) i hi) (dst := slotM (Memref.whole cc0_scratch2) i hi) (sS := .dma (sS i)) (sem := .dma (rS i))
    (hsc := hsc) (hsrc := hsrc) (hdst := hdst) (hsem := hsem) (c' := ((fwd c (i % 8) : Dev nD) : Thread nD τ))
    (κ₁ := K (dCell c (sS i))) (κ₂ := K (dCell (fwd c (i % 8)) (rS i)))
    (r₁ := 0) (r₂ := 0) (d₁ := (0 : Fin 8)) (d₂ := (0 : Fin 8)) (fs := sSlab A c) (fd := fd) (q := fullShare)
    (by rw [d1]; exact Finset.mem_singleton_self _) (by rw [d2]; exact Finset.mem_singleton_self _)
    () () Ns rfl (amt_slab A c (sS i) (by omega)) (amt_slab A _ (rS i) (by omega))
    (debt c (21 - (7 * (i / 8) + i % 8))) hO (W := W)
    (es ▸ pay_sent A c i hi) ((er _).symm ▸ pay_landed A c i hi h0 fd)
  ihave Hs := (Entails.of_eq es) $$ Hs
  ihave Hd := (Entails.of_eq (er fd)) $$ Hd
  iapply key $$ [Hd Ht1 Hr1 Ht2 Hr2 Hs HO]
  · isplitr; · iapply (recs_dma A K c (sS i) (by omega)); iexact HR
    isplitr; · iapply (recs_dma A K (fwd c (i % 8)) (rS i) (by omega)); iexact HR
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply Hwp
  isplitl [Hc Ha]
  · isplitl [Hc]; · iexact Hc
    iexact Ha
  iexists W
  iexact HO

/-- A wait on a cell of the transfers, with `n` payments left. -/
theorem step_wait (m : DmaSem sig) (n : ℕ) (h6 : 6 ≤ m.val) (h8 : (m.val - 6) % 8 ≠ 0) {N : ℕ} (hN : N = if m.val < 38 then Ns else Nb)
    (hlv : (levAts L lv : sProp 𝕄) ⊢ MayWait (c : Thread nD τ) (.dma m) () (debt c n))
    {w : TpuEff nD τ sig (Elt F) Λ₀ .tc PUnit} (hw : ∀ R : PUnit → sProp 𝕄, wpE (defs₀ (F := F)) 𝒱₀ (c : Thread nD τ) none Set.univ w R = waitSpec (c : Thread nD τ) Set.univ (.dma m) N R)
    {α : Type} {Q : α → sProp 𝕄} {k : PUnit → Prog (TpuEff nD τ sig (Elt F) Λ₀ .tc) α} :
    iprop(Recs A K ∗ Due c m N ∗ Owe c n)
      ⊢ iprop(((dmaPay A c m.val ∗ atPos ER (dCell c m) 1 ∅ 0 ∗ Owe c n) -∗ WP c (k ⟨⟩) Q) -∗ WP c (.op w k) Q) := by
  unfold Owe Due
  iintro ⟨#HR, ⟨Hc, Ha⟩, ⟨%W, HO⟩⟩ Hwp
  iapply (Rounds.wp_wait_rest_token 𝒱₀ ER (Rd A) (c : Thread nD τ) none (κ := K (dCell c m)) hw (Set.mem_univ _) () (O := debt c n) (W := W) (R := 0) (m := 0) (T := ∅)
      (by rw [expect_dma A c m h6 h8, hN, Nat.zero_add])) $$ [Hc HO Ha]
  · isplitr; · iapply (recs_dma A K c m h6); iexact HR
    isplitl [Hc]; · iexact Hc
    isplitl [HO]; · iexact HO
    isplitr; · iapply hlv; iapply (recs_lev A K); iexact HR
    iexact Ha
  iintro ⟨HO, Ha, -, Hp⟩
  ihave Hp := (Entails.of_eq (rest_dma A c m h6 h8)) $$ Hp
  iapply Hwp
  isplitl [Hp]; · iexact Hp
  isplitl [Ha]; · iexact Ha
  iexists _
  iexact HO

end Steps

end Cert.KernelIdealProof
-- ==== Proof.Bcast.lean ====
/-
  The steps of the broadcast: lending a share of the rows, taking what lands, and filling the result.
-/
module

public import proofs.«01_k».proof.Proof.Sends

@[expose] public section

noncomputable section

namespace Cert.KernelIdealProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

/-- An index of two axes is its two components. -/
theorem idx2_eta {m n : ℕ} (y : (⟨2, ![m, n]⟩ : Shape).Idx) : ix2 (y 0) (y 1) = y := by
  funext d
  match d with
  | ⟨0, _⟩ => rfl
  | ⟨1, _⟩ => rfl

/-- A chunk of rows without its leading unit axis. -/
theorem cast_rows (v : Vec F S1x128x768 .bf16) (h : S1x128x768.ShapeCasts S128x768) (y : S128x768.Idx) :
    shapeCast S128x768 v h y = v (ix3 ⟨0, by decide⟩ (y 0) (y 1)) := by
  unfold shapeCast
  congr 1
  refine Shape.reshapeEquiv_eq_of_rowMajor _ ?_
  rw [Shape.rowMajor_val_three, Shape.rowMajor_val_two]
  show ((0 * 128 + (y 0).val) * 768 + (y 1).val) = (y 0).val * 768 + (y 1).val
  omega

/-- Widening, element by element. -/
theorem extf_at {s : Shape} (v : FVec F s .bf16) (hb : FTy.bf16.bits < FTy.f32.bits) (y : s.Idx) :
    extf .f32 v hb y = FloatOps.extf (F := F) (φ := .bf16) .f32 hb (v y) := rfl

/-- Where the elements of a landing slot, named without the slot's axis, lie. -/
theorem squeeze_emb (s : ℕ) (hs : s < 8) (y : S128x768.Idx) :
    (slotG (Memref.whole cc0_scratch4) s hs).view.emb y = ix3 ⟨s, hs⟩ (y 0) (y 1) := by
  have e : ∀ h, (Shape.reshapeEquiv h y : S1x128x768.Idx) = ix3 ⟨0, by decide⟩ (y 0) (y 1) := fun h => by
    refine Shape.reshapeEquiv_eq_of_rowMajor _ ((Shape.rowMajor_val_three _).trans (Eq.trans ?_ (Shape.rowMajor_val_two _).symm))
    show ((0 * 128 + (y 0).val) * 768 + (y 1).val) = (y 0).val * 768 + (y 1).val
    omega
  refine (congrArg (Rect.unit (s := S8x128x768) ![s, 0, 0] S1x128x768.size (inb8 s hs)).emb (e _)).trans ?_
  exact rect8_emb s hs _

section Steps

variable (A : Dev nD → Ins F) (K : GSem nD τ sig → ℕ) (c : Dev nD)

/-! ## The broadcast -/

/-- What the broadcast of device `c`'s rows `s` places on needs beside the rows. -/
def BRes (c : Dev nD) (s : ℕ) : sProp 𝕄 :=
  iprop((∃ f, gb (fwd c s) s f) ∗ dutyTok ER (dCell c (bS s)) 0 (0 : Fin 8) ∗ reached ER (dCell c (bS s)) 0
    ∗ dutyTok ER (dCell (fwd c s) (gS s)) 0 (0 : Fin 8) ∗ reached ER (dCell (fwd c s) (gS s)) 0)

/-- Sending the rows `s` places on pays one of the debts. -/
theorem debt_bsend (c : Dev nD) (s : ℕ) (h1 : 1 ≤ s) (h8 : s < 8) :
    debt c (8 - s) = debt c (7 - s) + tallyAt (dCell (fwd c s) (gS s)) () Nb := by
  rw [show 8 - s = (7 - s) + 1 by omega, debt_succ]
  congr 1
  have hp : payCell c (27 - (7 - s)) = dCell (fwd c s) (gS s) := by
    unfold payCell
    rw [if_neg (by omega), if_neg (by omega), if_neg (by omega), show 27 - (7 - s) - 20 = s by omega]
  have ha : payAmt (27 - (7 - s)) = Nb := by
    unfold payAmt; rw [if_neg (by omega), if_neg (by omega)]
  rw [hp, ha]

theorem bb_view (c : Dev nD) (q : PosShare TreeShare) (f : Vec F S128x768 .bf16) :
    (bbq c q f : sProp 𝕄) = ((Memref.whole cc0_scratch3).view.loc (c : Thread nD τ) ↦[(Memref.whole cc0_scratch3).view.set]{q} f) := by
  unfold bbq; rw [show (Memref.whole cc0_scratch3).view.set = Finset.univ from View.set_whole _]
theorem gb_view (c : Dev nD) (s : ℕ) (hs : s < 8) (f : Vec F S8x128x768 .bf16) :
    (gb c s f : sProp 𝕄) = ((slotG (Memref.whole cc0_scratch4) s hs).view.loc (c : Thread nD τ) ↦[(slotG (Memref.whole cc0_scratch4) s hs).view.set]{fullShare} f) := by
  unfold gb; rw [slotG_set s hs]

theorem amt_rows (A : Dev nD → Ins F) (c : Dev nD) (m : DmaSem sig) (h : ¬ m.val < 38) : (Rd A).amount (dCell c m) 0 (0 : Fin 8) = Nb := if_neg h

/-- The share of the rows that was lent, back on the sender's cell; -/
theorem pay_lent (A : Dev nD → Ins F) (c : Dev nD) (s : ℕ) (hs : s < 8) :
    (bbq c (bq s) (redBf A c) : sProp 𝕄) ⊢ (Rd A).payload (dCell c (bS s)) 0 0 := by
  have hS : (bS s).val = 38 + s := by show 38 + s % 8 = 38 + s; omega
  show _ ⊢ dmaPay A c (bS s).val
  unfold dmaPay
  rw [if_neg (by omega), if_neg (by omega), if_pos (by omega), hS, show 38 + s - 38 = s by omega]

/-- what landed are the rows of the device `s` places before the receiver. -/
theorem pay_rows (A : Dev nD → Ins F) (c : Dev nD) (s : ℕ) (hs : s < 8) (fd : Vec F S8x128x768 .bf16) :
    (gb (fwd c s) s ((slotG (Memref.whole cc0_scratch4) s hs).view.write (Elt F) fd ((Memref.whole cc0_scratch3).view.read (Elt F) (redBf A c)) Finset.univ) : sProp 𝕄)
      ⊢ (Rd A).payload (dCell (fwd c s) (gS s)) 0 0 := by
  have hR : (gS s).val = 46 + s := by show 46 + s % 8 = 46 + s; omega
  show _ ⊢ dmaPay A (fwd c s) (gS s).val
  unfold dmaPay
  rw [if_neg (by omega), if_neg (by omega), if_neg (by omega), hR, show 46 + s - 46 = s by omega]
  unfold gb
  refine Entails.of_eq (pointsTo_congr fun x hx => ?_)
  have hx0' := hx
  rw [← slotG_set s hs] at hx
  obtain ⟨y, -, rfl⟩ := Finset.mem_map.mp hx
  refine (View.write_emb_of_mem _ _ (Finset.mem_univ _)).trans ?_
  have hx0 : ((slotG (Memref.whole cc0_scratch4) s hs).view.emb y 0).val = s := mem_slot8.mp hx0'
  unfold gSlab
  rw [hx0, bwd_fwd c s (by omega)]
  show redBf A c y = _
  congr 1
  have hy := squeeze_emb s hs y
  rw [hy]
  exact (idx2_eta y).symm

/-- The broadcast of the rows `s` places on. -/
theorem step_bsend (s : ℕ) (h1 : 1 ≤ s) (hs : s < 8) {n : Dev nD} (hn : n = fwd c s) {s1 s2 : DmaSem sig} (e1 : s1 = bS s) (e2 : s2 = gS s)
    {hsc : ((slotG (Memref.whole cc0_scratch4) s hs : Memref sig (Dev.tc n : Thread nD τ).2.kind .vmem S128x768 .bf16)).view.ref.isScScratch = false}
    {hsrc : (Memref.whole cc0_scratch3).view.WordExact}
    {hdst : (slotG (Memref.whole cc0_scratch4) s hs : Memref sig (Dev.tc n : Thread nD τ).2.kind .vmem S128x768 .bf16).view.WordExact}
    {hsem : DmaTarget.Typed .vmem (.dma s2) (.remote (Dev.tc n : Thread nD τ) (slotG (Memref.whole cc0_scratch4) s hs : Memref sig (Dev.tc n : Thread nD τ).2.kind .vmem S128x768 .bf16) (.dma s1) hsc)}
    {α : Type} {Q : α → sProp 𝕄} {k : PUnit → Prog (TpuEff nD τ sig (Elt F) Λ₀ .tc) α} :
    iprop(Recs A K ∗ BRes c s ∗ bbq c (bq s) (redBf A c) ∗ atPos ER (dCell c (bS s)) 0 ∅ 0 ∗ Owe c (8 - s))
      ⊢ iprop(((Due c (bS s) Nb ∗ Owe c (7 - s)) -∗ WP c (k ⟨⟩) Q)
      -∗ WP c (.op (.enqueueDma (Memref.whole cc0_scratch3) (.remote (Dev.tc n : Thread nD τ) (slotG (Memref.whole cc0_scratch4) s hs) (.dma s1) hsc)
        (.dma s2) hsrc hdst hsem) k) Q) := by
  subst hn e1 e2
  unfold BRes Owe Due
  iintro ⟨#HR, ⟨⟨%fd, Hd⟩, Ht1, Hr1, Ht2, Hr2⟩, Hs, Ha, ⟨%W, HO⟩⟩ Hwp
  have hS : (bS s).val = 38 + s := by show 38 + s % 8 = 38 + s; omega
  have hR : (gS s).val = 46 + s := by show 46 + s % 8 = 46 + s; omega
  have d1 := duties_dma A c (bS s) (by omega) (by omega)
  have d2 := duties_dma A (fwd c s) (gS s) (by omega) (by omega)
  have hO := debt_bsend c s h1 hs
  have es := bb_view c (bq s) (redBf A c)
  have er := gb_view (F := F) (fwd c s) s hs
  have key := Rounds.wp_send_pointsTo 𝒱₀ ER (Rd A) (c : Thread nD τ) none (defs := defs₀ (F := F)) (Γ := .empty) (Es := Set.univ) (Q := Q) (k := k)
    (src := Memref.whole cc0_scratch3) (dst := slotG (Memref.whole cc0_scratch4) s hs) (sS := .dma (bS s)) (sem := .dma (gS s))
    (hsc := hsc) (hsrc := hsrc) (hdst := hdst) (hsem := hsem) (c' := ((fwd c s : Dev nD) : Thread nD τ))
    (κ₁ := K (dCell c (bS s))) (κ₂ := K (dCell (fwd c s) (gS s)))
    (r₁ := 0) (r₂ := 0) (d₁ := (0 : Fin 8)) (d₂ := (0 : Fin 8)) (fs := redBf A c) (fd := fd) (q := bq s)
    (by rw [d1]; exact Finset.mem_singleton_self _) (by rw [d2]; exact Finset.mem_singleton_self _)
    () () Nb rfl (amt_rows A c (bS s) (by omega)) (amt_rows A _ (gS s) (by omega))
    (debt c (7 - s)) hO (W := W)
    (es ▸ pay_lent A c s hs) ((er _).symm ▸ pay_rows A c s hs fd)
  ihave Hs := (Entails.of_eq es) $$ Hs
  ihave Hd := (Entails.of_eq (er fd)) $$ Hd
  iapply key $$ [Hd Ht1 Hr1 Ht2 Hr2 Hs HO]
  · isplitr; · iapply (recs_dma A K c (bS s) (by omega)); iexact HR
    isplitr; · iapply (recs_dma A K (fwd c s) (gS s) (by omega)); iexact HR
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply Hwp
  isplitl [Hc Ha]
  · isplitl [Hc]; · iexact Hc
    iexact Ha
  iexists W
  iexact HO

/-- The rows a landing slot holds, as they are loaded. -/
def rowsV (A : Dev nD → Ins F) (c : Dev nD) (s : ℕ) (hs : s < 8) : Vec F S1x128x768 .bf16 := fun y => gSlab A c (ix3 ⟨s, hs⟩ (y 1) (y 2))

/-- Loading a landing slot that is filled. -/
theorem step_gb_load (s : ℕ) (hs : s < 8) {inb : ∀ d, (![s, 0, 0] : Fin 3 → ℕ) d + S1x128x768.size d ≤ S8x128x768.size d}
    {hl : (Memref.whole cc0_scratch4).view.LoadsAt (Rect.unit (s := S8x128x768) ![s, 0, 0] S1x128x768.size inb).toLoadRect}
    {α : Type} {Q : α → sProp 𝕄} {k : Vec F S1x128x768 .bf16 → Prog (TpuEff nD τ sig (Elt F) Λ₀ .tc) α} :
    gb c s (gSlab A c) ⊢ iprop((gb c s (gSlab A c) -∗ WP c (k (rowsV A c s hs)) Q)
      -∗ WP c (.op (.load (Memref.whole cc0_scratch4) (Rect.unit (s := S8x128x768) ![s, 0, 0] S1x128x768.size inb).toLoadRect hl) k) Q) := by
  unfold gb
  have hv : (fun y => gSlab A c ((Rect.unit (s := S8x128x768) ![s, 0, 0] S1x128x768.size inb).emb y)) = rowsV A c s hs := by
    funext y
    rw [rect8_emb s hs]
    rfl
  exact wp_load_named c (m := Memref.whole cc0_scratch4) (r := Rect.unit (s := S8x128x768) ![s, 0, 0] S1x128x768.size inb) (S := slot8 s) (f := gSlab A c)
    (by rw [← rect8_set s (inb := inb)]; exact (View.set_slice_whole _ _).le) hv

/-! ## The rows a device broadcasts -/

/-- A load of the buffer of the rows whose value is not used; -/
theorem step_bb_dead {inb : ∀ d, (![0, 0] : Fin 2 → ℕ) d + S128x768.size d ≤ S128x768.size d}
    {hl : (Memref.whole cc0_scratch3).view.LoadsAt (Rect.unit (s := S128x768) ![0, 0] S128x768.size inb).toLoadRect}
    {α : Type} {Q : α → sProp 𝕄} {p : Prog (TpuEff nD τ sig (Elt F) Λ₀ .tc) α} :
    iprop(∃ f, whole c cc0_scratch3 f) ⊢ iprop(((∃ f, whole c cc0_scratch3 f) -∗ WP c p Q)
      -∗ WP c (.op (.load (Memref.whole cc0_scratch3) (Rect.unit (s := S128x768) ![0, 0] S128x768.size inb).toLoadRect hl) fun _ => p) Q) := by
  iintro ⟨%f, Hs⟩ Hwp
  iapply (wp_load_named c (m := Memref.whole cc0_scratch3) (r := Rect.unit (s := S128x768) ![0, 0] S128x768.size inb) (S := Finset.univ) (f := f)
    (Finset.subset_univ _) rfl) $$ [Hs]
  · iexact Hs
  iintro Hs
  iapply Hwp
  iexists f
  iexact Hs

/-- storing the rows there. -/
theorem step_bb {inb : ∀ d, (![0, 0] : Fin 2 → ℕ) d + S128x768.size d ≤ S128x768.size d}
    {v : Vec F S128x768 .bf16} {hc : S128x768.ShapeCasts S128x768} (hv : v = shapeCast S128x768 (redBf A c) hc)
    {hx : ((Memref.whole cc0_scratch3).access (Rect.unit (s := S128x768) ![0, 0] S128x768.size inb)).Stores Finset.univ}
    {hm : (Finset.univ : Finset (Rect.unit (s := S128x768) ![0, 0] S128x768.size inb).shape.Idx) = Finset.univ
      ∨ ∀ d, (Rect.unit (s := S128x768) ![0, 0] S128x768.size inb).stride d = 1}
    {α : Type} {Q : α → sProp 𝕄} {k : PUnit → Prog (TpuEff nD τ sig (Elt F) Λ₀ .tc) α} :
    iprop(∃ f, whole c cc0_scratch3 f) ⊢ iprop((bbq c fullShare (redBf A c) -∗ WP c (k ⟨⟩) Q)
      -∗ WP c (.op (.store (Memref.whole cc0_scratch3) (Rect.unit (s := S128x768) ![0, 0] S128x768.size inb) v Finset.univ hx hm) k) Q) := by
  unfold bbq
  have he : ∀ y, (Rect.unit (s := S128x768) ![0, 0] S128x768.size inb).emb y = y := fun y => by
    funext d; apply Fin.ext
    refine (unit_emb_val _ _).trans ?_
    match d with
    | ⟨0, _⟩ => exact Nat.zero_add _
    | ⟨1, _⟩ => exact Nat.zero_add _
  iintro ⟨%f, Hs⟩ Hwp
  iapply (wp_store_named c (m := Memref.whole cc0_scratch3) (r := Rect.unit (s := S128x768) ![0, 0] S128x768.size inb) (S := Finset.univ) (f := f) (g := redBf A c)
    (by ext x; exact ⟨fun _ => Finset.mem_univ x, fun _ => by rw [← he x]; exact Finset.mem_map_of_mem _ (Finset.mem_univ x)⟩) (fun y => by
      refine (View.write_emb_of_mem _ _ (Finset.mem_univ _)).trans ?_
      subst hv
      show shapeCast S128x768 (redBf A c) hc y = redBf A c ((Rect.unit (s := S128x768) ![0, 0] S128x768.size inb).emb y)
      rw [shapeCast_self, he])) $$ [Hs]
  · iexact Hs
  iexact Hwp

/-- What is left of the buffer of the rows while seven shares of it are lent. -/
def bbRest (A : Dev nD → Ins F) (c : Dev nD) : sProp 𝕄 :=
  iprop(bbq c (Transfers.shareDrop fullShare 8) (redBf A c) ∗ bbq c (bq 0) (redBf A c))

/-- The buffer of the rows is the seven shares and the rest. -/
theorem bb_split : (bbq c fullShare (redBf A c) : sProp 𝕄) ⊣⊢ iprop(bbRest A c ∗ bigSep (Finset.Ico 1 8) fun s => bbq c (bq s) (redBf A c)) := by
  have h : (bbq c fullShare (redBf A c) : sProp 𝕄) ⊣⊢ iprop(bbq c (Transfers.shareDrop fullShare 8) (redBf A c)
      ∗ bigSep (Finset.range 8) fun s => bbq c (bq s) (redBf A c)) := Transfers.pointsTo_toks_range fullShare 8
  have e : (bigSep (Finset.range 8) fun s => bbq c (bq s) (redBf A c) : sProp 𝕄)
      = iprop(bbq c (bq 0) (redBf A c) ∗ bigSep (Finset.Ico 1 8) fun s => bbq c (bq s) (redBf A c)) := by
    rw [show Finset.range 8 = insert 0 (Finset.Ico 1 8) by decide, bigSep_insert (by decide)]
    rfl
  unfold bbRest
  constructor
  · refine h.1.trans ?_
    iintro ⟨H1, H2⟩
    ihave H2 := (Entails.of_eq e) $$ H2
    icases H2 with ⟨H2, H3⟩
    isplitl [H1 H2]
    · isplitl [H1]; · iexact H1
      iexact H2
    iexact H3
  · refine BIBase.Entails.trans ?_ h.2
    iintro ⟨⟨H1, H2⟩, H3⟩
    isplitl [H1]; · iexact H1
    iapply (Entails.of_eq e.symm)
    isplitl [H2]; · iexact H2
    iexact H3

/-! ## The result -/

/-- The result of device `c`, with the chunks of the `n` devices from `c` back filled. -/
def Out (A : Dev nD → Ins F) (c : Dev nD) (n : ℕ) : sProp 𝕄 :=
  iprop(∃ f : Vec F S1024x768 .f32, ⌜∀ i, (c.val + 8 - (i 0).val / 128) % 8 < n → f i = outAll A c i⌝ ∗ whole c cc0_stg5_0 f)

/-- A load of part of the result whose value is not used. -/
theorem step_out_dead (n : ℕ) {r : Rect S1024x768} {hl : (Memref.whole cc0_stg5_0).view.LoadsAt r.toLoadRect}
    {α : Type} {Q : α → sProp 𝕄} {p : Prog (TpuEff nD τ sig (Elt F) Λ₀ .tc) α} :
    Out A c n ⊢ iprop((Out A c n -∗ WP c p Q)
      -∗ WP c (.op (.load (Memref.whole cc0_stg5_0) r.toLoadRect hl) fun _ => p) Q) := by
  unfold Out
  iintro ⟨%f, %hf, Hc⟩ Hwp
  iapply (wp_load_named c (m := Memref.whole cc0_stg5_0) (S := Finset.univ) (f := f) (Finset.subset_univ _) rfl) $$ [Hc]
  · iexact Hc
  iintro Hc
  iapply Hwp
  iexists f
  isplitr
  · ipureintro; exact hf
  · iexact Hc

/-- Rows `y` of the chunk of the device `s` places back. -/
def outRow (c : Dev nD) (s : ℕ) (hs : s < 8) (y : S128x768.Idx) : S1024x768.Idx :=
  ix2 ⟨128 * ((c.val + 8 - s) % 8) + (y 0).val, by have := idx2_lt0 y; omega⟩ (y 1)

/-- The chunk a device computes itself; -/
theorem out_own (y : S128x768.Idx) : red A c y = outAll A c (outRow c 0 (by decide) y) := by
  have y0 := idx2_lt0 y
  have hc : c.val < 8 := c.isLt
  have e : ((outRow c 0 (by decide) y) 0).val = 128 * ((c.val + 8 - 0) % 8) + (y 0).val := rfl
  unfold outAll
  rw [if_pos (by rw [e]; omega)]
  congr 1
  refine (idx2_eta y).symm.trans ?_
  congr 1
  exact Fin.ext (by show (y 0).val = ((outRow c 0 (by decide) y) 0).val % 128; rw [e]; omega)

/-- the chunk of another, out of its landing slot. -/
theorem out_other (s : ℕ) (h1 : 1 ≤ s) (hs : s < 8) (hb : FTy.bf16.bits < FTy.f32.bits) (hc : S1x128x768.ShapeCasts S128x768) (y : S128x768.Idx) :
    extf .f32 (shapeCast S128x768 (rowsV A c s hs) hc) hb y = outAll A c (outRow c s hs y) := by
  have y0 := idx2_lt0 y
  have hc' : c.val < 8 := c.isLt
  have e : ((outRow c s hs y) 0).val = 128 * ((c.val + 8 - s) % 8) + (y 0).val := rfl
  have hd : ((outRow c s hs y) 0).val / 128 = (c.val + 8 - s) % 8 := by rw [e]; omega
  unfold outAll
  rw [if_neg (by rw [hd]; omega)]
  rw [extf_at, extf_at]
  refine congrArg (FloatOps.extf (F := F) (φ := .bf16) .f32 hb) ?_
  rw [cast_rows]
  have eb : bwd c s = ⟨((outRow c s hs y) 0).val / 128, by rw [hd]; exact Nat.mod_lt _ (by decide)⟩ := Fin.ext ((bwd_val c s).trans hd.symm)
  refine Eq.trans (b := redBf A (bwd c s) (ix2 (y 0) (y 1))) rfl ?_
  rw [eb]
  refine congrArg (redBf A _) (congrArg (fun z => ix2 z (y 1)) ?_)
  exact Fin.ext (by show (y 0).val = ((outRow c s hs y) 0).val % 128; rw [e]; omega)

/-- Storing a chunk of the result, the next one back. -/
theorem step_out (s : ℕ) (hs : s < 8) {off : Fin 2 → ℕ} (hoff : off = ![128 * ((c.val + 8 - s) % 8), 0])
    {inb : ∀ d, off d + S128x768.size d ≤ S1024x768.size d} {v : Vec F S128x768 .f32}
    (hv : ∀ y, v y = outAll A c (outRow c s hs y))
    {hx : ((Memref.whole cc0_stg5_0).access (Rect.unit (s := S1024x768) off S128x768.size inb)).Stores Finset.univ}
    {hm : (Finset.univ : Finset (Rect.unit (s := S1024x768) off S128x768.size inb).shape.Idx) = Finset.univ
      ∨ ∀ d, (Rect.unit (s := S1024x768) off S128x768.size inb).stride d = 1}
    {α : Type} {Q : α → sProp 𝕄} {k : PUnit → Prog (TpuEff nD τ sig (Elt F) Λ₀ .tc) α} :
    Out A c s ⊢ iprop((Out A c (s + 1) -∗ WP c (k ⟨⟩) Q)
      -∗ WP c (.op (.store (Memref.whole cc0_stg5_0) (Rect.unit (s := S1024x768) off S128x768.size inb) v Finset.univ hx hm) k) Q) := by
  subst hoff
  unfold Out
  iintro ⟨%f, %hf, Hc⟩ Hwp
  iapply (wp_store 𝒱₀ (c : Thread nD τ) none Set.univ (m := Memref.whole cc0_stg5_0) (S := Finset.univ) (f := f) (Finset.subset_univ _)) $$ [Hc]
  · iexact Hc
  iintro Hc
  iapply Hwp
  iexists _
  isplitr
  rotate_left
  · iexact Hc
  ipureintro
  intro i hi
  have i0 := idx2_lt0 i
  have hc : c.val < 8 := c.isLt
  by_cases hin : (i 0).val / 128 = (c.val + 8 - s) % 8
  · have e : i = ((Memref.whole cc0_stg5_0).access (Rect.unit (s := S1024x768) ![128 * ((c.val + 8 - s) % 8), 0] S128x768.size inb)).emb
        (ix2 ⟨(i 0).val % 128, Nat.mod_lt _ (by decide)⟩ (i 1)) := by
      funext d; apply Fin.ext
      refine Eq.trans ?_ (unit_emb_val _ _).symm
      match d with
      | ⟨0, _⟩ => show (i 0).val = 128 * ((c.val + 8 - s) % 8) + (i 0).val % 128; omega
      | ⟨1, _⟩ => exact (Nat.zero_add _).symm
    conv_lhs => rw [e]
    refine (View.write_emb_of_mem _ _ (Finset.mem_univ _)).trans ?_
    refine (hv _).trans ?_
    congr 1
    funext d; apply Fin.ext
    match d with
    | ⟨0, _⟩ => show 128 * ((c.val + 8 - s) % 8) + (i 0).val % 128 = (i 0).val; omega
    | ⟨1, _⟩ => rfl
  · refine (View.write_of_not_mem _ _ _ ?_).trans (hf i ?_)
    · intro hmem
      obtain ⟨x, hx⟩ := View.exists_of_mem_set_slice hmem
      apply hin
      have e0 : (i 0).val = 128 * ((c.val + 8 - s) % 8) + (x 0).val := by rw [← hx]; exact unit_emb_val _ _
      have x0 : (x 0).val < 128 := (x 0).isLt
      omega
    · omega

end Steps

end Cert.KernelIdealProof
-- ==== Proof.State.lean ====
/-
  What a device holds as it goes through the kernel after the barrier, and how one step of it acts on that.
-/
module

public import proofs.«01_k».proof.Proof.Bcast

@[expose] public section

noncomputable section

namespace Cert.KernelIdealProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

/-! ## Families indexed by the transfers -/

/-- The slabs that travel; the places on of the broadcast. -/
abbrev slabs : Finset ℕ := (Finset.range 16).filter fun i => i % 8 ≠ 0
abbrev places : Finset ℕ := Finset.Ico 1 8

theorem slabs_lt {i : ℕ} (h : i ∈ slabs) : i < 16 := Finset.mem_range.mp (Finset.mem_filter.mp h).1
theorem slabs_ne {i : ℕ} (h : i ∈ slabs) : i % 8 ≠ 0 := (Finset.mem_filter.mp h).2

/-- One member of a family changes, the others stay. -/
theorem fam_step {S : Finset ℕ} {f g : ℕ → sProp 𝕄} (i : ℕ) (hi : i ∈ S) (h : ∀ j ∈ S, j ≠ i → g j = f j) :
    bigSep S f ⊢ iprop(f i ∗ (g i -∗ bigSep S g)) := by
  have e : bigSep (S.erase i) g = bigSep (S.erase i) f :=
    bigSep_congr fun x hx => h x (Finset.mem_of_mem_erase hx) (Finset.ne_of_mem_erase hx)
  have e1 : bigSep S f = iprop(f i ∗ bigSep (S.erase i) f) := bigSep_erase hi
  have e2 : bigSep S g = iprop(g i ∗ bigSep (S.erase i) f) := by rw [← e]; exact bigSep_erase hi
  rw [e1, e2]
  iintro ⟨H1, H2⟩
  isplitl [H1]; · iexact H1
  iintro H
  isplitl [H]; · iexact H
  iexact H2

/-! ## How far a device has come -/

/-- How far a device has come after the barrier: the blocks of the context computed; the slabs up to which outgoing slots
    are filled, sent, taken, and the senders' waits done; the slabs a device keeps that are stored; the payments left;
    whether the rows to broadcast are stored; the places up to which they are sent, taken, and the senders' waits done; the
    chunks of the result filled. -/
structure Ph where
  ctx : ℕ
  fill : ℕ
  sent : ℕ
  recv : ℕ
  done : ℕ
  own : ℕ
  pay : ℕ
  rows : Bool
  bsent : ℕ
  brecv : ℕ
  bdone : ℕ
  out : ℕ

section State

variable (A : Dev nD → Ins F) (K : GSem nD τ sig → ℕ) (c : Dev nD)

/-- An outgoing slab: before its slot is filled, before it is sent, in flight, back. -/
def slabSt (fill sent done i : ℕ) : sProp 𝕄 :=
  if i < done then iprop(sb c i (sSlab A c) ∗ atPos ER (dCell c (sS i)) 1 ∅ 0)
  else if i < sent then Due c (sS i) Ns
  else if i < fill then iprop(sb c i (sSlab A c) ∗ SendRes c i ∗ atPos ER (dCell c (sS i)) 0 ∅ 0)
  else iprop((∃ f, sb c i f) ∗ SendRes c i ∗ atPos ER (dCell c (sS i)) 0 ∅ 0)

/-- An incoming slab: due, there. -/
def takeSt (recv i : ℕ) : sProp 𝕄 :=
  if i < recv then iprop(rb c i (rSlab A c) ∗ atPos ER (dCell c (rS i)) 1 ∅ 0) else Due c (rS i) Ns

/-- A slab a device keeps: its slot empty, filled. -/
def ownSt (own n : ℕ) : sProp 𝕄 := if n < own then rb c (8 * n) (rSlab A c) else iprop(∃ f, rb c (8 * n) f)

/-- The rows, going `s` places on: before the rows are there, before they are sent, in flight, back. -/
def rowsSt (rows : Bool) (sent done s : ℕ) : sProp 𝕄 :=
  if s < done then iprop(bbq c (bq s) (redBf A c) ∗ atPos ER (dCell c (bS s)) 1 ∅ 0)
  else if s < sent then Due c (bS s) Nb
  else if rows then iprop(bbq c (bq s) (redBf A c) ∗ BRes c s ∗ atPos ER (dCell c (bS s)) 0 ∅ 0)
  else iprop(BRes c s ∗ atPos ER (dCell c (bS s)) 0 ∅ 0)

/-- The buffer of the rows: empty, what is not lent of it. -/
def bufSt (rows : Bool) : sProp 𝕄 := if rows then bbRest A c else iprop(∃ f, whole c cc0_scratch3 f)

/-- The rows from `s` places back: due, there. -/
def landSt (recv s : ℕ) : sProp 𝕄 :=
  if s < recv then iprop(gb c s (gSlab A c) ∗ atPos ER (dCell c (gS s)) 1 ∅ 0) else Due c (gS s) Nb

/-- What device `c` holds when it has come this far, `X` what it does not touch. -/
def Hold (X : sProp 𝕄) (σ : Ph) : sProp 𝕄 :=
  iprop(Recs A K ∗ Inp (A c) c ∗ Ctx (A c) c σ.ctx ∗ Owe c σ.pay ∗ bigSep slabs (slabSt A c σ.fill σ.sent σ.done)
    ∗ bigSep slabs (takeSt A c σ.recv) ∗ ownSt A c σ.own 0 ∗ ownSt A c σ.own 1
    ∗ bigSep places (rowsSt A c σ.rows σ.bsent σ.bdone) ∗ bufSt A c σ.rows ∗ bigSep places (landSt A c σ.brecv) ∗ Out A c σ.out ∗ X)

/-! ## The steps over what a device holds -/

/-- A step over the inputs; -/
theorem via_inp {X : sProp 𝕄} {σ : Ph} {α : Type} {Q : α → sProp 𝕄} {p p' : Prog (TpuEff nD τ sig (Elt F) Λ₀ .tc) α}
    (step : Inp (A c) c ⊢ iprop((Inp (A c) c -∗ WP c p' Q) -∗ WP c p Q)) (h : Hold A K c X σ ⊢ WP c p' Q) : Hold A K c X σ ⊢ WP c p Q := by
  unfold Hold at h ⊢
  iintro ⟨#HR, HI, HC, HW, HS, HT, HO, HP, HB, HF, HL, HU, HX⟩
  iapply step $$ [HI]
  · iexact HI
  iintro HI
  iapply h
  iframe
  iexact HR

/-- over the context; -/
theorem via_ctx {X : sProp 𝕄} {σ : Ph} {n : ℕ} {α : Type} {Q : α → sProp 𝕄} {p p' : Prog (TpuEff nD τ sig (Elt F) Λ₀ .tc) α}
    (step : Ctx (A c) c σ.ctx ⊢ iprop((Ctx (A c) c n -∗ WP c p' Q) -∗ WP c p Q)) (h : Hold A K c X {σ with ctx := n} ⊢ WP c p' Q) :
    Hold A K c X σ ⊢ WP c p Q := by
  unfold Hold at h ⊢
  iintro ⟨#HR, HI, HC, HW, HS, HT, HO, HP, HB, HF, HL, HU, HX⟩
  iapply step $$ [HC]
  · iexact HC
  iintro HC
  iapply h
  iframe
  iexact HR

/-- over the result; -/
theorem via_out {X : sProp 𝕄} {σ : Ph} {n : ℕ} {α : Type} {Q : α → sProp 𝕄} {p p' : Prog (TpuEff nD τ sig (Elt F) Λ₀ .tc) α}
    (step : Out A c σ.out ⊢ iprop((Out A c n -∗ WP c p' Q) -∗ WP c p Q)) (h : Hold A K c X {σ with out := n} ⊢ WP c p' Q) :
    Hold A K c X σ ⊢ WP c p Q := by
  unfold Hold at h ⊢
  iintro ⟨#HR, HI, HC, HW, HS, HT, HO, HP, HB, HF, HL, HU, HX⟩
  iapply step $$ [HU]
  · iexact HU
  iintro HU
  iapply h
  iframe
  iexact HR

/-- over one of the outgoing slabs; -/
theorem via_slab {X : sProp 𝕄} {σ : Ph} (i : ℕ) {fill sent done pay : ℕ} {α : Type} {Q : α → sProp 𝕄} {p p' : Prog (TpuEff nD τ sig (Elt F) Λ₀ .tc) α}
    (hi : i ∈ slabs) (hj : ∀ j ∈ slabs, j ≠ i → slabSt A c fill sent done j = slabSt A c σ.fill σ.sent σ.done j)
    (step : iprop(Recs A K ∗ slabSt A c σ.fill σ.sent σ.done i ∗ Owe c σ.pay)
      ⊢ iprop(((slabSt A c fill sent done i ∗ Owe c pay) -∗ WP c p' Q) -∗ WP c p Q))
    (h : Hold A K c X {σ with fill := fill, sent := sent, done := done, pay := pay} ⊢ WP c p' Q) :
    Hold A K c X σ ⊢ WP c p Q := by
  unfold Hold at h ⊢
  iintro ⟨#HR, HI, HC, HW, HS, HT, HO, HP, HB, HF, HL, HU, HX⟩
  ihave HS := (fam_step i hi hj) $$ HS
  icases HS with ⟨H, HS⟩
  iapply step $$ [H HW]
  · iframe
    iexact HR
  iintro ⟨H, HW⟩
  ihave HS := HS $$ H
  iapply h
  iframe
  iexact HR

/-- over one of the incoming slabs; -/
theorem via_take {X : sProp 𝕄} {σ : Ph} (i : ℕ) {recv : ℕ} {α : Type} {Q : α → sProp 𝕄} {p p' : Prog (TpuEff nD τ sig (Elt F) Λ₀ .tc) α}
    (hi : i ∈ slabs) (hj : ∀ j ∈ slabs, j ≠ i → takeSt A c recv j = takeSt A c σ.recv j)
    (step : iprop(Recs A K ∗ takeSt A c σ.recv i ∗ Owe c σ.pay)
      ⊢ iprop(((takeSt A c recv i ∗ Owe c σ.pay) -∗ WP c p' Q) -∗ WP c p Q))
    (h : Hold A K c X {σ with recv := recv} ⊢ WP c p' Q) :
    Hold A K c X σ ⊢ WP c p Q := by
  unfold Hold at h ⊢
  iintro ⟨#HR, HI, HC, HW, HS, HT, HO, HP, HB, HF, HL, HU, HX⟩
  ihave HT := (fam_step i hi hj) $$ HT
  icases HT with ⟨H, HT⟩
  iapply step $$ [H HW]
  · iframe
    iexact HR
  iintro ⟨H, HW⟩
  ihave HT := HT $$ H
  iapply h
  iframe
  iexact HR

/-- over the slabs it keeps; -/
theorem via_own {X : sProp 𝕄} {σ : Ph} {own : ℕ} {α : Type} {Q : α → sProp 𝕄} {p p' : Prog (TpuEff nD τ sig (Elt F) Λ₀ .tc) α}
    (step : iprop(ownSt A c σ.own 0 ∗ ownSt A c σ.own 1) ⊢ iprop(((ownSt A c own 0 ∗ ownSt A c own 1) -∗ WP c p' Q) -∗ WP c p Q))
    (h : Hold A K c X {σ with own := own} ⊢ WP c p' Q) :
    Hold A K c X σ ⊢ WP c p Q := by
  unfold Hold at h ⊢
  iintro ⟨#HR, HI, HC, HW, HS, HT, HO, HP, HB, HF, HL, HU, HX⟩
  iapply step $$ [HO HP]
  · iframe
  iintro ⟨HO, HP⟩
  iapply h
  iframe
  iexact HR

/-- over the rows going to one place; -/
theorem via_rows {X : sProp 𝕄} {σ : Ph} (s : ℕ) {sent done pay : ℕ} {α : Type} {Q : α → sProp 𝕄} {p p' : Prog (TpuEff nD τ sig (Elt F) Λ₀ .tc) α}
    (hs : s ∈ places) (hj : ∀ j ∈ places, j ≠ s → rowsSt A c σ.rows sent done j = rowsSt A c σ.rows σ.bsent σ.bdone j)
    (step : iprop(Recs A K ∗ rowsSt A c σ.rows σ.bsent σ.bdone s ∗ Owe c σ.pay)
      ⊢ iprop(((rowsSt A c σ.rows sent done s ∗ Owe c pay) -∗ WP c p' Q) -∗ WP c p Q))
    (h : Hold A K c X {σ with bsent := sent, bdone := done, pay := pay} ⊢ WP c p' Q) :
    Hold A K c X σ ⊢ WP c p Q := by
  unfold Hold at h ⊢
  iintro ⟨#HR, HI, HC, HW, HS, HT, HO, HP, HB, HF, HL, HU, HX⟩
  ihave HB := (fam_step s hs hj) $$ HB
  icases HB with ⟨H, HB⟩
  iapply step $$ [H HW]
  · iframe
    iexact HR
  iintro ⟨H, HW⟩
  ihave HB := HB $$ H
  iapply h
  iframe
  iexact HR

/-- over the rows from one place; -/
theorem via_land {X : sProp 𝕄} {σ : Ph} (s : ℕ) {recv : ℕ} {α : Type} {Q : α → sProp 𝕄} {p p' : Prog (TpuEff nD τ sig (Elt F) Λ₀ .tc) α}
    (hs : s ∈ places) (hj : ∀ j ∈ places, j ≠ s → landSt A c recv j = landSt A c σ.brecv j)
    (step : iprop(Recs A K ∗ landSt A c σ.brecv s ∗ Owe c σ.pay)
      ⊢ iprop(((landSt A c recv s ∗ Owe c σ.pay) -∗ WP c p' Q) -∗ WP c p Q))
    (h : Hold A K c X {σ with brecv := recv} ⊢ WP c p' Q) :
    Hold A K c X σ ⊢ WP c p Q := by
  unfold Hold at h ⊢
  iintro ⟨#HR, HI, HC, HW, HS, HT, HO, HP, HB, HF, HL, HU, HX⟩
  ihave HL := (fam_step s hs hj) $$ HL
  icases HL with ⟨H, HL⟩
  iapply step $$ [H HW]
  · iframe
    iexact HR
  iintro ⟨H, HW⟩
  ihave HL := HL $$ H
  iapply h
  iframe
  iexact HR

end State

end Cert.KernelIdealProof
-- ==== Proof.Steps.lean ====
/-
  One step of the kernel after another, each over all a device holds.
-/
module

public import proofs.«01_k».proof.Proof.State

@[expose] public section

noncomputable section

namespace Cert.KernelIdealProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

section Steps

variable {A : Dev nD → Ins F} {K : GSem nD τ sig → ℕ} {c : Dev nD}

/-! ## What the stages of one member of a family are -/

theorem slab_todo {fill sent dn i : ℕ} (h : dn ≤ i ∧ sent ≤ i ∧ fill ≤ i) :
    slabSt A c fill sent dn i = iprop((∃ f, sb c i f) ∗ SendRes c i ∗ atPos ER (dCell c (sS i)) 0 ∅ 0) := by
  unfold slabSt; rw [if_neg (by omega), if_neg (by omega), if_neg (by omega)]
theorem slab_ready {fill sent dn i : ℕ} (h : dn ≤ i ∧ sent ≤ i ∧ i < fill) :
    slabSt A c fill sent dn i = iprop(sb c i (sSlab A c) ∗ SendRes c i ∗ atPos ER (dCell c (sS i)) 0 ∅ 0) := by
  unfold slabSt; rw [if_neg (by omega), if_neg (by omega), if_pos (by omega)]
theorem slab_sent {fill sent dn i : ℕ} (h : dn ≤ i ∧ i < sent) : slabSt A c fill sent dn i = Due c (sS i) Ns := by
  unfold slabSt; rw [if_neg (by omega), if_pos (by omega)]
theorem slab_back {fill sent dn i : ℕ} (h : i < dn) :
    slabSt A c fill sent dn i = iprop(sb c i (sSlab A c) ∗ atPos ER (dCell c (sS i)) 1 ∅ 0) := by
  unfold slabSt; rw [if_pos h]
theorem take_due {recv i : ℕ} (h : recv ≤ i) : takeSt A c recv i = Due c (rS i) Ns := by
  unfold takeSt; rw [if_neg (by omega)]
theorem take_there {recv i : ℕ} (h : i < recv) : takeSt A c recv i = iprop(rb c i (rSlab A c) ∗ atPos ER (dCell c (rS i)) 1 ∅ 0) := by
  unfold takeSt; rw [if_pos h]
theorem own_todo {own n : ℕ} (h : own ≤ n) : ownSt A c own n = iprop(∃ f, rb c (8 * n) f) := by
  unfold ownSt; rw [if_neg (by omega)]
theorem own_there {own n : ℕ} (h : n < own) : ownSt A c own n = rb c (8 * n) (rSlab A c) := by
  unfold ownSt; rw [if_pos h]
theorem rows_wait {sent dn s : ℕ} (h : dn ≤ s ∧ sent ≤ s) :
    rowsSt A c false sent dn s = iprop(BRes c s ∗ atPos ER (dCell c (bS s)) 0 ∅ 0) := by
  unfold rowsSt; rw [if_neg (by omega), if_neg (by omega), if_neg (by decide)]
theorem rows_ready {sent dn s : ℕ} (h : dn ≤ s ∧ sent ≤ s) :
    rowsSt A c true sent dn s = iprop(bbq c (bq s) (redBf A c) ∗ BRes c s ∗ atPos ER (dCell c (bS s)) 0 ∅ 0) := by
  unfold rowsSt; rw [if_neg (by omega), if_neg (by omega), if_pos rfl]
theorem rows_sent {r : Bool} {sent dn s : ℕ} (h : dn ≤ s ∧ s < sent) : rowsSt A c r sent dn s = Due c (bS s) Nb := by
  unfold rowsSt; rw [if_neg (by omega), if_pos (by omega)]
theorem rows_back {r : Bool} {sent dn s : ℕ} (h : s < dn) :
    rowsSt A c r sent dn s = iprop(bbq c (bq s) (redBf A c) ∗ atPos ER (dCell c (bS s)) 1 ∅ 0) := by
  unfold rowsSt; rw [if_pos h]
theorem land_due {recv s : ℕ} (h : recv ≤ s) : landSt A c recv s = Due c (gS s) Nb := by
  unfold landSt; rw [if_neg (by omega)]
theorem land_there {recv s : ℕ} (h : s < recv) : landSt A c recv s = iprop(gb c s (gSlab A c) ∗ atPos ER (dCell c (gS s)) 1 ∅ 0) := by
  unfold landSt; rw [if_pos h]

/-! ## Outgoing slabs -/

/-- A load of an outgoing slot whose value is not used. -/
theorem to_sb_dead (i : ℕ) (hi : i ∈ slabs) {X : sProp 𝕄} {σ : Ph} (hσ : σ.done ≤ i ∧ σ.sent ≤ i ∧ σ.fill ≤ i) {inb : ∀ d, (![i, 0, 0] : Fin 3 → ℕ) d + S1x128x256.size d ≤ S16x128x256.size d}
    {hl : (Memref.whole cc0_scratch1).view.LoadsAt (Rect.unit (s := S16x128x256) ![i, 0, 0] S1x128x256.size inb).toLoadRect}
    {α : Type} {Q : α → sProp 𝕄} {p : Prog (TpuEff nD τ sig (Elt F) Λ₀ .tc) α} (h : Hold A K c X σ ⊢ WP c p Q) :
    Hold A K c X σ ⊢ WP c (.op (.load (Memref.whole cc0_scratch1) (Rect.unit (s := S16x128x256) ![i, 0, 0] S1x128x256.size inb).toLoadRect hl) fun _ => p) Q := by
  refine via_slab A K c i (fill := σ.fill) (sent := σ.sent) (done := σ.done) (pay := σ.pay) hi (fun _ _ _ => rfl) ?_ h
  rw [slab_todo hσ]
  iintro ⟨-, ⟨H1, H2⟩, HW⟩ Hk
  iapply (step_sb_dead c i) $$ [H1]
  · iexact H1
  iintro H1
  iapply Hk
  iframe

/-- Storing the next slab in its outgoing slot. -/
theorem to_sb (i : ℕ) (hi : i ∈ slabs) {X : sProp 𝕄} {σ : Ph} (hσ : σ.done ≤ i ∧ σ.sent ≤ i ∧ σ.fill ≤ i) (hm' : ∀ j ∈ slabs, σ.fill ≤ j → i ≤ j)
    {inb : ∀ d, (![i, 0, 0] : Fin 3 → ℕ) d + S1x128x256.size d ≤ S16x128x256.size d}
    {v : Vec F S1x128x256 .bf16} {hc : S128x256.ShapeCasts S1x128x256} (hv : v = shapeCast S1x128x256 (slabV A c i (slabs_lt hi)) hc)
    {hx : ((Memref.whole cc0_scratch1).access (Rect.unit (s := S16x128x256) ![i, 0, 0] S1x128x256.size inb)).Stores Finset.univ}
    {hm : (Finset.univ : Finset (Rect.unit (s := S16x128x256) ![i, 0, 0] S1x128x256.size inb).shape.Idx) = Finset.univ ∨ ∀ d, (Rect.unit (s := S16x128x256) ![i, 0, 0] S1x128x256.size inb).stride d = 1}
    {α : Type} {Q : α → sProp 𝕄} {k : PUnit → Prog (TpuEff nD τ sig (Elt F) Λ₀ .tc) α} (h : Hold A K c X {σ with fill := i + 1} ⊢ WP c (k ⟨⟩) Q) :
    Hold A K c X σ ⊢ WP c (.op (.store (Memref.whole cc0_scratch1) (Rect.unit (s := S16x128x256) ![i, 0, 0] S1x128x256.size inb) v Finset.univ hx hm) k) Q := by
  refine via_slab A K c i (fill := i + 1) (sent := σ.sent) (done := σ.done) (pay := σ.pay) hi (fun j hj hne => ?_) ?_ h
  · have := hm' j hj
    unfold slabSt
    simp only [show j < i + 1 ↔ j < σ.fill by omega]
  rw [slab_todo hσ, slab_ready (by omega)]
  iintro ⟨-, ⟨H1, H2⟩, HW⟩ Hk
  iapply (step_sb A c i (slabs_lt hi) hv) $$ [H1]
  · iexact H1
  iintro H1
  iapply Hk
  iframe

/-- Sending the next slab. -/
theorem to_send (i : ℕ) (hi : i ∈ slabs) {X : sProp 𝕄} {σ : Ph} (hσ : σ.done ≤ i ∧ σ.sent ≤ i ∧ i < σ.fill) (hm' : ∀ j ∈ slabs, σ.sent ≤ j → i ≤ j)
    (hp : σ.pay = 22 - (7 * (i / 8) + i % 8)) {n : Dev nD} (hn : n = fwd c (i % 8)) {s1 s2 : DmaSem sig} (e1 : s1 = sS i) (e2 : s2 = rS i)
    {hsc : ((slotM (Memref.whole cc0_scratch2) i (slabs_lt hi) : Memref sig (Dev.tc n : Thread nD τ).2.kind .vmem S128x256 .bf16)).view.ref.isScScratch = false}
    {hsrc : (slotM (Memref.whole cc0_scratch1) i (slabs_lt hi)).view.WordExact}
    {hdst : (slotM (Memref.whole cc0_scratch2) i (slabs_lt hi) : Memref sig (Dev.tc n : Thread nD τ).2.kind .vmem S128x256 .bf16).view.WordExact}
    {hsem : DmaTarget.Typed .vmem (.dma s2) (.remote (Dev.tc n : Thread nD τ) (slotM (Memref.whole cc0_scratch2) i (slabs_lt hi) : Memref sig (Dev.tc n : Thread nD τ).2.kind .vmem S128x256 .bf16) (.dma s1) hsc)}
    {α : Type} {Q : α → sProp 𝕄} {k : PUnit → Prog (TpuEff nD τ sig (Elt F) Λ₀ .tc) α} (h : Hold A K c X {σ with sent := i + 1, pay := σ.pay - 1} ⊢ WP c (k ⟨⟩) Q) :
    Hold A K c X σ ⊢ WP c (.op (.enqueueDma (slotM (Memref.whole cc0_scratch1) i (slabs_lt hi))
      (.remote (Dev.tc n : Thread nD τ) (slotM (Memref.whole cc0_scratch2) i (slabs_lt hi)) (.dma s1) hsc) (.dma s2) hsrc hdst hsem) k) Q := by
  refine via_slab A K c i (fill := σ.fill) (sent := i + 1) (done := σ.done) (pay := σ.pay - 1) hi (fun j hj hne => ?_) ?_ h
  · have := hm' j hj
    unfold slabSt
    simp only [show j < i + 1 ↔ j < σ.sent by omega]
  rw [slab_ready hσ, slab_sent (by omega), hp, show 22 - (7 * (i / 8) + i % 8) - 1 = 21 - (7 * (i / 8) + i % 8) by omega]
  iintro ⟨#HR, ⟨H1, H2, H3⟩, HW⟩ Hk
  iapply (step_send A K c i (slabs_lt hi) (slabs_ne hi) hn e1 e2) $$ [H1 H2 H3 HW]
  · iframe
    iexact HR
  iexact Hk

/-- The wait for a slab sent, with nothing owed. -/
theorem to_done (i : ℕ) (hi : i ∈ slabs) {X : sProp 𝕄} {σ : Ph} (hσ : σ.done ≤ i ∧ i < σ.sent) (hm' : ∀ j ∈ slabs, σ.done ≤ j → i ≤ j)
    (hp : σ.pay = 0) {s : DmaSem sig} (es : s = sS i) {sp sp' : Space} {t t' : Shape} {e e' : EltTy} {κ' : Kind}
    {src : Memref sig .tc sp' t' e'} {dst : Memref sig κ' sp t e} (hN : dst.view.dmaCredit = Ns) {hsrc : src.view.WordExact} {hdst : dst.view.WordExact}
    {α : Type} {Q : α → sProp 𝕄} {k : PUnit → Prog (TpuEff nD τ sig (Elt F) Λ₀ .tc) α} (h : Hold A K c X {σ with done := i + 1} ⊢ WP c (k ⟨⟩) Q) :
    Hold A K c X σ ⊢ WP c (.op (.waitDma2 s src dst hsrc hdst) k) Q := by
  subst es
  refine via_slab A K c i (fill := σ.fill) (sent := σ.sent) (done := i + 1) (pay := σ.pay) hi (fun j hj hne => ?_) ?_ h
  · have := hm' j hj
    unfold slabSt
    simp only [show j < i + 1 ↔ j < σ.done by omega]
  have hi16 := slabs_lt hi
  have h0 := slabs_ne hi
  have hS : (sS i).val = 6 + i := by show 6 + i % 16 = 6 + i; omega
  have hd : dmaPay A c (sS i).val = sb c i (sSlab A c) := by
    unfold dmaPay; rw [if_pos (by omega), hS, show 6 + i - 6 = i by omega]
  rw [slab_sent hσ, slab_back (by omega), hp, ← hd]
  iintro ⟨#HR, H, HW⟩ Hk
  iapply (step_wait A K c (sS i) 0 (by omega) (by omega) (N := Ns) (by rw [if_pos (by omega)]) (mayWait_done c _)
    (fun R => by rw [← hN]; exact wpE_waitDma2_eq 𝒱₀ (c : Thread nD τ) none Set.univ R)) $$ [H HW]
  · iframe
    iexact HR
  iintro ⟨H1, H2, HW⟩
  iapply Hk
  iframe

/-! ## Incoming slabs -/

/-- A load of the slot of a slab a device keeps whose value is not used; -/
theorem to_rb_dead (n : ℕ) (hn2 : n < 2) {X : sProp 𝕄} {σ : Ph} (hσ : σ.own ≤ n) {inb : ∀ d, (![8 * n, 0, 0] : Fin 3 → ℕ) d + S1x128x256.size d ≤ S16x128x256.size d}
    {hl : (Memref.whole cc0_scratch2).view.LoadsAt (Rect.unit (s := S16x128x256) ![8 * n, 0, 0] S1x128x256.size inb).toLoadRect}
    {α : Type} {Q : α → sProp 𝕄} {p : Prog (TpuEff nD τ sig (Elt F) Λ₀ .tc) α} (h : Hold A K c X σ ⊢ WP c p Q) :
    Hold A K c X σ ⊢ WP c (.op (.load (Memref.whole cc0_scratch2) (Rect.unit (s := S16x128x256) ![8 * n, 0, 0] S1x128x256.size inb).toLoadRect hl) fun _ => p) Q := by
  refine via_own A K c (own := σ.own) ?_ h
  rcases (show n = 0 ∨ n = 1 by omega) with rfl | rfl
  · rw [own_todo hσ]
    iintro ⟨H0, H1⟩ Hk
    iapply (step_rb_dead c (8 * 0)) $$ [H0]
    · iexact H0
    iintro H0
    iapply Hk
    iframe
  · rw [own_todo hσ (n := 1)]
    iintro ⟨H0, H1⟩ Hk
    iapply (step_rb_dead c (8 * 1)) $$ [H1]
    · iexact H1
    iintro H1
    iapply Hk
    iframe

/-- storing the slab there; -/
theorem to_rb (n : ℕ) (hn2 : n < 2) {X : sProp 𝕄} {σ : Ph} (hσ : σ.own = n) {inb : ∀ d, (![8 * n, 0, 0] : Fin 3 → ℕ) d + S1x128x256.size d ≤ S16x128x256.size d}
    {v : Vec F S1x128x256 .bf16} {hc : S128x256.ShapeCasts S1x128x256} (hv : v = shapeCast S1x128x256 (slabV A c (8 * n) (by omega)) hc)
    {hx : ((Memref.whole cc0_scratch2).access (Rect.unit (s := S16x128x256) ![8 * n, 0, 0] S1x128x256.size inb)).Stores Finset.univ}
    {hm : (Finset.univ : Finset (Rect.unit (s := S16x128x256) ![8 * n, 0, 0] S1x128x256.size inb).shape.Idx) = Finset.univ ∨ ∀ d, (Rect.unit (s := S16x128x256) ![8 * n, 0, 0] S1x128x256.size inb).stride d = 1}
    {α : Type} {Q : α → sProp 𝕄} {k : PUnit → Prog (TpuEff nD τ sig (Elt F) Λ₀ .tc) α} (h : Hold A K c X {σ with own := n + 1} ⊢ WP c (k ⟨⟩) Q) :
    Hold A K c X σ ⊢ WP c (.op (.store (Memref.whole cc0_scratch2) (Rect.unit (s := S16x128x256) ![8 * n, 0, 0] S1x128x256.size inb) v Finset.univ hx hm) k) Q := by
  refine via_own A K c (own := n + 1) ?_ h
  rcases (show n = 0 ∨ n = 1 by omega) with rfl | rfl
  · rw [own_todo hσ.le (n := 0), own_todo (n := 1) (by omega), own_there (n := 0) (by omega), own_todo (n := 1) (by omega)]
    iintro ⟨H0, H1⟩ Hk
    iapply (step_rb A c (8 * 0) (by decide) (by decide) hv) $$ [H0]
    · iexact H0
    iintro H0
    iapply Hk
    iframe
  · rw [own_there (own := σ.own) (n := 0) (by omega), own_todo (n := 1) (by omega), own_there (n := 0) (by omega), own_there (n := 1) (by omega)]
    iintro ⟨H0, H1⟩ Hk
    iapply (step_rb A c (8 * 1) (by decide) (by decide) hv) $$ [H1]
    · iexact H1
    iintro H1
    iapply Hk
    iframe

/-- loading it. -/
theorem to_own_load (n : ℕ) (hn2 : n < 2) {X : sProp 𝕄} {σ : Ph} (hσ : n < σ.own) {inb : ∀ d, (![8 * n, 0, 0] : Fin 3 → ℕ) d + S1x128x256.size d ≤ S16x128x256.size d}
    {hl : (Memref.whole cc0_scratch2).view.LoadsAt (Rect.unit (s := S16x128x256) ![8 * n, 0, 0] S1x128x256.size inb).toLoadRect}
    {α : Type} {Q : α → sProp 𝕄} {k : Vec F S1x128x256 .bf16 → Prog (TpuEff nD τ sig (Elt F) Λ₀ .tc) α} (h : Hold A K c X σ ⊢ WP c (k (slab1 (rSlab A c) (8 * n) (by omega))) Q) :
    Hold A K c X σ ⊢ WP c (.op (.load (Memref.whole cc0_scratch2) (Rect.unit (s := S16x128x256) ![8 * n, 0, 0] S1x128x256.size inb).toLoadRect hl) k) Q := by
  refine via_own A K c (own := σ.own) ?_ h
  rcases (show n = 0 ∨ n = 1 by omega) with rfl | rfl
  · rw [own_there hσ]
    iintro ⟨H0, H1⟩ Hk
    iapply (step_rb_load A c (8 * 0) (by decide)) $$ [H0]
    · iexact H0
    iintro H0
    iapply Hk
    iframe
  · rw [own_there hσ (n := 1)]
    iintro ⟨H0, H1⟩ Hk
    iapply (step_rb_load A c (8 * 1) (by decide)) $$ [H1]
    · iexact H1
    iintro H1
    iapply Hk
    iframe

/-- The wait for the next incoming slab; -/
theorem to_take (i : ℕ) (hi : i ∈ slabs) {X : sProp 𝕄} {σ : Ph} (hσ : σ.recv ≤ i) (hm' : ∀ j ∈ slabs, σ.recv ≤ j → i ≤ j)
    (hp : σ.pay = 7) {s : DmaSem sig} (es : s = rS i) {sp sp' : Space} {t t' : Shape} {e e' : EltTy} {κ' : Kind}
    {src : Memref sig .tc sp' t' e'} {dst : Memref sig κ' sp t e} (hN : dst.view.dmaCredit = Ns) {hsrc : src.view.WordExact} {hdst : dst.view.WordExact}
    {α : Type} {Q : α → sProp 𝕄} {k : PUnit → Prog (TpuEff nD τ sig (Elt F) Λ₀ .tc) α} (h : Hold A K c X {σ with recv := i + 1} ⊢ WP c (k ⟨⟩) Q) :
    Hold A K c X σ ⊢ WP c (.op (.waitDma2 s src dst hsrc hdst) k) Q := by
  subst es
  refine via_take A K c i (recv := i + 1) hi (fun j hj hne => ?_) ?_ h
  · have := hm' j hj
    unfold takeSt
    simp only [show j < i + 1 ↔ j < σ.recv by omega]
  have hi16 := slabs_lt hi
  have h0 := slabs_ne hi
  have hS : (rS i).val = 22 + i := by show 22 + i % 16 = 22 + i; omega
  have hd : dmaPay A c (rS i).val = rb c i (rSlab A c) := by
    unfold dmaPay; rw [if_neg (by omega), if_pos (by omega), hS, show 22 + i - 22 = i by omega]
  rw [take_due hσ, take_there (by omega), hp, ← hd]
  iintro ⟨#HR, H, HW⟩ Hk
  iapply (step_wait A K c (rS i) 7 (by omega) (by omega) (N := Ns) (by rw [if_pos (by omega)]) (mayWait_slab c i)
    (fun R => by rw [← hN]; exact wpE_waitDma2_eq 𝒱₀ (c : Thread nD τ) none Set.univ R)) $$ [H HW]
  · iframe
    iexact HR
  iintro ⟨H1, H2, HW⟩
  iapply Hk
  iframe

/-- loading it. -/
theorem to_rb_load (i : ℕ) (hi : i ∈ slabs) {X : sProp 𝕄} {σ : Ph} (hσ : i < σ.recv) {inb : ∀ d, (![i, 0, 0] : Fin 3 → ℕ) d + S1x128x256.size d ≤ S16x128x256.size d}
    {hl : (Memref.whole cc0_scratch2).view.LoadsAt (Rect.unit (s := S16x128x256) ![i, 0, 0] S1x128x256.size inb).toLoadRect}
    {α : Type} {Q : α → sProp 𝕄} {k : Vec F S1x128x256 .bf16 → Prog (TpuEff nD τ sig (Elt F) Λ₀ .tc) α} (h : Hold A K c X σ ⊢ WP c (k (slab1 (rSlab A c) i (slabs_lt hi))) Q) :
    Hold A K c X σ ⊢ WP c (.op (.load (Memref.whole cc0_scratch2) (Rect.unit (s := S16x128x256) ![i, 0, 0] S1x128x256.size inb).toLoadRect hl) k) Q := by
  refine via_take A K c i (recv := σ.recv) hi (fun _ _ _ => rfl) ?_ h
  rw [take_there hσ]
  iintro ⟨-, ⟨H1, H2⟩, HW⟩ Hk
  iapply (step_rb_load A c i (slabs_lt hi)) $$ [H1]
  · iexact H1
  iintro H1
  iapply Hk
  iframe

/-! ## The rows -/

/-- A load of the buffer of the rows whose value is not used; -/
theorem to_bb_dead {X : sProp 𝕄} {σ : Ph} (hσ : σ.rows = false) {inb : ∀ d, (![0, 0] : Fin 2 → ℕ) d + S128x768.size d ≤ S128x768.size d}
    {hl : (Memref.whole cc0_scratch3).view.LoadsAt (Rect.unit (s := S128x768) ![0, 0] S128x768.size inb).toLoadRect}
    {α : Type} {Q : α → sProp 𝕄} {p : Prog (TpuEff nD τ sig (Elt F) Λ₀ .tc) α} (h : Hold A K c X σ ⊢ WP c p Q) :
    Hold A K c X σ ⊢ WP c (.op (.load (Memref.whole cc0_scratch3) (Rect.unit (s := S128x768) ![0, 0] S128x768.size inb).toLoadRect hl) fun _ => p) Q := by
  unfold Hold bufSt at h ⊢
  rw [hσ, if_neg (by decide)] at h ⊢
  iintro ⟨#HR, HI, HC, HW, HS, HT, HO, HP, HB, HF, HL, HU, HX⟩
  iapply (step_bb_dead c) $$ [HF]
  · iexact HF
  iintro HF
  iapply h
  iframe
  iexact HR

/-- storing them: the buffer is then shared out to the places it goes to. -/
theorem to_bb {X : sProp 𝕄} {σ : Ph} (hσ : σ.rows = false ∧ σ.bsent ≤ 1 ∧ σ.bdone ≤ 1)
    {inb : ∀ d, (![0, 0] : Fin 2 → ℕ) d + S128x768.size d ≤ S128x768.size d}
    {v : Vec F S128x768 .bf16} {hc : S128x768.ShapeCasts S128x768} (hv : v = shapeCast S128x768 (redBf A c) hc)
    {hx : ((Memref.whole cc0_scratch3).access (Rect.unit (s := S128x768) ![0, 0] S128x768.size inb)).Stores Finset.univ}
    {hm : (Finset.univ : Finset (Rect.unit (s := S128x768) ![0, 0] S128x768.size inb).shape.Idx) = Finset.univ
      ∨ ∀ d, (Rect.unit (s := S128x768) ![0, 0] S128x768.size inb).stride d = 1}
    {α : Type} {Q : α → sProp 𝕄} {k : PUnit → Prog (TpuEff nD τ sig (Elt F) Λ₀ .tc) α} (h : Hold A K c X {σ with rows := true} ⊢ WP c (k ⟨⟩) Q) :
    Hold A K c X σ ⊢ WP c (.op (.store (Memref.whole cc0_scratch3) (Rect.unit (s := S128x768) ![0, 0] S128x768.size inb) v Finset.univ hx hm) k) Q := by
  have e1 : (bigSep places (rowsSt A c false σ.bsent σ.bdone) : sProp 𝕄)
      = bigSep places fun s => iprop(BRes c s ∗ atPos ER (dCell c (bS s)) 0 ∅ 0) :=
    bigSep_congr fun s hs => by have := (Finset.mem_Ico.mp hs).1; exact rows_wait (by omega)
  have e2 : (bigSep places (rowsSt A c true σ.bsent σ.bdone) : sProp 𝕄)
      = iprop((bigSep places fun s => bbq c (bq s) (redBf A c)) ∗ bigSep places fun s => iprop(BRes c s ∗ atPos ER (dCell c (bS s)) 0 ∅ 0)) := by
    rw [← bigSep_sep']
    exact bigSep_congr fun s hs => by have := (Finset.mem_Ico.mp hs).1; exact rows_ready (by omega)
  unfold Hold bufSt at h ⊢
  rw [hσ.1, if_neg (by decide), e1]
  simp only [if_true, e2] at h
  iintro ⟨#HR, HI, HC, HW, HS, HT, HO, HP, HB, HF, HL, HU, HX⟩
  iapply (step_bb A c hv) $$ [HF]
  · iexact HF
  iintro HF
  ihave HF := (bb_split A c).1 $$ HF
  icases HF with ⟨HF, HQ⟩
  iapply h
  iframe
  iexact HR

/-- Sending the rows to the next place. -/
theorem to_bsend (s : ℕ) (hs : s ∈ places) {X : sProp 𝕄} {σ : Ph} (hr : σ.rows = true) (hσ : σ.bdone ≤ s ∧ σ.bsent ≤ s) (hm' : ∀ j ∈ places, σ.bsent ≤ j → s ≤ j)
    (hp : σ.pay = 8 - s) {n : Dev nD} (hn : n = fwd c s) {s1 s2 : DmaSem sig} (e1 : s1 = bS s) (e2 : s2 = gS s)
    {hsc : ((slotG (Memref.whole cc0_scratch4) s (Finset.mem_Ico.mp hs).2 : Memref sig (Dev.tc n : Thread nD τ).2.kind .vmem S128x768 .bf16)).view.ref.isScScratch = false}
    {hsrc : (Memref.whole cc0_scratch3).view.WordExact}
    {hdst : (slotG (Memref.whole cc0_scratch4) s (Finset.mem_Ico.mp hs).2 : Memref sig (Dev.tc n : Thread nD τ).2.kind .vmem S128x768 .bf16).view.WordExact}
    {hsem : DmaTarget.Typed .vmem (.dma s2) (.remote (Dev.tc n : Thread nD τ) (slotG (Memref.whole cc0_scratch4) s (Finset.mem_Ico.mp hs).2 : Memref sig (Dev.tc n : Thread nD τ).2.kind .vmem S128x768 .bf16) (.dma s1) hsc)}
    {α : Type} {Q : α → sProp 𝕄} {k : PUnit → Prog (TpuEff nD τ sig (Elt F) Λ₀ .tc) α} (h : Hold A K c X {σ with bsent := s + 1, pay := σ.pay - 1} ⊢ WP c (k ⟨⟩) Q) :
    Hold A K c X σ ⊢ WP c (.op (.enqueueDma (Memref.whole cc0_scratch3)
      (.remote (Dev.tc n : Thread nD τ) (slotG (Memref.whole cc0_scratch4) s (Finset.mem_Ico.mp hs).2) (.dma s1) hsc) (.dma s2) hsrc hdst hsem) k) Q := by
  refine via_rows A K c s (sent := s + 1) (done := σ.bdone) (pay := σ.pay - 1) hs (fun j hj hne => ?_) ?_ h
  · have := hm' j hj
    unfold rowsSt
    simp only [show j < s + 1 ↔ j < σ.bsent by omega]
  have hb := Finset.mem_Ico.mp hs
  rw [hr, rows_ready hσ, rows_sent (by omega), hp, show 8 - s - 1 = 7 - s by omega]
  iintro ⟨#HR, ⟨H1, H2, H3⟩, HW⟩ Hk
  iapply (step_bsend A K c s hb.1 hb.2 hn e1 e2) $$ [H1 H2 H3 HW]
  · iframe
    iexact HR
  iexact Hk

/-- The wait for the rows sent to a place. -/
theorem to_bdone (s : ℕ) (hs : s ∈ places) {X : sProp 𝕄} {σ : Ph} (hσ : σ.bdone ≤ s ∧ s < σ.bsent) (hm' : ∀ j ∈ places, σ.bdone ≤ j → s ≤ j)
    (hp : σ.pay = 0) {m : DmaSem sig} (es : m = bS s) {sp sp' : Space} {t t' : Shape} {e e' : EltTy} {κ' : Kind}
    {src : Memref sig .tc sp' t' e'} {dst : Memref sig κ' sp t e} (hN : dst.view.dmaCredit = Nb) {hsrc : src.view.WordExact} {hdst : dst.view.WordExact}
    {α : Type} {Q : α → sProp 𝕄} {k : PUnit → Prog (TpuEff nD τ sig (Elt F) Λ₀ .tc) α} (h : Hold A K c X {σ with bdone := s + 1} ⊢ WP c (k ⟨⟩) Q) :
    Hold A K c X σ ⊢ WP c (.op (.waitDma2 m src dst hsrc hdst) k) Q := by
  subst es
  refine via_rows A K c s (sent := σ.bsent) (done := s + 1) (pay := σ.pay) hs (fun j hj hne => ?_) ?_ h
  · have := hm' j hj
    unfold rowsSt
    simp only [show j < s + 1 ↔ j < σ.bdone by omega]
  have hb := Finset.mem_Ico.mp hs
  have hS : (bS s).val = 38 + s := by show 38 + s % 8 = 38 + s; omega
  have hd : dmaPay A c (bS s).val = bbq c (bq s) (redBf A c) := by
    unfold dmaPay; rw [if_neg (by omega), if_neg (by omega), if_pos (by omega), hS, show 38 + s - 38 = s by omega]
  rw [rows_sent hσ, rows_back (by omega), hp, ← hd]
  iintro ⟨#HR, H, HW⟩ Hk
  iapply (step_wait A K c (bS s) 0 (by omega) (by omega) (N := Nb) (by rw [if_neg (by omega)]) (mayWait_done c _)
    (fun R => by rw [← hN]; exact wpE_waitDma2_eq 𝒱₀ (c : Thread nD τ) none Set.univ R)) $$ [H HW]
  · iframe
    iexact HR
  iintro ⟨H1, H2, HW⟩
  iapply Hk
  iframe

/-- The wait for the rows from the next place back; -/
theorem to_land (s : ℕ) (hs : s ∈ places) {X : sProp 𝕄} {σ : Ph} (hσ : σ.brecv ≤ s) (hm' : ∀ j ∈ places, σ.brecv ≤ j → s ≤ j)
    (hp : σ.pay = 0) {m : DmaSem sig} (es : m = gS s) {sp sp' : Space} {t t' : Shape} {e e' : EltTy} {κ' : Kind}
    {src : Memref sig .tc sp' t' e'} {dst : Memref sig κ' sp t e} (hN : dst.view.dmaCredit = Nb) {hsrc : src.view.WordExact} {hdst : dst.view.WordExact}
    {α : Type} {Q : α → sProp 𝕄} {k : PUnit → Prog (TpuEff nD τ sig (Elt F) Λ₀ .tc) α} (h : Hold A K c X {σ with brecv := s + 1} ⊢ WP c (k ⟨⟩) Q) :
    Hold A K c X σ ⊢ WP c (.op (.waitDma2 m src dst hsrc hdst) k) Q := by
  subst es
  refine via_land A K c s (recv := s + 1) hs (fun j hj hne => ?_) ?_ h
  · have := hm' j hj
    unfold landSt
    simp only [show j < s + 1 ↔ j < σ.brecv by omega]
  have hb := Finset.mem_Ico.mp hs
  have hS : (gS s).val = 46 + s := by show 46 + s % 8 = 46 + s; omega
  have hd : dmaPay A c (gS s).val = gb c s (gSlab A c) := by
    unfold dmaPay; rw [if_neg (by omega), if_neg (by omega), if_neg (by omega), hS, show 46 + s - 46 = s by omega]
  rw [land_due hσ, land_there (by omega), hp, ← hd]
  iintro ⟨#HR, H, HW⟩ Hk
  iapply (step_wait A K c (gS s) 0 (by omega) (by omega) (N := Nb) (by rw [if_neg (by omega)]) (mayWait_done c _)
    (fun R => by rw [← hN]; exact wpE_waitDma2_eq 𝒱₀ (c : Thread nD τ) none Set.univ R)) $$ [H HW]
  · iframe
    iexact HR
  iintro ⟨H1, H2, HW⟩
  iapply Hk
  iframe

/-- loading them. -/
theorem to_gb_load (s : ℕ) (hs : s ∈ places) {X : sProp 𝕄} {σ : Ph} (hσ : s < σ.brecv) {inb : ∀ d, (![s, 0, 0] : Fin 3 → ℕ) d + S1x128x768.size d ≤ S8x128x768.size d}
    {hl : (Memref.whole cc0_scratch4).view.LoadsAt (Rect.unit (s := S8x128x768) ![s, 0, 0] S1x128x768.size inb).toLoadRect}
    {α : Type} {Q : α → sProp 𝕄} {k : Vec F S1x128x768 .bf16 → Prog (TpuEff nD τ sig (Elt F) Λ₀ .tc) α} (h : Hold A K c X σ ⊢ WP c (k (rowsV A c s (Finset.mem_Ico.mp hs).2)) Q) :
    Hold A K c X σ ⊢ WP c (.op (.load (Memref.whole cc0_scratch4) (Rect.unit (s := S8x128x768) ![s, 0, 0] S1x128x768.size inb).toLoadRect hl) k) Q := by
  refine via_land A K c s (recv := σ.brecv) hs (fun _ _ _ => rfl) ?_ h
  rw [land_there hσ]
  iintro ⟨-, ⟨H1, H2⟩, HW⟩ Hk
  iapply (step_gb_load A c s (Finset.mem_Ico.mp hs).2) $$ [H1]
  · iexact H1
  iintro H1
  iapply Hk
  iframe

end Steps

end Cert.KernelIdealProof
-- ==== Proof.Parts.lean ====
/-
  How the parts of the kernel are run.
-/
module

public import proofs.«01_k».proof.Proof.Steps

@[expose] public section

noncomputable section

namespace Cert.KernelIdealProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

/-- A part of the kernel applied to the staged blocks and the scratch buffers. -/
abbrev onBufs {β : Type 1} (f : (a0 : Memref sig .tc .vmem S1024x768 .bf16) → a0.IsWhole → (a1 : Memref sig .tc .vmem S768x512 .bf16) → a1.IsWhole
    → (a2 : Memref sig .tc .vmem S2x512x8x64 .bf16) → a2.IsWhole → (a3 : Memref sig .tc .vmem S2x512x8x64 .bf16) → a3.IsWhole
    → (a4 : Memref sig .tc .vmem S4096x768 .bf16) → a4.IsWhole → (a5 : Memref sig .tc .vmem S1024x768 .f32) → a5.IsWhole
    → (a6 : Memref sig .tc .vmem S1024x512 .bf16) → a6.IsWhole → (a7 : Memref sig .tc .vmem S16x128x256 .bf16) → a7.IsWhole
    → (a8 : Memref sig .tc .vmem S16x128x256 .bf16) → a8.IsWhole → (a9 : Memref sig .tc .vmem S128x768 .bf16) → a9.IsWhole
    → (a10 : Memref sig .tc .vmem S8x128x768 .bf16) → a10.IsWhole
    → DmaSems sig S16 → DmaSems sig S16 → DmaSems sig S8 → DmaSems sig S8 → β) : β :=
  f (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) cc0_scratch5 cc0_scratch6 cc0_scratch7 cc0_scratch8

/-- Device `c`'s query matrix. -/
abbrev qq (a : Ins F) : FVec F S1024x512 .bf16 := k0_pay1 a.x a.wq

/-- What a part returns is handed to what follows. -/
theorem to_end {A : Dev nD → Ins F} {K : GSem nD τ sig → ℕ} {c : Dev nD} {X : sProp 𝕄} {σ : Ph} {α : Type} {Q : α → sProp 𝕄} {v : α}
    (h : Hold A K c X σ ⊢ Q v) : Hold A K c X σ ⊢ WP c (.ret v) Q := by
  unfold WP
  rw [wp_ret]
  exact h.trans fupd_intro

/-- The rows a device computes lie at its own place; -/
theorem off4_at (c : Dev nD) : k0_off4 c = ![128 * ((c.val + 8 - 0) % 8), 0] := by
  have hc : c.val < 8 := c.isLt
  rw [k0_off4_eq, show (c.val + 8 - 0) % 8 = c.val by omega]

/-- those from `s` places back at that device's. -/
theorem off5_at (c : Dev nD) (s : ℕ) (h1 : 1 ≤ s) (hs : s < 8) : k0_off5 c (BitVec.ofNat 32 s) = ![128 * ((c.val + 8 - s) % 8), 0] := by
  have h := k0_off5_eq c (⟨s - 1, by omega⟩ : Fin 7)
  simp only [show 1 + (s - 1) = s by omega, show c.val + 7 - (s - 1) = c.val + 8 - s by omega] at h
  exact h

end Cert.KernelIdealProof
-- ==== Proof.Begin.lean ====
/-
  Up to the barrier.
-/
module

public import proofs.«01_k».proof.Proof.Parts

@[expose] public section

noncomputable section

namespace Cert.KernelIdealProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

/-! ## The slabs and the places -/

theorem slabs_split : slabs = places ∪ places.map (addLeftEmbedding 8) := by decide
theorem slabs_disjoint : Disjoint places (places.map (addLeftEmbedding 8)) := by decide
theorem places_fin : places = (Finset.univ.erase (0 : Fin 8)).map Fin.valEmbedding := by decide

/-- A family over the slabs is one over the places for each half of the columns. -/
theorem over_slabs (f : ℕ → sProp 𝕄) : bigSep slabs f = iprop(bigSep places f ∗ bigSep places fun s => f (8 + s)) := by
  rw [slabs_split, bigSep_union slabs_disjoint, bigSep_map]
  rfl

section Begin

variable (A : Dev nD → Ins F) (K : GSem nD τ sig → ℕ) (c : Dev nD)

/-- What device `c` needs, besides the place it goes to, to send slab `i`; -/
def SeedS (i : ℕ) : sProp 𝕄 :=
  iprop(dutyTok ER (dCell c (sS i)) 0 (0 : Fin 8) ∗ reached ER (dCell c (sS i)) 0 ∗ dutyTok ER (dCell (fwd c (i % 8)) (rS i)) 0 (0 : Fin 8))

/-- to send its rows `s` places on. -/
def SeedB (s : ℕ) : sProp 𝕄 :=
  iprop(dutyTok ER (dCell c (bS s)) 0 (0 : Fin 8) ∗ reached ER (dCell c (bS s)) 0 ∗ dutyTok ER (dCell (fwd c s) (gS s)) 0 (0 : Fin 8))

/-- What device `c` holds before the barrier, the signals to the devices from `j` places on still to be given. -/
def Begin (X : sProp 𝕄) (j : ℕ) : sProp 𝕄 :=
  iprop(Recs A K ∗ Inp (A c) c ∗ Ctx (A c) c 0 ∗ Owe c (29 - j) ∗ bigSep (Finset.Ico j 8) (SigRes c)
    ∗ (cred (tallyAt (barCell c) () 7) ∗ atPos ER (barCell c) 0 ∅ 0)
    ∗ (bigSep slabs fun i => iprop((∃ f, sb c i f) ∗ SeedS c i ∗ atPos ER (dCell c (sS i)) 0 ∅ 0))
    ∗ (bigSep slabs fun i => Due c (rS i) Ns) ∗ (∃ f, rb c 0 f) ∗ (∃ f, rb c 8 f)
    ∗ (bigSep places fun s => iprop(SeedB c s ∗ atPos ER (dCell c (bS s)) 0 ∅ 0))
    ∗ (∃ f, whole c cc0_scratch3 f) ∗ (bigSep places fun s => Due c (gS s) Nb) ∗ Out A c 0 ∗ X)

/-- What device `c` knows and holds of the place a slab goes to, after the barrier; -/
def PlaceS (i : ℕ) : sProp 𝕄 := iprop((∃ f, rb (fwd c (i % 8)) i f) ∗ reached ER (dCell (fwd c (i % 8)) (rS i)) 0)
/-- of the place its rows go to. -/
def PlaceB (s : ℕ) : sProp 𝕄 := iprop((∃ f, gb (fwd c s) s f) ∗ reached ER (dCell (fwd c s) (gS s)) 0)

theorem landed_at (s : ℕ) (hs : s < 8) :
    (landing (fwd c s) s : sProp 𝕄) ⊢ iprop((PlaceS c s ∗ PlaceS c (8 + s)) ∗ PlaceB c s) := by
  unfold landing PlaceS PlaceB
  rw [show s % 8 = s by omega, show (8 + s) % 8 = s by omega]
  iintro ⟨H1, H2, H3, H4, H5, H6⟩
  iframe

/-- What the signals of the other devices hand over. -/
theorem landed : (bigSep (Finset.univ.erase (0 : Fin 8)) fun d => (landing (fwd c d.val) d.val : sProp 𝕄))
    ⊢ iprop(bigSep slabs (PlaceS c) ∗ bigSep places (PlaceB c)) := by
  have e : (bigSep (Finset.univ.erase (0 : Fin 8)) fun d => (landing (fwd c d.val) d.val : sProp 𝕄))
      = bigSep places fun s => landing (fwd c s) s := by
    rw [places_fin, bigSep_map]; rfl
  rw [e, over_slabs]
  have h : (bigSep places fun s => (landing (fwd c s) s : sProp 𝕄))
      ⊢ bigSep places fun s => iprop((PlaceS c s ∗ PlaceS c (8 + s)) ∗ PlaceB c s) := bigSep_mono fun s hs => landed_at c s (Finset.mem_Ico.mp hs).2
  refine h.trans (Entails.of_eq ?_)
  rw [bigSep_sep', bigSep_sep']

/-- Together they are what a send needs. -/
theorem joinS (i : ℕ) : iprop(SeedS c i ∗ PlaceS c i) ⊢ (SendRes c i : sProp 𝕄) := by
  unfold SeedS PlaceS SendRes
  iintro ⟨⟨H1, H2, H3⟩, H4, H5⟩
  iframe
theorem joinB (s : ℕ) : iprop(SeedB c s ∗ PlaceB c s) ⊢ (BRes c s : sProp 𝕄) := by
  unfold SeedB PlaceB BRes
  iintro ⟨⟨H1, H2, H3⟩, H4, H5⟩
  iframe

theorem slab_start (i : ℕ) :
    iprop(((∃ f, sb c i f) ∗ SeedS c i ∗ atPos ER (dCell c (sS i)) 0 ∅ 0) ∗ PlaceS c i) ⊢ (slabSt A c 0 0 0 i : sProp 𝕄) := by
  have e : slabSt A c 0 0 0 i = iprop((∃ f, sb c i f) ∗ SendRes c i ∗ atPos ER (dCell c (sS i)) 0 ∅ 0) := slab_todo (by omega)
  rw [e]
  iintro ⟨⟨H1, H2, H3⟩, H4⟩
  iframe
  iapply (joinS c i)
  iframe

theorem row_start (s : ℕ) :
    iprop((SeedB c s ∗ atPos ER (dCell c (bS s)) 0 ∅ 0) ∗ PlaceB c s) ⊢ (rowsSt A c false 0 0 s : sProp 𝕄) := by
  have e : rowsSt A c false 0 0 s = iprop(BRes c s ∗ atPos ER (dCell c (bS s)) 0 ∅ 0) := rows_wait (by omega)
  rw [e]
  iintro ⟨⟨H1, H2⟩, H3⟩
  iframe
  iapply (joinB c s)
  iframe

theorem slabs_start :
    iprop((bigSep slabs fun i => iprop((∃ f, sb c i f) ∗ SeedS c i ∗ atPos ER (dCell c (sS i)) 0 ∅ 0)) ∗ bigSep slabs (PlaceS c))
      ⊢ (bigSep slabs (slabSt A c 0 0 0) : sProp 𝕄) := by
  rw [← bigSep_sep']
  exact bigSep_mono fun i _ => slab_start A c i

theorem rows_start :
    iprop((bigSep places fun s => iprop(SeedB c s ∗ atPos ER (dCell c (bS s)) 0 ∅ 0)) ∗ bigSep places (PlaceB c))
      ⊢ (bigSep places (rowsSt A c false 0 0) : sProp 𝕄) := by
  rw [← bigSep_sep']
  exact bigSep_mono fun i _ => row_start A c i

end Begin

section Steps

variable {A : Dev nD → Ins F} {K : GSem nD τ sig → ℕ} {c : Dev nD}

/-- A signal of the barrier; -/
theorem to_signal (s : ℕ) (h1 : 1 ≤ s) (h8 : s < 8) {X : sProp 𝕄} {n : Dev nD} (hn : n = fwd c s) {w : Int} (hw : w = ((1 : ℕ) : Int))
    {α : Type} {Q : α → sProp 𝕄} {k : PUnit → Prog (TpuEff nD τ sig (Elt F) Λ₀ .tc) α} (h : Begin A K c X (s + 1) ⊢ WP c (k ⟨⟩) Q) :
    Begin A K c X s ⊢ WP c (.op (.semSignal (n, Proc.tc) barS w) k) Q := by
  have e : (bigSep (Finset.Ico s 8) (SigRes c) : sProp 𝕄) = iprop(SigRes c s ∗ bigSep (Finset.Ico (s + 1) 8) (SigRes c)) := by
    rw [show Finset.Ico s 8 = insert s (Finset.Ico (s + 1) 8) by ext x; simp only [Finset.mem_insert, Finset.mem_Ico]; omega,
      bigSep_insert (by simp)]
    rfl
  unfold Begin at h ⊢
  rw [e]
  rw [show 29 - (s + 1) = 28 - s by omega] at h
  iintro ⟨#HR, HI, HC, HW, ⟨HG, HS⟩, HT⟩
  iapply (step_signal A K c s h1 h8 hn hw) $$ [HG HW]
  · iframe
    iexact HR
  iintro HW
  iapply h
  iframe
  iexact HR

/-- the wait for those of the others. -/
theorem to_barrier {X : sProp 𝕄} {w : Int} (hw : w = ((7 : ℕ) : Int))
    {α : Type} {Q : α → sProp 𝕄} {k : PUnit → Prog (TpuEff nD τ sig (Elt F) Λ₀ .tc) α}
    (h : Hold A K c iprop(atPos ER (barCell c) 1 ∅ 0 ∗ X) ⟨0, 0, 0, 0, 0, 0, 21, false, 0, 0, 0, 0⟩ ⊢ WP c (k ⟨⟩) Q) :
    Begin A K c X 8 ⊢ WP c (.op (.semWait barS w) k) Q := by
  have eT : (bigSep slabs (takeSt A c 0) : sProp 𝕄) = bigSep slabs fun i => Due c (rS i) Ns := bigSep_congr fun i _ => take_due (by omega)
  have eL : (bigSep places (landSt A c 0) : sProp 𝕄) = bigSep places fun s => Due c (gS s) Nb := bigSep_congr fun i _ => land_due (by omega)
  have e0 : ownSt A c 0 0 = iprop(∃ f, rb c 0 f) := own_todo (n := 0) (by omega)
  have e1 : ownSt A c 0 1 = iprop(∃ f, rb c 8 f) := own_todo (n := 1) (by omega)
  have eB : bufSt A c false = iprop(∃ f, whole c cc0_scratch3 f) := by unfold bufSt; rw [if_neg (by decide)]
  unfold Hold at h
  unfold Begin
  dsimp only at h
  rw [eT, eL, e0, e1, eB] at h
  iintro ⟨#HR, HI, HC, HW, -, ⟨Hb, Ha⟩, HS, HT, H0, H1, HB, HF, HL, HU, HX⟩
  iapply (step_barrier A K c hw) $$ [Hb Ha HW]
  · iframe
    iexact HR
  iintro ⟨Ha, Hl, HW⟩
  ihave Hl := (landed c) $$ Hl
  icases Hl with ⟨HPS, HPB⟩
  iapply h
  isplitr; · iexact HR
  isplitl [HI]; · iexact HI
  isplitl [HC]; · iexact HC
  isplitl [HW]; · iexact HW
  isplitl [HS HPS]
  · iapply (slabs_start A c); iframe
  isplitl [HT]; · iexact HT
  isplitl [H0]; · iexact H0
  isplitl [H1]; · iexact H1
  isplitl [HB HPB]
  · iapply (rows_start A c); iframe
  isplitl [HF]; · iexact HF
  isplitl [HL]; · iexact HL
  isplitl [HU]; · iexact HU
  isplitl [Ha]; · iexact Ha
  iexact HX

/-- The signals to the five devices after this one. -/
theorem part1 {X : sProp 𝕄} {Q : _ → sProp 𝕄}
    (h : ∀ w1 w2 w3 : BitVec 32, Begin A K c X 6 ⊢ Q ⟨c, w1, SemArray.scalar (sig.barrier 0 rfl), w2, w3⟩) :
    Begin A K c X 1 ⊢ WP c (onBufs (k0_part1 (F := F))) Q := by
  simp only [k0_part1_eq_skeleton]
  unfold k0_part1_skel
  simp only [Prog.lift, Prog.bind_op, Prog.bind_ret, Prog.pure_eq_ret, semSignalWord, semWaitWord, wp_deviceId]
  refine to_signal 1 (by decide) (by decide) (Fin.ext (k0_dev1_eq c)) (by decide) ?_
  refine to_signal 2 (by decide) (by decide) (Fin.ext (k0_dev2_eq c)) (by decide) ?_
  refine to_signal 3 (by decide) (by decide) (Fin.ext (k0_dev3_eq c)) (by decide) ?_
  refine to_signal 4 (by decide) (by decide) (Fin.ext (k0_dev4_eq c)) (by decide) ?_
  refine to_signal 5 (by decide) (by decide) (Fin.ext (k0_dev5_eq c)) (by decide) ?_
  unfold WP
  rw [wp_ret]
  exact (h _ _ _).trans fupd_intro

/-- The other signals, the wait, the query matrix, and the scores of the first head and batch. -/
theorem part2 {X : sProp 𝕄} {u1 u2 u3 : BitVec 32} {Q : _ → sProp 𝕄}
    (h : Hold A K c iprop(atPos ER (barCell c) 1 ∅ 0 ∗ X) ⟨0, 0, 0, 0, 0, 0, 21, false, 0, 0, 0, 0⟩
      ⊢ Q ⟨qq (A c), k0_pay2, k0_pay4 (A c).x (A c).wq (headBlk (A c).k 0 0 (by decide) (by decide)),
        k0_pay5 (A c).x (A c).wq (headBlk (A c).k 0 0 (by decide) (by decide))⟩) :
    Begin A K c X 6 ⊢ WP c (onBufs (k0_part2 (F := F)) c u1 (SemArray.scalar (sig.barrier 0 rfl)) u2 u3) Q := by
  simp only [k0_part2_eq_skeleton]
  unfold k0_part2_skel
  simp only [Prog.lift, Prog.bind_op, Prog.bind_ret, Prog.pure_eq_ret, semSignalWord, semWaitWord]
  refine to_signal 6 (by decide) (by decide) (Fin.ext (k0_dev6_eq c)) (by decide) ?_
  refine to_signal 7 (by decide) (by decide) (Fin.ext (k0_dev7_eq c)) (by decide) ?_
  refine to_barrier (by decide) ?_
  refine via_inp _ _ _ (step_x _ _) ?_
  refine via_inp _ _ _ (step_wq _ _) ?_
  refine via_inp _ _ _ (step_k _ _ 0 0 (by decide) (by decide)) ?_
  exact to_end h

end Steps

end Cert.KernelIdealProof
-- ==== Proof.Edges.lean ====
/-
  Families over the transfers, and the scratch buffers slot by slot.
-/
module

public import proofs.«01_k».proof.Proof.Begin
public import Idealize.ShloMosaic.Lib.Ring

@[expose] public section

noncomputable section

namespace Cert.KernelIdealProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

/-! ## Families over numbers -/

/-- A family over the first `n` numbers. -/
theorem over_fin (n : ℕ) (f : ℕ → sProp 𝕄) : bigSep Finset.univ (fun b : Fin n => f b.val) = bigSep (Finset.range n) f := by
  have e : Finset.range n = (Finset.univ : Finset (Fin n)).map Fin.valEmbedding := by
    ext x; simp only [Finset.mem_range, Finset.mem_map, Finset.mem_univ, true_and, Fin.valEmbedding_apply]
    exact ⟨fun h => ⟨⟨x, h⟩, rfl⟩, fun ⟨y, hy⟩ => hy ▸ y.isLt⟩
  rw [e, bigSep_map]
  rfl

/-- Sixteen slots are the two kept and the slabs; -/
theorem over_slots (f : ℕ → sProp 𝕄) : bigSep (Finset.range 16) f = iprop(f 0 ∗ f 8 ∗ bigSep slabs f) := by
  rw [show Finset.range 16 = insert 0 (insert 8 slabs) by decide, bigSep_insert (by decide), bigSep_insert (by decide)]
  rfl

/-- eight are the one kept and the places. -/
theorem over_places (f : ℕ → sProp 𝕄) : bigSep (Finset.range 8) f = iprop(f 0 ∗ bigSep places f) := by
  rw [show Finset.range 8 = insert 0 places by decide, bigSep_insert (by decide)]
  rfl

/-- The places may be counted from the other end. -/
theorem places_rev (f : ℕ → sProp 𝕄) : bigSep places (fun s => f (8 - s)) = bigSep places f := by
  have e : places = (Finset.univ : Finset (Fin 7)).map ⟨fun i => i.val + 1, fun x y h => Fin.ext (Nat.succ.inj h)⟩ := by decide
  rw [e, bigSep_map, bigSep_map, bigSep_univ_equiv Fin.revPerm]
  refine bigSep_congr fun i _ => ?_
  have h : i.val < 7 := i.isLt
  show f (8 - ((Fin.rev i).val + 1)) = f (i.val + 1)
  rw [Fin.val_rev]
  congr 1
  omega

/-- The transfer semaphores are the two of each slab and the two of each place. -/
theorem over_sems (g : DmaSem sig → sProp 𝕄) :
    bigSep Finset.univ (fun j : Fin 48 => g (dmaSem j))
      = iprop((bigSep (Finset.range 16) fun i => g (sS i)) ∗ (bigSep (Finset.range 16) fun i => g (rS i))
        ∗ (bigSep (Finset.range 8) fun s => g (bS s)) ∗ (bigSep (Finset.range 8) fun s => g (gS s))) := by
  let f : ℕ → sProp 𝕄 := fun j => g (⟨6 + j % 48, by omega⟩ : Fin 54)
  have e0 : bigSep Finset.univ (fun j : Fin 48 => g (dmaSem j)) = bigSep (Finset.range 48) f := by
    rw [← over_fin 48 f]
    refine bigSep_congr fun j _ => ?_
    have hj : j.val < 48 := j.isLt
    exact congrArg g (Fin.ext (show 6 + j.val = 6 + j.val % 48 by omega))
  have e1 : Finset.range 48 = Finset.range 16 ∪ ((Finset.range 16).map (addLeftEmbedding 16)
      ∪ ((Finset.range 8).map (addLeftEmbedding 32) ∪ (Finset.range 8).map (addLeftEmbedding 40))) := by decide
  rw [e0, e1, bigSep_union (by decide), bigSep_union (by decide), bigSep_union (by decide), bigSep_map, bigSep_map, bigSep_map]
  have h1 : bigSep (Finset.range 16) f = bigSep (Finset.range 16) fun i => g (sS i) :=
    bigSep_congr fun i hi => congrArg g (Fin.ext (show 6 + i % 48 = 6 + i % 16 by have := Finset.mem_range.mp hi; omega))
  have h2 : (bigSep (Finset.range 16) fun i => f (addLeftEmbedding 16 i)) = bigSep (Finset.range 16) fun i => g (rS i) :=
    bigSep_congr fun i hi => congrArg g (Fin.ext (show 6 + (16 + i) % 48 = 22 + i % 16 by have := Finset.mem_range.mp hi; omega))
  have h3 : (bigSep (Finset.range 8) fun i => f (addLeftEmbedding 32 i)) = bigSep (Finset.range 8) fun i => g (bS i) :=
    bigSep_congr fun i hi => congrArg g (Fin.ext (show 6 + (32 + i) % 48 = 38 + i % 8 by have := Finset.mem_range.mp hi; omega))
  have h4 : (bigSep (Finset.range 8) fun i => f (addLeftEmbedding 40 i)) = bigSep (Finset.range 8) fun i => g (gS i) :=
    bigSep_congr fun i hi => congrArg g (Fin.ext (show 6 + (40 + i) % 48 = 46 + i % 8 by have := Finset.mem_range.mp hi; omega))
  rw [h1, h2, h3, h4]
  rfl

/-! ## The scratch buffers, slot by slot -/

theorem slot16_disjoint (b b' : Fin 16) (h : b ≠ b') : Disjoint (slot16 b.val) (slot16 b'.val) :=
  Finset.disjoint_left.mpr fun x hx hx' => h (Fin.ext ((mem_slot16.mp hx).symm.trans (mem_slot16.mp hx')))
theorem slot8_disjoint (b b' : Fin 8) (h : b ≠ b') : Disjoint (slot8 b.val) (slot8 b'.val) :=
  Finset.disjoint_left.mpr fun x hx hx' => h (Fin.ext ((mem_slot8.mp hx).symm.trans (mem_slot8.mp hx')))
theorem slot16_cover : (Finset.univ : Finset (Fin 16)).biUnion (fun b => slot16 b.val) = Finset.univ := by
  ext x
  simp only [Finset.mem_biUnion, Finset.mem_univ, true_and, iff_true]
  exact ⟨⟨(x 0).val, (x 0).isLt⟩, mem_slot16.mpr rfl⟩
theorem slot8_cover : (Finset.univ : Finset (Fin 8)).biUnion (fun b => slot8 b.val) = Finset.univ := by
  ext x
  simp only [Finset.mem_biUnion, Finset.mem_univ, true_and, iff_true]
  exact ⟨⟨(x 0).val, (x 0).isLt⟩, mem_slot8.mpr rfl⟩

/-- Contents for no slot at all. -/
def any16 : Vec F S16x128x256 .bf16 := fun _ => (FloatOps.ofBits FTy.bf16 (0#16) : F FTy.bf16)
def any8 : Vec F S8x128x768 .bf16 := fun _ => (FloatOps.ofBits FTy.bf16 (0#16) : F FTy.bf16)

section Buffers

variable (c : Dev nD)

theorem sb_some (i : ℕ) (f : Vec F S16x128x256 .bf16) : (sb c i f : sProp 𝕄) ⊢ iprop(∃ f, sb c i f) := by
  iintro H; iexists f; iexact H
theorem rb_some (i : ℕ) (f : Vec F S16x128x256 .bf16) : (rb c i f : sProp 𝕄) ⊢ iprop(∃ f, rb c i f) := by
  iintro H; iexists f; iexact H
theorem gb_some (i : ℕ) (f : Vec F S8x128x768 .bf16) : (gb c i f : sProp 𝕄) ⊢ iprop(∃ f, gb c i f) := by
  iintro H; iexists f; iexact H

/-- The outgoing slots of a buffer held whole; -/
theorem sb_split : (iprop(∃ f, whole c cc0_scratch1 f) : sProp 𝕄) ⊢ bigSep (Finset.range 16) fun i => iprop(∃ f, sb c i f) := by
  iintro ⟨%f, H⟩
  ihave H := (Entails.of_eq (Ring.pointsTo_blocks (fun b : Fin 16 => slot16 b.val) slot16_disjoint slot16_cover f)) $$ H
  have h : (bigSep Finset.univ fun b : Fin 16 => (sb c b.val f : sProp 𝕄)) ⊢ bigSep (Finset.range 16) fun i => iprop(∃ f, sb c i f) := by
    rw [← over_fin 16]
    exact bigSep_mono fun b _ => sb_some c b.val f
  iapply h
  iexact H
/-- joined again. -/
theorem sb_join : (bigSep (Finset.range 16) fun i => iprop(∃ f, sb c i f) : sProp 𝕄) ⊢ iprop(∃ f, whole c cc0_scratch1 f) := by
  have h := Ring.pointsTo_blocks_join_exists (Ix := Unit) (Val := Elt F) (Name := ℕ) (U := UU) (Lvl := ℕ) (ℓ := (c : Thread nD τ).loc cc0_scratch1)
    (fun b : Fin 16 => slot16 b.val) slot16_disjoint slot16_cover (q := fullShare) any16
  rw [← over_fin 16]
  exact h

/-- The incoming slots; -/
theorem rb_split : (iprop(∃ f, whole c cc0_scratch2 f) : sProp 𝕄) ⊢ bigSep (Finset.range 16) fun i => iprop(∃ f, rb c i f) := by
  iintro ⟨%f, H⟩
  ihave H := (Entails.of_eq (Ring.pointsTo_blocks (fun b : Fin 16 => slot16 b.val) slot16_disjoint slot16_cover f)) $$ H
  have h : (bigSep Finset.univ fun b : Fin 16 => (rb c b.val f : sProp 𝕄)) ⊢ bigSep (Finset.range 16) fun i => iprop(∃ f, rb c i f) := by
    rw [← over_fin 16]
    exact bigSep_mono fun b _ => rb_some c b.val f
  iapply h
  iexact H
/-- joined again. -/
theorem rb_join : (bigSep (Finset.range 16) fun i => iprop(∃ f, rb c i f) : sProp 𝕄) ⊢ iprop(∃ f, whole c cc0_scratch2 f) := by
  have h := Ring.pointsTo_blocks_join_exists (Ix := Unit) (Val := Elt F) (Name := ℕ) (U := UU) (Lvl := ℕ) (ℓ := (c : Thread nD τ).loc cc0_scratch2)
    (fun b : Fin 16 => slot16 b.val) slot16_disjoint slot16_cover (q := fullShare) any16
  rw [← over_fin 16]
  exact h

/-- The landing slots of the broadcast; -/
theorem gb_split : (iprop(∃ f, whole c cc0_scratch4 f) : sProp 𝕄) ⊢ bigSep (Finset.range 8) fun s => iprop(∃ f, gb c s f) := by
  iintro ⟨%f, H⟩
  ihave H := (Entails.of_eq (Ring.pointsTo_blocks (fun b : Fin 8 => slot8 b.val) slot8_disjoint slot8_cover f)) $$ H
  have h : (bigSep Finset.univ fun b : Fin 8 => (gb c b.val f : sProp 𝕄)) ⊢ bigSep (Finset.range 8) fun i => iprop(∃ f, gb c i f) := by
    rw [← over_fin 8]
    exact bigSep_mono fun b _ => gb_some c b.val f
  iapply h
  iexact H
/-- joined again. -/
theorem gb_join : (bigSep (Finset.range 8) fun s => iprop(∃ f, gb c s f) : sProp 𝕄) ⊢ iprop(∃ f, whole c cc0_scratch4 f) := by
  have h := Ring.pointsTo_blocks_join_exists (Ix := Unit) (Val := Elt F) (Name := ℕ) (U := UU) (Lvl := ℕ) (ℓ := (c : Thread nD τ).loc cc0_scratch4)
    (fun b : Fin 8 => slot8 b.val) slot8_disjoint slot8_cover (q := fullShare) any8
  rw [← over_fin 8]
  exact h

/-- The scratch buffers, held whole at some contents. -/
def Scr : sProp 𝕄 :=
  iprop((∃ f, whole c cc0_scratch0 f) ∗ (∃ f, whole c cc0_scratch1 f) ∗ (∃ f, whole c cc0_scratch2 f)
    ∗ (∃ f, whole c cc0_scratch3 f) ∗ (∃ f, whole c cc0_scratch4 f))

end Buffers

end Cert.KernelIdealProof
-- ==== Proof.Close.lean ====
/-
  What a device that is done gives back.
-/
module

public import proofs.«01_k».proof.Proof.Edges

@[expose] public section

noncomputable section

namespace Cert.KernelIdealProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

/-- The kernel's own transfer semaphores. -/
abbrev osem (j : Fin 48) : SemLoc sig := .dma (dmaSem j)

section Close

variable (A : Dev nD → Ins F) (K : GSem nD τ sig → ℕ) (c : Dev nD)

/-- What device `c` never uses: the slots that nothing is sent from or lands in, and the cells that nothing is paid to. -/
def Idle : sProp 𝕄 :=
  iprop((∃ f, sb c 0 f) ∗ (∃ f, sb c 8 f) ∗ (∃ f, gb c 0 f)
    ∗ atPos ER (dCell c (sS 0)) 0 ∅ 0 ∗ atPos ER (dCell c (sS 8)) 0 ∅ 0 ∗ atPos ER (dCell c (rS 0)) 0 ∅ 0 ∗ atPos ER (dCell c (rS 8)) 0 ∅ 0
    ∗ atPos ER (dCell c (bS 0)) 0 ∅ 0 ∗ atPos ER (dCell c (gS 0)) 0 ∅ 0)

/-- A device that is done. -/
abbrev done : Ph := ⟨16, 16, 16, 16, 16, 2, 0, true, 8, 8, 8, 8⟩

/-- The owner of cell `m` is past its last duty. -/
def Past (m : DmaSem sig) : sProp 𝕄 := iprop(∃ R, ⌜∀ r, R ≤ r → (Rd A).duties (dCell c m) r = ∅⌝ ∗ atPos ER (dCell c m) R ∅ 0)

theorem past_used (m : DmaSem sig) : (atPos ER (dCell c m) 1 ∅ 0 : sProp 𝕄) ⊢ Past A c m := by
  unfold Past
  iintro H
  iexists 1
  isplitr
  · ipureintro; exact duties_later A _
  iexact H
theorem past_idle (m : DmaSem sig) (h : ¬ (6 ≤ m.val ∧ (m.val - 6) % 8 ≠ 0)) : (atPos ER (dCell c m) 0 ∅ 0 : sProp 𝕄) ⊢ Past A c m := by
  unfold Past
  iintro H
  iexists 0
  isplitr
  · ipureintro; exact fun r _ => duties_none A c m h r
  iexact H

/-- Such a cell is closed, its counter at zero; -/
theorem close_dma (j : Fin 48) : iprop(Recs A K ∗ Past A c (dmaSem j)) ⊢ (|={Set.univ}=> semVal ((c : Thread nD τ), osem j) 0 : sProp 𝕄) := by
  unfold Past
  iintro ⟨#HR, %R, %h, Hat⟩
  ihave HI := (recs_dma A K c (dmaSem j) (Nat.le_add_right 6 _)) $$ HR
  iapply (Rounds.cell_close ER (Rd A) (Set.mem_univ (K (dCell c (dmaSem j)))) id h)
  isplitl [HI]
  · iexact HI
  iexact Hat

/-- all of them are; -/
theorem close_dmas : iprop(Recs A K ∗ bigSep Finset.univ fun j : Fin 48 => Past A c (dmaSem j))
    ⊢ (|={Set.univ}=> Pipeline.ownSems0 osem c : sProp 𝕄) :=
  (bigSep_with_persistent fun j _ => close_dma A K c j).trans (bigSep_fupd _ _)

/-- and the barrier's cell. -/
theorem close_bar : iprop(Recs A K ∗ atPos ER (barCell c) 1 ∅ 0) ⊢ (|={Set.univ}=> semVal (barCell c) 0 : sProp 𝕄) := by
  iintro ⟨#HR, Hat⟩
  ihave HI := (recs_bar A K c) $$ HR
  iapply (Rounds.cell_close ER (Rd A) (Set.mem_univ (K (barCell c))) id (duties_later A (barCell c)))
  isplitl [HI]
  · iexact HI
  iexact Hat

/-! ## What a device that is done holds, member by member -/

theorem done_slab (i : ℕ) (h : i < 16) : (slabSt A c 16 16 16 i : sProp 𝕄) ⊢ iprop((∃ f, sb c i f) ∗ Past A c (sS i)) := by
  have e : slabSt A c 16 16 16 i = iprop(sb c i (sSlab A c) ∗ atPos ER (dCell c (sS i)) 1 ∅ 0) := slab_back h
  rw [e]
  exact BI.sep_mono (sb_some c i _) (past_used A c _)
theorem done_take (i : ℕ) (h : i < 16) : (takeSt A c 16 i : sProp 𝕄) ⊢ iprop((∃ f, rb c i f) ∗ Past A c (rS i)) := by
  have e : takeSt A c 16 i = iprop(rb c i (rSlab A c) ∗ atPos ER (dCell c (rS i)) 1 ∅ 0) := take_there h
  rw [e]
  exact BI.sep_mono (rb_some c i _) (past_used A c _)
theorem done_rows (s : ℕ) (h : s < 8) : (rowsSt A c true 8 8 s : sProp 𝕄) ⊢ iprop(bbq c (bq s) (redBf A c) ∗ Past A c (bS s)) := by
  have e : rowsSt A c true 8 8 s = iprop(bbq c (bq s) (redBf A c) ∗ atPos ER (dCell c (bS s)) 1 ∅ 0) := rows_back h
  rw [e]
  exact sep_mono_right (past_used A c _)
theorem done_land (s : ℕ) (h : s < 8) : (landSt A c 8 s : sProp 𝕄) ⊢ iprop((∃ f, gb c s f) ∗ Past A c (gS s)) := by
  have e : landSt A c 8 s = iprop(gb c s (gSlab A c) ∗ atPos ER (dCell c (gS s)) 1 ∅ 0) := land_there h
  rw [e]
  exact BI.sep_mono (gb_some c s _) (past_used A c _)

theorem done_slabs : (bigSep slabs (slabSt A c 16 16 16) : sProp 𝕄)
    ⊢ iprop((bigSep slabs fun i => iprop(∃ f, sb c i f)) ∗ bigSep slabs fun i => Past A c (sS i)) := by
  rw [← bigSep_sep']
  exact bigSep_mono fun i hi => done_slab A c i (slabs_lt hi)
theorem done_takes : (bigSep slabs (takeSt A c 16) : sProp 𝕄)
    ⊢ iprop((bigSep slabs fun i => iprop(∃ f, rb c i f)) ∗ bigSep slabs fun i => Past A c (rS i)) := by
  rw [← bigSep_sep']
  exact bigSep_mono fun i hi => done_take A c i (slabs_lt hi)
theorem done_rowss : (bigSep places (rowsSt A c true 8 8) : sProp 𝕄)
    ⊢ iprop((bigSep places fun s => bbq c (bq s) (redBf A c)) ∗ bigSep places fun s => Past A c (bS s)) := by
  rw [← bigSep_sep']
  exact bigSep_mono fun s hs => done_rows A c s (Finset.mem_Ico.mp hs).2
theorem done_lands : (bigSep places (landSt A c 8) : sProp 𝕄)
    ⊢ iprop((bigSep places fun s => iprop(∃ f, gb c s f)) ∗ bigSep places fun s => Past A c (gS s)) := by
  rw [← bigSep_sep']
  exact bigSep_mono fun s hs => done_land A c s (Finset.mem_Ico.mp hs).2

/-- All the result is there. -/
theorem done_out : (Out A c 8 : sProp 𝕄) ⊢ whole c cc0_stg5_0 (outAll A c) := by
  unfold Out
  iintro ⟨%f, %h, H⟩
  obtain rfl : f = outAll A c := funext fun i => h i (Nat.mod_lt _ (by decide))
  iexact H

/-- The buffer of the rows is whole again. -/
theorem done_buf : iprop(bbRest A c ∗ bigSep places fun s => bbq c (bq s) (redBf A c)) ⊢ (iprop(∃ f, whole c cc0_scratch3 f) : sProp 𝕄) := by
  refine (bb_split (A := A) (c := c)).2.trans ?_
  unfold bbq
  iintro H
  iexists redBf A c
  iexact H

/-- A device that is done gives everything back: the blocks, the result in place, the scratch buffers, its counters at
    zero, nothing owed. -/
theorem close_all :
    Hold A K c iprop(atPos ER (barCell c) 1 ∅ 0 ∗ Idle c) done
      ⊢ (|={Set.univ}=> iprop(Inp (A c) c ∗ whole c cc0_stg5_0 (outAll A c) ∗ Scr c ∗ Pipeline.ownSems0 osem c ∗ semVal (barCell c) 0 ∗ Owe c 0) : sProp 𝕄) := by
  have e0 : ownSt A c 2 0 = rb c 0 (rSlab A c) := own_there (by decide)
  have e8 : ownSt A c 2 1 = rb c 8 (rSlab A c) := own_there (by decide)
  have eb : (bufSt A c true : sProp 𝕄) = bbRest A c := rfl
  have es := over_sems (F := F) (Past A c)
  rw [over_slots, over_slots, over_places, over_places] at es
  unfold Hold Idle
  rw [e0, e8, eb]
  iintro ⟨#HR, HI, HC, HW, HS, HT, HO, HP, HB, HF, HL, HU, Hbar, Hs0, Hs8, Hg0, Ps0, Ps8, Pr0, Pr8, Pb0, Pg0⟩
  ihave HS := (done_slabs A c) $$ HS
  icases HS with ⟨HS, PS⟩
  ihave HT := (done_takes A c) $$ HT
  icases HT with ⟨HT, PT⟩
  ihave HB := (done_rowss A c) $$ HB
  icases HB with ⟨HB, PB⟩
  ihave HL := (done_lands A c) $$ HL
  icases HL with ⟨HL, PL⟩
  imod (close_bar A K c) $$ [Hbar] with Hbar
  · isplitr; · iexact HR
    iexact Hbar
  imod (close_dmas A K c) $$ [Ps0 Ps8 Pr0 Pr8 Pb0 Pg0 PS PT PB PL] with Hsem
  · isplitr; · iexact HR
    iapply (Entails.of_eq es.symm)
    ihave Ps0 := (past_idle A c (sS 0) (by decide)) $$ Ps0
    ihave Ps8 := (past_idle A c (sS 8) (by decide)) $$ Ps8
    ihave Pr0 := (past_idle A c (rS 0) (by decide)) $$ Pr0
    ihave Pr8 := (past_idle A c (rS 8) (by decide)) $$ Pr8
    ihave Pb0 := (past_idle A c (bS 0) (by decide)) $$ Pb0
    ihave Pg0 := (past_idle A c (gS 0) (by decide)) $$ Pg0
    iframe
  imodintro
  isplitl [HI]; · iexact HI
  isplitl [HU]; · iapply (done_out A c) $$ HU
  isplitr [Hsem Hbar HW]
  rotate_left
  · iframe
  unfold Scr
  isplitl [HC]
  · unfold Ctx
    icases HC with ⟨%f, -, HC⟩
    iexists f; iexact HC
  isplitl [HS Hs0 Hs8]
  · iapply (sb_join c)
    iapply (Entails.of_eq (over_slots (fun i => iprop(∃ f, sb c i f))).symm)
    iframe
  isplitl [HT HO HP]
  · iapply (rb_join c)
    iapply (Entails.of_eq (over_slots (fun i => iprop(∃ f, rb c i f))).symm)
    ihave HO := (rb_some c 0 _) $$ HO
    ihave HP := (rb_some c 8 _) $$ HP
    iframe
  isplitl [HF HB]
  · iapply (done_buf A c)
    iframe
  iapply (gb_join c)
  iapply (Entails.of_eq (over_places (fun i => iprop(∃ f, gb c i f))).symm)
  iframe

end Close

end Cert.KernelIdealProof
-- ==== Proof.Open.lean ====
/-
  From what the launch and the call hand device `c` to the beginning of its run.
-/
module

public import proofs.«01_k».proof.Proof.Close
public import Idealize.ShloMosaic.Lib.Rounds.Family

@[expose] public section

noncomputable section

namespace Cert.KernelIdealProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

section Open

variable (A : Dev nD → Ins F) (K : GSem nD τ sig → ℕ) (c : Dev nD)

/-- The tokens of the payments device `c` makes; -/
def PayTok : sProp 𝕄 :=
  iprop((bigSep places fun s => dutyTok ER (barCell (fwd c s)) 0 (⟨(8 - s) % 8, by omega⟩ : Fin 8))
    ∗ (bigSep slabs fun i => dutyTok ER (dCell c (sS i)) 0 (0 : Fin 8))
    ∗ (bigSep slabs fun i => dutyTok ER (dCell (fwd c (i % 8)) (rS i)) 0 (0 : Fin 8))
    ∗ (bigSep places fun s => dutyTok ER (dCell c (bS s)) 0 (0 : Fin 8))
    ∗ (bigSep places fun s => dutyTok ER (dCell (fwd c s) (gS s)) 0 (0 : Fin 8)))
/-- the credit for what the others pay it. -/
def PayCred : sProp 𝕄 :=
  iprop(cred (tallyAt (barCell c) () 7) ∗ (bigSep slabs fun i => cred (tallyAt (dCell c (rS i)) () Ns))
    ∗ (bigSep places fun s => cred (tallyAt (dCell c (gS s)) () Nb)))

/-- What the launch deals device `c`: its transfer cells not opened yet. -/
def Dealt : sProp 𝕄 :=
  iprop(∃ K : GSem nD τ sig → ℕ, ((bigSep (barCells ∪ dmaCells) fun g => cellInv ER (Rd A) (K g) g) ∗ (bigSep barCells fun g => reached ER g 0))
    ∗ atPos ER (barCell c) 0 ∅ 0 ∗ (bigSep Finset.univ fun j : Fin 48 => openTok ER (dCell c (dmaSem j))) ∗ PayTok c ∗ PayCred c)

/-- A cell that nothing has been paid to. -/
def Fresh (m : DmaSem sig) : sProp 𝕄 := iprop(atPos ER (dCell c m) 0 ∅ 0 ∗ reached ER (dCell c m) 0)

/-- The same with the transfer cells opened. -/
def Ready : sProp 𝕄 :=
  iprop(∃ K, Recs A K ∗ atPos ER (barCell c) 0 ∅ 0 ∗ (bigSep Finset.univ fun j : Fin 48 => Fresh c (dmaSem j)) ∗ PayTok c ∗ PayCred c)

/-- The call hands over the counters of the transfer cells, which opens them. -/
theorem open_cells : iprop(Dealt A c ∗ Pipeline.ownSems0 osem c ∗ levAts L lv) ⊢ (|={Set.univ}=> Ready A c : sProp 𝕄) := by
  unfold Dealt Ready Pipeline.ownSems0
  iintro ⟨⟨%K, ⟨#HI, #HR⟩, Hb, Ho, HT, HC⟩, Hs, #Hl⟩
  have hI : (bigSep (barCells ∪ dmaCells) fun g => (cellInv ER (Rd A) (K g) g : sProp 𝕄)) ⊢ bigSep Finset.univ fun j : Fin 48 => cellInv ER (Rd A) (K (dCell c (dmaSem j))) (dCell c (dmaSem j)) :=
    bigSep_intro_persistent fun j _ => bigSep_elim (Finset.mem_union_right _ (mem_dmaCells c (dmaSem j) (Nat.le_add_right 6 _)))
  imod (Rounds.cells_open ER (Rd A) Finset.univ (fun j : Fin 48 => dCell c (dmaSem j)) (fun j => K (dCell c (dmaSem j))) (fun _ _ => Set.mem_univ _)) $$ [Ho Hs] with HF
  · isplitl [Ho]
    · rw [bigSep_sep']
      isplitr
      · iapply hI; iexact HI
      iexact Ho
    iexact Hs
  imodintro
  iexists K
  unfold Recs
  isplitr
  · isplitr; · iexact HI
    isplitr; · iexact HR
    iexact Hl
  unfold Fresh
  iframe

theorem over_fresh (S : Finset ℕ) (g : ℕ → DmaSem sig) :
    (bigSep S fun i => Fresh (F := F) c (g i)) = iprop((bigSep S fun i => atPos ER (dCell c (g i)) 0 ∅ 0) ∗ bigSep S fun i => reached ER (dCell c (g i)) 0) := by
  unfold Fresh
  rw [bigSep_sep']

theorem over_landing : (bigSep places fun s => landing (F := F) c s)
    = iprop((bigSep places fun s => iprop(∃ f, rb c s f)) ∗ (bigSep places fun s => iprop(∃ f, rb c (8 + s) f)) ∗ (bigSep places fun s => iprop(∃ f, gb c s f))
      ∗ (bigSep places fun s => reached ER (dCell c (rS s)) 0) ∗ (bigSep places fun s => reached ER (dCell c (rS (8 + s))) 0) ∗ (bigSep places fun s => reached ER (dCell c (gS s)) 0)) := by
  unfold landing
  rw [bigSep_sep', bigSep_sep', bigSep_sep', bigSep_sep', bigSep_sep']

theorem over_sig : (bigSep places (SigRes (F := F) c))
    = iprop((bigSep places fun s => dutyTok ER (barCell (fwd c s)) 0 (⟨(8 - s) % 8, by omega⟩ : Fin 8)) ∗ bigSep places fun s => landing c s) := by
  rw [← places_rev (fun s => landing (F := F) c s), ← bigSep_sep']
  rfl

theorem over_seedS : (bigSep slabs fun i => iprop((∃ f, sb (F := F) c i f) ∗ SeedS c i ∗ atPos ER (dCell c (sS i)) 0 ∅ 0))
    = iprop((bigSep slabs fun i => iprop(∃ f, sb (F := F) c i f)) ∗ ((bigSep slabs fun i => dutyTok ER (dCell c (sS i)) 0 (0 : Fin 8))
      ∗ (bigSep slabs fun i => reached ER (dCell c (sS i)) 0) ∗ (bigSep slabs fun i => dutyTok ER (dCell (fwd c (i % 8)) (rS i)) 0 (0 : Fin 8)))
      ∗ bigSep slabs fun i => atPos ER (dCell c (sS i)) 0 ∅ 0) := by
  unfold SeedS
  rw [bigSep_sep', bigSep_sep', bigSep_sep', bigSep_sep']

theorem over_seedB : (bigSep places fun s => iprop(SeedB (F := F) c s ∗ atPos ER (dCell c (bS s)) 0 ∅ 0))
    = iprop(((bigSep places fun s => dutyTok ER (dCell c (bS s)) 0 (0 : Fin 8)) ∗ (bigSep places fun s => reached ER (dCell c (bS s)) 0)
      ∗ (bigSep places fun s => dutyTok ER (dCell (fwd c s) (gS s)) 0 (0 : Fin 8))) ∗ bigSep places fun s => atPos ER (dCell c (bS s)) 0 ∅ 0) := by
  unfold SeedB
  rw [bigSep_sep', bigSep_sep', bigSep_sep']

theorem over_due (S : Finset ℕ) (g : ℕ → DmaSem sig) (n : ℕ) : (bigSep S fun i => Due (F := F) c (g i) n)
    = iprop((bigSep S fun i => cred (tallyAt (dCell c (g i)) () n)) ∗ bigSep S fun i => atPos ER (dCell c (g i)) 0 ∅ 0) := by
  unfold Due
  rw [bigSep_sep']

theorem ctx_none (a : Ins F) : (iprop(∃ f, whole c cc0_scratch0 f) : sProp 𝕄) ⊢ Ctx a c 0 := by
  unfold Ctx
  iintro ⟨%f, H⟩
  iexists f
  isplitr
  · ipureintro; exact fun i h => absurd h (Nat.not_lt_zero _)
  iexact H
theorem out_none : (iprop(∃ f, whole c cc0_stg5_0 f) : sProp 𝕄) ⊢ Out A c 0 := by
  unfold Out
  iintro ⟨%f, H⟩
  iexists f
  isplitr
  · ipureintro; exact fun i h => absurd h (Nat.not_lt_zero _)
  iexact H

/-- With the blocks, the scratch buffers and the debts, the run begins. -/
theorem begin_all :
    iprop(Recs A K ∗ atPos ER (barCell c) 0 ∅ 0 ∗ (bigSep Finset.univ fun j : Fin 48 => Fresh c (dmaSem j)) ∗ PayTok c ∗ PayCred c
      ∗ Scr c ∗ Inp (A c) c ∗ (∃ f, whole c cc0_stg5_0 f) ∗ Owe c 28)
      ⊢ Begin A K c (Idle c) 1 := by
  have es := over_sems (F := F) (Fresh c)
  rw [over_slots, over_slots, over_places, over_places] at es
  have e1 : bigSep (Finset.Ico 1 8) (SigRes (F := F) c) = _ := over_sig c
  unfold Begin PayTok PayCred Scr Idle
  rw [e1, over_seedS, over_seedB, over_due, over_due, over_landing]
  iintro ⟨HR, Hb, HF, ⟨T1, T2, T3, T4, T5⟩, ⟨C1, C2, C3⟩, ⟨S0, S1, S2, S3, S4⟩, HI, HU, HO⟩
  ihave HF := (Entails.of_eq es) $$ HF
  rw [over_fresh, over_fresh, over_fresh, over_fresh]
  unfold Fresh
  icases HF with ⟨⟨⟨s0, -⟩, ⟨s8, -⟩, ss, sr⟩, ⟨⟨r0, -⟩, ⟨r8, -⟩, rs, rr⟩, ⟨⟨b0, -⟩, bs, br⟩, ⟨⟨g0, -⟩, gs, gr⟩⟩
  ihave S1 := (sb_split c) $$ S1
  ihave S1 := (Entails.of_eq (over_slots (fun i => iprop(∃ f, sb (F := F) c i f)))) $$ S1
  ihave S2 := (rb_split c) $$ S2
  ihave S2 := (Entails.of_eq (over_slots (fun i => iprop(∃ f, rb (F := F) c i f)))) $$ S2
  ihave S4 := (gb_split c) $$ S4
  ihave S4 := (Entails.of_eq (over_places (fun i => iprop(∃ f, gb (F := F) c i f)))) $$ S4
  icases S1 with ⟨s10, s18, S1⟩
  icases S2 with ⟨s20, s28, S2⟩
  icases S4 with ⟨s40, S4⟩
  ihave S2 := (Entails.of_eq (over_slabs (fun i => iprop(∃ f, rb (F := F) c i f)))) $$ S2
  ihave rr := (Entails.of_eq (over_slabs (fun i => reached ER (dCell c (rS i)) 0))) $$ rr
  icases S2 with ⟨S2, S2'⟩
  icases rr with ⟨rr, rr'⟩
  ihave HC := (ctx_none c (A c)) $$ S0
  ihave HU := (out_none A c) $$ HU
  isplitl [HR]; · iexact HR
  isplitl [HI]; · iexact HI
  isplitl [HC]; · iexact HC
  isplitl [HO]; · iexact HO
  isplitl [T1 S2 S2' S4 rr rr' gr]; · iframe
  isplitl [C1 Hb]; · iframe
  isplitl [S1 T2 T3 sr ss]; · iframe
  isplitl [C2 rs]; · iframe
  isplitl [s20]; · iexact s20
  isplitl [s28]; · iexact s28
  isplitl [T4 T5 br bs]; · iframe
  isplitl [S3]; · iexact S3
  isplitl [C3 gs]; · iframe
  isplitl [HU]; · iexact HU
  iframe

end Open

end Cert.KernelIdealProof
-- ==== Proof.Fund.lean ====
/-
  What the launch deals: the credits, the tokens, the invariants.
-/
module

public import proofs.«01_k».proof.Proof.Open
public import Idealize.ShloMosaic.Lib.Pipeline.Regions

@[expose] public section

noncomputable section

namespace Cert.KernelIdealProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

/-! ## The credits -/

/-- How far payment `p` goes, and to which semaphore. -/
def payStep (p : ℕ) : ℕ := if p < 7 then p + 1 else if p < 14 then p - 6 else if p < 21 then p - 13 else p - 20
def paySem (p : ℕ) : SemLoc sig :=
  if p < 7 then .reg barS else if p < 14 then .dma (rS (p - 6)) else if p < 21 then .dma (rS (8 + (p - 13))) else .dma (gS (p - 20))

theorem payCell_eq (c : Dev nD) (p : ℕ) : payCell c p = ((fwd c (payStep p) : Dev nD).tc, paySem p) := by
  unfold payCell payStep paySem
  split_ifs <;> rfl
theorem payStep_le (p : ℕ) (hp : p < 28) : payStep p ≤ 8 := by unfold payStep; split_ifs <;> omega

/-- The debt is the sum of the payments. -/
theorem debt_sum (c : Dev nD) (n : ℕ) : debt c n = ∑ q ∈ Finset.range n, tallyAt (payCell c (27 - q)) () (payAmt (27 - q)) := by
  induction n with
  | zero => rfl
  | succ n ih => rw [debt_succ, Finset.sum_range_succ, ih]
theorem debt_all (c : Dev nD) : debt c 28 = ∑ p ∈ Finset.range 28, tallyAt ((fwd c (payStep p) : Dev nD).tc, paySem p) () (payAmt p) := by
  rw [debt_sum, ← Finset.sum_range_reflect]
  refine Finset.sum_congr rfl fun p hp => ?_
  have := Finset.mem_range.mp hp
  rw [show 27 - (28 - 1 - p) = p by omega, payCell_eq]

theorem range_pay : Finset.range 28 = Finset.range 7 ∪ (places.map (addRightEmbedding 6) ∪ (places.map (addRightEmbedding 13) ∪ places.map (addRightEmbedding 20))) := by decide
theorem over_pays (f : ℕ → sProp 𝕄) : bigSep (Finset.range 28) f
    = iprop(bigSep (Finset.range 7) f ∗ (bigSep places fun s => f (s + 6)) ∗ (bigSep places fun s => f (s + 13)) ∗ bigSep places fun s => f (s + 20)) := by
  rw [range_pay, bigSep_union (by decide), bigSep_union (by decide), bigSep_union (by decide), bigSep_map, bigSep_map, bigSep_map]
  rfl

/-- Seven signals are one credit of seven units. -/
theorem seven (g : GSem nD τ sig) : (bigSep (Finset.range 7) fun _ => (cred (tallyAt g () 1) : sProp 𝕄)) = cred (tallyAt g () 7) := by
  rw [← Pipeline.cred_finsetSum]
  refine congrArg cred ?_
  simp only [Finset.sum_range_succ, Finset.sum_range_zero, zero_add, tallyAt_add]

/-- Every payment is credited to the device it goes to. -/
theorem creds (c : Dev nD) : (Pipeline.launchCred (fun d => debt d 28) c : sProp 𝕄) ⊢ PayCred c := by
  have e : (fun d : Dev nD => debt d 28) = fun d => ∑ p ∈ Finset.range 28, tallyAt ((fwd d (payStep p) : Dev nD).tc, paySem p) () (payAmt p) :=
    funext debt_all
  rw [e, Pipeline.launchCred_sum]
  have h : (bigSep (Finset.range 28) fun p => (Pipeline.launchCred (fun d => tallyAt ((fwd d (payStep p) : Dev nD).tc, paySem p) () (payAmt p)) c : sProp 𝕄))
      ⊢ bigSep (Finset.range 28) fun p => cred (tallyAt ((c : Dev nD).tc, paySem p) () (payAmt p)) :=
    bigSep_mono fun p hp => Pipeline.launchCred_tallyAt (paySem p) (fun d => fwd d (payStep p)) (fun d => bwd d (payStep p))
      (fun d => fwd_bwd d _ (payStep_le p (Finset.mem_range.mp hp))) (fun d => bwd_fwd d _ (payStep_le p (Finset.mem_range.mp hp))) () (payAmt p) c
  refine h.trans ?_
  rw [over_pays]
  have e1 : (bigSep (Finset.range 7) fun p => (cred (tallyAt ((c : Dev nD).tc, paySem p) () (payAmt p)) : sProp 𝕄)) = cred (tallyAt (barCell c) () 7) := by
    rw [← seven]
    refine bigSep_congr fun p hp => ?_
    have := Finset.mem_range.mp hp
    unfold paySem payAmt
    rw [if_pos this, if_pos this]
  have e2 : (bigSep places fun s => (cred (tallyAt ((c : Dev nD).tc, paySem (s + 6)) () (payAmt (s + 6))) : sProp 𝕄))
      = bigSep places fun s => cred (tallyAt (dCell c (rS s)) () Ns) := by
    refine bigSep_congr fun s hs => ?_
    have := Finset.mem_Ico.mp hs
    unfold paySem payAmt
    rw [if_neg (by omega), if_pos (by omega), if_neg (by omega), if_pos (by omega), Nat.add_sub_cancel]
  have e3 : (bigSep places fun s => (cred (tallyAt ((c : Dev nD).tc, paySem (s + 13)) () (payAmt (s + 13))) : sProp 𝕄))
      = bigSep places fun s => cred (tallyAt (dCell c (rS (8 + s))) () Ns) := by
    refine bigSep_congr fun s hs => ?_
    have := Finset.mem_Ico.mp hs
    unfold paySem payAmt
    rw [if_neg (by omega), if_neg (by omega), if_pos (by omega), if_neg (by omega), if_pos (by omega), Nat.add_sub_cancel]
  have e4 : (bigSep places fun s => (cred (tallyAt ((c : Dev nD).tc, paySem (s + 20)) () (payAmt (s + 20))) : sProp 𝕄))
      = bigSep places fun s => cred (tallyAt (dCell c (gS s)) () Nb) := by
    refine bigSep_congr fun s hs => ?_
    have := Finset.mem_Ico.mp hs
    unfold paySem payAmt
    rw [if_neg (by omega), if_neg (by omega), if_neg (by omega), if_neg (by omega), if_neg (by omega), Nat.add_sub_cancel]
  rw [e1, e2, e3, e4]
  unfold PayCred
  rw [over_slabs]
  iintro ⟨H1, H2, H3, H4⟩
  iframe

/-! ## The tokens -/

/-- The tokens dealt: every barrier cell's, one per transfer cell. -/
def barTok : Dev nD × Fin 8 ↪ GSem nD τ sig × ℕ × Fin 8 :=
  ⟨fun x => (barCell x.1, 0, x.2), fun x y h => Prod.ext (congrArg (fun t : GSem nD τ sig × ℕ × Fin 8 => t.1.1.1) h)
    (congrArg (fun t : GSem nD τ sig × ℕ × Fin 8 => t.2.2) h)⟩
def dmaTok : Dev nD × Fin 48 ↪ GSem nD τ sig × ℕ × Fin 8 :=
  ⟨fun x => (dmaEmb x, 0, 0), fun x y h => dmaEmb.injective (congrArg Prod.fst h)⟩
def toks : Finset (GSem nD τ sig × ℕ × Fin 8) := Finset.univ.map barTok ∪ Finset.univ.map dmaTok

theorem toks_disjoint : Disjoint (Finset.univ.map barTok) (Finset.univ.map dmaTok) := by
  rw [Finset.disjoint_left]
  rintro g h₁ h₂
  obtain ⟨x, -, rfl⟩ := Finset.mem_map.mp h₁
  obtain ⟨y, -, h⟩ := Finset.mem_map.mp h₂
  have h' : (SemLoc.dma (dmaSem y.2) : SemLoc sig) = SemLoc.reg barS := congrArg (fun t : GSem nD τ sig × ℕ × Fin 8 => t.1.2) h
  cases h'

/-- The tokens of device `c`'s own cells. -/
def OwnTok (c : Dev nD) : sProp 𝕄 :=
  iprop((bigSep places fun s => dutyTok ER (barCell c) 0 (⟨(8 - s) % 8, by omega⟩ : Fin 8))
    ∗ (bigSep slabs fun i => dutyTok ER (dCell c (sS i)) 0 (0 : Fin 8))
    ∗ (bigSep slabs fun i => dutyTok ER (dCell c (rS i)) 0 (0 : Fin 8))
    ∗ (bigSep places fun s => dutyTok ER (dCell c (bS s)) 0 (0 : Fin 8))
    ∗ (bigSep places fun s => dutyTok ER (dCell c (gS s)) 0 (0 : Fin 8)))

theorem own_tok (c : Dev nD) :
    iprop((bigSep Finset.univ fun d : Fin 8 => dutyTok ER (barCell c) 0 d) ∗ bigSep Finset.univ fun j : Fin 48 => dutyTok ER (dCell c (dmaSem j)) 0 (0 : Fin 8))
      ⊢ (OwnTok c : sProp 𝕄) := by
  have e1 : (bigSep Finset.univ fun d : Fin 8 => (dutyTok ER (barCell c) 0 d : sProp 𝕄))
      = iprop(dutyTok ER (barCell c) 0 (0 : Fin 8) ∗ bigSep places fun s => dutyTok ER (barCell c) 0 (⟨(8 - s) % 8, by omega⟩ : Fin 8)) := by
    have e : (bigSep Finset.univ fun d : Fin 8 => (dutyTok ER (barCell c) 0 d : sProp 𝕄))
        = bigSep Finset.univ fun d : Fin 8 => dutyTok ER (barCell c) 0 (⟨d.val % 8, by omega⟩ : Fin 8) :=
      bigSep_congr fun d _ => by rw [show (⟨d.val % 8, by omega⟩ : Fin 8) = d from Fin.ext (Nat.mod_eq_of_lt d.isLt)]
    rw [e, over_fin 8 (fun n => dutyTok ER (barCell c) 0 (⟨n % 8, by omega⟩ : Fin 8)), over_places,
      ← places_rev (fun n => dutyTok ER (barCell c) 0 (⟨n % 8, by omega⟩ : Fin 8))]
    rfl
  have e2 := over_sems (F := F) (fun m => dutyTok ER (dCell c m) 0 (0 : Fin 8))
  rw [over_slots, over_slots, over_places, over_places] at e2
  unfold OwnTok
  rw [e1]
  iintro ⟨⟨-, H1⟩, H⟩
  ihave H := (Entails.of_eq e2) $$ H
  icases H with ⟨⟨-, -, H2⟩, ⟨-, -, H3⟩, ⟨-, H4⟩, ⟨-, H5⟩⟩
  iframe

/-- The devices `s` places on are all the devices. -/
def rot (s : ℕ) (hs : s ≤ 8) : Dev nD ≃ Dev nD := ⟨fun c => fwd c s, fun c => bwd c s, fun c => bwd_fwd c s hs, fun c => fwd_bwd c s hs⟩

theorem around (S : Finset ℕ) (st : ℕ → ℕ) (hs : ∀ i ∈ S, st i ≤ 8) (Φ : Dev nD → ℕ → sProp 𝕄) :
    (bigSep Finset.univ fun c => bigSep S (Φ c)) = bigSep Finset.univ fun c => bigSep S fun i => Φ (fwd c (st i)) i := by
  induction S using Finset.induction_on with
  | empty => rfl
  | insert i S hi ih =>
    have e1 : (fun c : Dev nD => bigSep (insert i S) (Φ c)) = fun c => iprop(Φ c i ∗ bigSep S (Φ c)) := funext fun c => bigSep_insert hi
    have e2 : (fun c : Dev nD => bigSep (insert i S) fun i => Φ (fwd c (st i)) i) = fun c => iprop(Φ (fwd c (st i)) i ∗ bigSep S fun i => Φ (fwd c (st i)) i) :=
      funext fun c => bigSep_insert hi
    rw [e1, e2, bigSep_sep', bigSep_sep', ih fun j hj => hs j (Finset.mem_insert_of_mem hj),
      bigSep_univ_equiv (rot (st i) (hs i (Finset.mem_insert_self _ _))) (fun c => Φ c i)]
    rfl

/-- Each token goes to the device that pays with it. -/
theorem toks_around : (bigSep Finset.univ fun c : Dev nD => (OwnTok c : sProp 𝕄)) = bigSep Finset.univ fun c : Dev nD => PayTok c := by
  unfold OwnTok PayTok
  rw [bigSep_sep', bigSep_sep', bigSep_sep', bigSep_sep', bigSep_sep', bigSep_sep', bigSep_sep', bigSep_sep',
    around places (fun s => s) (fun s hs => (Finset.mem_Ico.mp hs).2.le) (fun c s => dutyTok ER (barCell c) 0 (⟨(8 - s) % 8, by omega⟩ : Fin 8)),
    around slabs (fun i => i % 8) (fun i _ => (Nat.mod_lt i (by decide)).le) (fun c i => dutyTok ER (dCell c (rS i)) 0 (0 : Fin 8)),
    around places (fun s => s) (fun s hs => (Finset.mem_Ico.mp hs).2.le) (fun c s => dutyTok ER (dCell c (gS s)) 0 (0 : Fin 8))]

theorem toks_dealt : bigSep toks (fun x => (dutyTok ER x.1 x.2.1 x.2.2 : sProp 𝕄)) ⊢ bigSep Finset.univ fun c : Dev nD => PayTok c := by
  unfold toks
  rw [← toks_around, bigSep_union toks_disjoint, bigSep_map, bigSep_map, bigSep_univ_prod, bigSep_univ_prod]
  have h : (bigSep Finset.univ fun c : Dev nD => iprop((bigSep Finset.univ fun d : Fin 8 => dutyTok ER (barCell c) 0 d) ∗ bigSep Finset.univ fun j : Fin 48 => dutyTok ER (dCell c (dmaSem j)) 0 (0 : Fin 8)))
      ⊢ bigSep Finset.univ fun c : Dev nD => (OwnTok c : sProp 𝕄) := bigSep_mono fun c _ => own_tok c
  rw [bigSep_sep'] at h
  exact h

/-! ## The launch -/

theorem cells_disjoint : Disjoint (barCells : Finset (GSem nD τ sig)) dmaCells := by
  rw [Finset.disjoint_left]
  rintro g h₁ h₂
  obtain ⟨c, -, rfl⟩ := Finset.mem_map.mp h₁
  obtain ⟨y, -, h⟩ := Finset.mem_map.mp h₂
  have h' : (SemLoc.dma (dmaSem y.2) : SemLoc sig) = SemLoc.reg barS := congrArg Prod.snd h
  cases h'

theorem unscopedSems_bar (c : Dev nD) : (unscopedSems0 c : sProp 𝕄) = semVal (barCell c) 0 := by
  unfold unscopedSems0
  rw [show (Finset.univ.filter fun sm : SemLoc sig => ¬ sm.isScoped .tc) = {SemLoc.reg barS} from by decide, bigSep_singleton]

/-- The launch's ghost state: the library's for the blocks' transfers, the schedule's for the kernel's own; the latter is
    kept at device 0 until it is dealt. -/
def u₀ : UU :=
  (initOf (Pipeline.cells (Pipeline.pin (pcfgs (F := F)) adm) cellOf_inj) (Pipeline.launchToks (Pipeline.pin (pcfgs (F := F)) adm) cellOf_inj),
    launchOf barCells dmaCells toks)
def kept (c : Dev nD) : sProp 𝕄 := if c = 0 then BI.own (ER (launchOf barCells dmaCells toks)) else iprop(emp)
theorem all_kept : bigSep Finset.univ kept = (BI.own (ER (launchOf barCells dmaCells toks)) : sProp 𝕄) := by
  rw [bigSep_univ_at _ (0 : Dev nD), bigSep_congr (s := Finset.univ.erase (0 : Dev nD)) (Ψ := fun _ => (BI.emp : sProp 𝕄))
      fun c hc => by unfold kept; rw [if_neg (Finset.ne_of_mem_erase hc)]; rfl, bigSep_emp_const]
  unfold kept
  rw [if_pos rfl]
  exact equiv_iff.mp sep_emp

section Launch

variable (A : Dev nD → Ins F) (ρ : Dev nD → PrngReg)

/-- What rides beside the buffers before the call. -/
def Before (c : Dev nD) : sProp 𝕄 := iprop(Dealt A c ∗ (∃ r, prngReg c r) ∗ Owe c 28)

/-- What device `c` gets of the launch besides the ghost state; -/
def Plain (c : Dev nD) : sProp 𝕄 := iprop(PayCred c ∗ (∃ r, prngReg c r) ∗ Owe c 28)
/-- and of the ghost state. -/
def Ghost (c : Dev nD) : sProp 𝕄 :=
  iprop(atPos ER (barCell c) 0 ∅ 0 ∗ (bigSep Finset.univ fun j : Fin 48 => openTok ER (dCell c (dmaSem j))) ∗ PayTok c)
def Known (K : GSem nD τ sig → ℕ) : sProp 𝕄 :=
  iprop((bigSep (barCells ∪ dmaCells) fun g => cellInv ER (Rd A) (K g) g) ∗ (bigSep barCells fun g => reached ER g 0))
instance Known_persistent (K : GSem nD τ sig → ℕ) : BI.Persistent (Known A K) := by unfold Known; infer_instance

theorem before_intro (K : GSem nD τ sig → ℕ) (c : Dev nD) : iprop(Known A K ∗ (Ghost c ∗ Plain c)) ⊢ Before A c := by
  unfold Known Ghost Plain Before Dealt
  iintro ⟨HK, ⟨H1, H2, H3⟩, H4, H5, H6⟩
  iframe
  iexists K
  iframe

theorem plain_intro (c : Dev nD) :
    iprop(unscopedSems0 c ∗ owes (c : Thread nD τ) (debt c 28) ∅ ∗ Pipeline.launchCred (fun d => debt d 28) c ∗ prngReg c (ρ c) ∗ kept c)
      ⊢ (iprop(Plain c ∗ semVal (barCell c) 0 ∗ kept c) : sProp 𝕄) := by
  rw [unscopedSems_bar]
  unfold Plain Owe
  iintro ⟨Hs, HO, HC, Hp, HG⟩
  ihave HC := (creds c) $$ HC
  iframe
  isplitl [Hp]
  · iexists (ρ c); iexact Hp
  iexists ∅
  iexact HO

/-- All devices at once are dealt what they start with. -/
theorem deal :
    iprop((bigSep Finset.univ fun c : Dev nD => iprop(unscopedSems0 c ∗ owes (c : Thread nD τ) (debt c 28) ∅ ∗ Pipeline.launchCred (fun d => debt d 28) c
        ∗ prngReg c (ρ c) ∗ kept c)) ∗ levAts L lv)
      ⊢ (|={Set.univ}=> bigSep Finset.univ (Before A) : sProp 𝕄) := by
  have h1 : (bigSep Finset.univ fun c : Dev nD => iprop(unscopedSems0 c ∗ owes (c : Thread nD τ) (debt c 28) ∅ ∗ Pipeline.launchCred (fun d => debt d 28) c
        ∗ prngReg c (ρ c) ∗ kept c))
      ⊢ (iprop((bigSep Finset.univ fun c : Dev nD => Plain c) ∗ (bigSep Finset.univ fun c : Dev nD => semVal (barCell c) 0) ∗ bigSep Finset.univ kept) : sProp 𝕄) := by
    rw [← bigSep_sep', ← bigSep_sep']
    exact bigSep_mono fun c _ => plain_intro ρ c
  have h2 : (bigSep Finset.univ fun c : Dev nD => iprop(Ghost c ∗ Plain c))
      = (iprop(((bigSep Finset.univ fun c : Dev nD => atPos ER (barCell c) 0 ∅ 0)
        ∗ (bigSep Finset.univ fun c : Dev nD => bigSep Finset.univ fun j : Fin 48 => openTok ER (dCell c (dmaSem j)))
        ∗ bigSep Finset.univ fun c : Dev nD => PayTok c) ∗ bigSep Finset.univ fun c : Dev nD => Plain c) : sProp 𝕄) := by
    unfold Ghost
    rw [bigSep_sep', bigSep_sep', bigSep_sep']
  have hv : (bigSep Finset.univ fun c : Dev nD => (semVal (barCell c) 0 : sProp 𝕄)) = bigSep barCells fun g => semVal g 0 :=
    (bigSep_map (s := Finset.univ) barEmb (Φ := fun g : GSem nD τ sig => (semVal g 0 : sProp 𝕄))).symm
  have ha : (bigSep barCells fun g => (atPos ER g 0 ∅ 0 : sProp 𝕄)) = bigSep Finset.univ fun c : Dev nD => atPos ER (barCell c) 0 ∅ 0 :=
    bigSep_map (s := Finset.univ) barEmb (Φ := fun g : GSem nD τ sig => (atPos ER g 0 ∅ 0 : sProp 𝕄))
  have ho : (bigSep dmaCells fun g => (openTok ER g : sProp 𝕄)) = bigSep Finset.univ fun c : Dev nD => bigSep Finset.univ fun j : Fin 48 => openTok ER (dCell c (dmaSem j)) := by
    rw [bigSep_map, bigSep_univ_prod]; rfl
  iintro ⟨H, -⟩
  ihave H := h1 $$ H
  icases H with ⟨HP, Hv, HG⟩
  ihave HG := (Entails.of_eq all_kept) $$ HG
  imod (Rounds.fund_launch ER (Rd A) cells_disjoint (fun g _ h => h) toks) $$ [Hv HG] with ⟨%K, -, #Hinv, #Hr, Hat, Hopen, Htok⟩
  · isplitl [Hv]
    · iapply (Entails.of_eq hv); iexact Hv
    iexact HG
  imodintro
  iapply (bigSep_with_persistent (R := Known A K) (Φ := fun c => iprop(Ghost c ∗ Plain c)) fun c _ => before_intro A K c)
  isplitr
  · unfold Known
    isplitr; · iexact Hinv
    iexact Hr
  rw [h2]
  ihave Hat := (Entails.of_eq ha) $$ Hat
  ihave Hopen := (Entails.of_eq ho) $$ Hopen
  ihave Htok := toks_dealt $$ Htok
  iframe

end Launch

end Cert.KernelIdealProof
-- ==== Proof.PartsHeads.lean ====
/-
  The parts that compute the attention of the heads.
-/
module

public import proofs.«01_k».proof.Proof.Parts

@[expose] public section

noncomputable section

namespace Cert.KernelIdealProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

section Parts

variable {A : Dev nD → Ins F} {K : GSem nD τ sig → ℕ} {c : Dev nD}

/-- Head 0. -/
theorem part3 {X : sProp 𝕄} {Q : _ → sProp 𝕄}
    (h : Hold A K c X ⟨2, 0, 0, 0, 0, 0, 21, false, 0, 0, 0, 0⟩ ⊢ Q (k0_pay8 (qq (A c)))) :
    Hold A K c X ⟨0, 0, 0, 0, 0, 0, 21, false, 0, 0, 0, 0⟩ ⊢ WP c (onBufs (k0_part3 (F := F)) (qq (A c)) k0_pay2 (k0_pay4 (A c).x (A c).wq (headBlk (A c).k 0 0 (by decide) (by decide))) (k0_pay5 (A c).x (A c).wq (headBlk (A c).k 0 0 (by decide) (by decide)))) Q := by
  simp only [k0_part3_eq_skeleton]
  unfold k0_part3_skel
  simp only [Prog.lift, Prog.bind_op, Prog.bind_ret, Prog.pure_eq_ret]
  refine via_inp _ _ _ (step_v _ _ 0 0 (by decide) (by decide)) ?_
  refine via_ctx _ _ _ (step_ctx_dead _ _ _) ?_
  refine via_ctx _ _ _ (step_ctx _ _ 0 0 (by decide) (by decide) rfl) ?_
  refine via_inp _ _ _ (step_k _ _ 1 0 (by decide) (by decide)) ?_
  refine via_inp _ _ _ (step_v _ _ 1 0 (by decide) (by decide)) ?_
  refine via_ctx _ _ _ (step_ctx_dead _ _ _) ?_
  refine via_ctx _ _ _ (step_ctx _ _ 1 0 (by decide) (by decide) rfl) ?_
  exact to_end h

/-- Head 1, first batch. -/
theorem part4 {X : sProp 𝕄} {Q : _ → sProp 𝕄}
    (h : Hold A K c X ⟨3, 0, 0, 0, 0, 0, 21, false, 0, 0, 0, 0⟩ ⊢ Q ⟨k0_pay11 (qq (A c)) k0_pay2 (headBlk (A c).k 1 1 (by decide) (by decide)), k0_pay12 (qq (A c)) k0_pay2 (headBlk (A c).k 1 1 (by decide) (by decide))⟩) :
    Hold A K c X ⟨2, 0, 0, 0, 0, 0, 21, false, 0, 0, 0, 0⟩ ⊢ WP c (onBufs (k0_part4 (F := F)) (qq (A c)) k0_pay2 (k0_pay8 (qq (A c)))) Q := by
  simp only [k0_part4_eq_skeleton]
  unfold k0_part4_skel
  simp only [Prog.lift, Prog.bind_op, Prog.bind_ret, Prog.pure_eq_ret]
  refine via_inp _ _ _ (step_k _ _ 0 1 (by decide) (by decide)) ?_
  refine via_inp _ _ _ (step_v _ _ 0 1 (by decide) (by decide)) ?_
  refine via_ctx _ _ _ (step_ctx_dead _ _ _) ?_
  refine via_ctx _ _ _ (step_ctx _ _ 0 1 (by decide) (by decide) rfl) ?_
  refine via_inp _ _ _ (step_k _ _ 1 1 (by decide) (by decide)) ?_
  exact to_end h

/-- Head 1, second batch; head 2, first. -/
theorem part5 {X : sProp 𝕄} {Q : _ → sProp 𝕄}
    (h : Hold A K c X ⟨5, 0, 0, 0, 0, 0, 21, false, 0, 0, 0, 0⟩ ⊢ Q (k0_pay15 (qq (A c)))) :
    Hold A K c X ⟨3, 0, 0, 0, 0, 0, 21, false, 0, 0, 0, 0⟩ ⊢ WP c (onBufs (k0_part5 (F := F)) (qq (A c)) k0_pay2 (k0_pay11 (qq (A c)) k0_pay2 (headBlk (A c).k 1 1 (by decide) (by decide))) (k0_pay12 (qq (A c)) k0_pay2 (headBlk (A c).k 1 1 (by decide) (by decide)))) Q := by
  simp only [k0_part5_eq_skeleton]
  unfold k0_part5_skel
  simp only [Prog.lift, Prog.bind_op, Prog.bind_ret, Prog.pure_eq_ret]
  refine via_inp _ _ _ (step_v _ _ 1 1 (by decide) (by decide)) ?_
  refine via_ctx _ _ _ (step_ctx_dead _ _ _) ?_
  refine via_ctx _ _ _ (step_ctx _ _ 1 1 (by decide) (by decide) rfl) ?_
  refine via_inp _ _ _ (step_k _ _ 0 2 (by decide) (by decide)) ?_
  refine via_inp _ _ _ (step_v _ _ 0 2 (by decide) (by decide)) ?_
  refine via_ctx _ _ _ (step_ctx_dead _ _ _) ?_
  refine via_ctx _ _ _ (step_ctx _ _ 0 2 (by decide) (by decide) rfl) ?_
  exact to_end h

/-- Head 2, second batch. -/
theorem part6 {X : sProp 𝕄} {Q : _ → sProp 𝕄}
    (h : Hold A K c X ⟨6, 0, 0, 0, 0, 0, 21, false, 0, 0, 0, 0⟩ ⊢ Q ⟨k0_pay18 (qq (A c)) k0_pay2 (headBlk (A c).k 0 3 (by decide) (by decide)), k0_pay19 (qq (A c)) k0_pay2 (headBlk (A c).k 0 3 (by decide) (by decide))⟩) :
    Hold A K c X ⟨5, 0, 0, 0, 0, 0, 21, false, 0, 0, 0, 0⟩ ⊢ WP c (onBufs (k0_part6 (F := F)) (qq (A c)) k0_pay2 (k0_pay15 (qq (A c)))) Q := by
  simp only [k0_part6_eq_skeleton]
  unfold k0_part6_skel
  simp only [Prog.lift, Prog.bind_op, Prog.bind_ret, Prog.pure_eq_ret]
  refine via_inp _ _ _ (step_k _ _ 1 2 (by decide) (by decide)) ?_
  refine via_inp _ _ _ (step_v _ _ 1 2 (by decide) (by decide)) ?_
  refine via_ctx _ _ _ (step_ctx_dead _ _ _) ?_
  refine via_ctx _ _ _ (step_ctx _ _ 1 2 (by decide) (by decide) rfl) ?_
  refine via_inp _ _ _ (step_k _ _ 0 3 (by decide) (by decide)) ?_
  exact to_end h

/-- Head 3. -/
theorem part7 {X : sProp 𝕄} {u1 : BitVec 32} {Q : _ → sProp 𝕄}
    (h : ∀ w1 : BitVec 32, Hold A K c X ⟨8, 0, 0, 0, 0, 0, 21, false, 0, 0, 0, 0⟩ ⊢ Q w1) :
    Hold A K c X ⟨6, 0, 0, 0, 0, 0, 21, false, 0, 0, 0, 0⟩ ⊢ WP c (onBufs (k0_part7 (F := F)) u1 (qq (A c)) k0_pay2 (k0_pay18 (qq (A c)) k0_pay2 (headBlk (A c).k 0 3 (by decide) (by decide))) (k0_pay19 (qq (A c)) k0_pay2 (headBlk (A c).k 0 3 (by decide) (by decide)))) Q := by
  simp only [k0_part7_eq_skeleton]
  unfold k0_part7_skel
  simp only [Prog.lift, Prog.bind_op, Prog.bind_ret, Prog.pure_eq_ret]
  refine via_inp _ _ _ (step_v _ _ 0 3 (by decide) (by decide)) ?_
  refine via_ctx _ _ _ (step_ctx_dead _ _ _) ?_
  refine via_ctx _ _ _ (step_ctx _ _ 0 3 (by decide) (by decide) rfl) ?_
  refine via_inp _ _ _ (step_k _ _ 1 3 (by decide) (by decide)) ?_
  refine via_inp _ _ _ (step_v _ _ 1 3 (by decide) (by decide)) ?_
  refine via_ctx _ _ _ (step_ctx_dead _ _ _) ?_
  refine via_ctx _ _ _ (step_ctx _ _ 1 3 (by decide) (by decide) rfl) ?_
  exact to_end (h _)

/-- Head 4. -/
theorem part13 {X : sProp 𝕄} {Q : _ → sProp 𝕄}
    (h : Hold A K c X ⟨10, 8, 8, 0, 0, 1, 14, false, 0, 0, 0, 0⟩ ⊢ Q ⟨k0_pay35 (qq (A c)), k0_pay36 (headBlk (A c).k 0 5 (by decide) (by decide))⟩) :
    Hold A K c X ⟨8, 8, 8, 0, 0, 1, 14, false, 0, 0, 0, 0⟩ ⊢ WP c (onBufs (k0_part13 (F := F)) (qq (A c)) k0_pay2 (k0_pay31 (qq (A c)) k0_pay2 (headBlk (A c).k 0 4 (by decide) (by decide))) (k0_pay32 (qq (A c)) k0_pay2 (headBlk (A c).k 0 4 (by decide) (by decide)) (headBlk (A c).v 0 4 (by decide) (by decide)))) Q := by
  simp only [k0_part13_eq_skeleton]
  unfold k0_part13_skel
  simp only [Prog.lift, Prog.bind_op, Prog.bind_ret, Prog.pure_eq_ret]
  refine via_ctx _ _ _ (step_ctx_dead _ _ _) ?_
  refine via_ctx _ _ _ (step_ctx _ _ 0 4 (by decide) (by decide) rfl) ?_
  refine via_inp _ _ _ (step_k _ _ 1 4 (by decide) (by decide)) ?_
  refine via_inp _ _ _ (step_v _ _ 1 4 (by decide) (by decide)) ?_
  refine via_ctx _ _ _ (step_ctx_dead _ _ _) ?_
  refine via_ctx _ _ _ (step_ctx _ _ 1 4 (by decide) (by decide) rfl) ?_
  refine via_inp _ _ _ (step_k _ _ 0 5 (by decide) (by decide)) ?_
  exact to_end h

/-- Head 5, first batch. -/
theorem part14 {X : sProp 𝕄} {Q : _ → sProp 𝕄}
    (h : Hold A K c X ⟨11, 8, 8, 0, 0, 1, 14, false, 0, 0, 0, 0⟩ ⊢ Q ⟨k0_pay39 (qq (A c)) k0_pay2 (headBlk (A c).k 1 5 (by decide) (by decide)), k0_pay40 (qq (A c)) k0_pay2 (headBlk (A c).k 1 5 (by decide) (by decide)) (headBlk (A c).v 1 5 (by decide) (by decide))⟩) :
    Hold A K c X ⟨10, 8, 8, 0, 0, 1, 14, false, 0, 0, 0, 0⟩ ⊢ WP c (onBufs (k0_part14 (F := F)) (qq (A c)) k0_pay2 (k0_pay35 (qq (A c))) (k0_pay36 (headBlk (A c).k 0 5 (by decide) (by decide)))) Q := by
  simp only [k0_part14_eq_skeleton]
  unfold k0_part14_skel
  simp only [Prog.lift, Prog.bind_op, Prog.bind_ret, Prog.pure_eq_ret]
  refine via_inp _ _ _ (step_v _ _ 0 5 (by decide) (by decide)) ?_
  refine via_ctx _ _ _ (step_ctx_dead _ _ _) ?_
  refine via_ctx _ _ _ (step_ctx _ _ 0 5 (by decide) (by decide) rfl) ?_
  refine via_inp _ _ _ (step_k _ _ 1 5 (by decide) (by decide)) ?_
  refine via_inp _ _ _ (step_v _ _ 1 5 (by decide) (by decide)) ?_
  exact to_end h

/-- Head 5, second batch; head 6, first. -/
theorem part15 {X : sProp 𝕄} {Q : _ → sProp 𝕄}
    (h : Hold A K c X ⟨13, 8, 8, 0, 0, 1, 14, false, 0, 0, 0, 0⟩ ⊢ Q ⟨k0_pay43 (qq (A c)), k0_pay44 (headBlk (A c).k 1 6 (by decide) (by decide))⟩) :
    Hold A K c X ⟨11, 8, 8, 0, 0, 1, 14, false, 0, 0, 0, 0⟩ ⊢ WP c (onBufs (k0_part15 (F := F)) (qq (A c)) k0_pay2 (k0_pay39 (qq (A c)) k0_pay2 (headBlk (A c).k 1 5 (by decide) (by decide))) (k0_pay40 (qq (A c)) k0_pay2 (headBlk (A c).k 1 5 (by decide) (by decide)) (headBlk (A c).v 1 5 (by decide) (by decide)))) Q := by
  simp only [k0_part15_eq_skeleton]
  unfold k0_part15_skel
  simp only [Prog.lift, Prog.bind_op, Prog.bind_ret, Prog.pure_eq_ret]
  refine via_ctx _ _ _ (step_ctx_dead _ _ _) ?_
  refine via_ctx _ _ _ (step_ctx _ _ 1 5 (by decide) (by decide) rfl) ?_
  refine via_inp _ _ _ (step_k _ _ 0 6 (by decide) (by decide)) ?_
  refine via_inp _ _ _ (step_v _ _ 0 6 (by decide) (by decide)) ?_
  refine via_ctx _ _ _ (step_ctx_dead _ _ _) ?_
  refine via_ctx _ _ _ (step_ctx _ _ 0 6 (by decide) (by decide) rfl) ?_
  refine via_inp _ _ _ (step_k _ _ 1 6 (by decide) (by decide)) ?_
  exact to_end h

/-- Head 6, second batch. -/
theorem part16 {X : sProp 𝕄} {Q : _ → sProp 𝕄}
    (h : Hold A K c X ⟨14, 8, 8, 0, 0, 1, 14, false, 0, 0, 0, 0⟩ ⊢ Q ⟨k0_pay47 (qq (A c)) k0_pay2 (headBlk (A c).k 0 7 (by decide) (by decide)), k0_pay48 (qq (A c)) k0_pay2 (headBlk (A c).k 0 7 (by decide) (by decide)) (headBlk (A c).v 0 7 (by decide) (by decide))⟩) :
    Hold A K c X ⟨13, 8, 8, 0, 0, 1, 14, false, 0, 0, 0, 0⟩ ⊢ WP c (onBufs (k0_part16 (F := F)) (qq (A c)) k0_pay2 (k0_pay43 (qq (A c))) (k0_pay44 (headBlk (A c).k 1 6 (by decide) (by decide)))) Q := by
  simp only [k0_part16_eq_skeleton]
  unfold k0_part16_skel
  simp only [Prog.lift, Prog.bind_op, Prog.bind_ret, Prog.pure_eq_ret]
  refine via_inp _ _ _ (step_v _ _ 1 6 (by decide) (by decide)) ?_
  refine via_ctx _ _ _ (step_ctx_dead _ _ _) ?_
  refine via_ctx _ _ _ (step_ctx _ _ 1 6 (by decide) (by decide) rfl) ?_
  refine via_inp _ _ _ (step_k _ _ 0 7 (by decide) (by decide)) ?_
  refine via_inp _ _ _ (step_v _ _ 0 7 (by decide) (by decide)) ?_
  exact to_end h

/-- Head 7. -/
theorem part17 {X : sProp 𝕄} {u1 : BitVec 32} {Q : _ → sProp 𝕄}
    (h : Hold A K c X ⟨16, 8, 8, 0, 0, 1, 14, false, 0, 0, 0, 0⟩ ⊢ Q ⟨⟩) :
    Hold A K c X ⟨14, 8, 8, 0, 0, 1, 14, false, 0, 0, 0, 0⟩ ⊢ WP c (onBufs (k0_part17 (F := F)) u1 (qq (A c)) k0_pay2 (k0_pay47 (qq (A c)) k0_pay2 (headBlk (A c).k 0 7 (by decide) (by decide))) (k0_pay48 (qq (A c)) k0_pay2 (headBlk (A c).k 0 7 (by decide) (by decide)) (headBlk (A c).v 0 7 (by decide) (by decide)))) Q := by
  simp only [k0_part17_eq_skeleton]
  unfold k0_part17_skel
  simp only [Prog.lift, Prog.bind_op, Prog.bind_ret, Prog.pure_eq_ret]
  refine via_ctx _ _ _ (step_ctx_dead _ _ _) ?_
  refine via_ctx _ _ _ (step_ctx _ _ 0 7 (by decide) (by decide) rfl) ?_
  refine via_inp _ _ _ (step_k _ _ 1 7 (by decide) (by decide)) ?_
  refine via_inp _ _ _ (step_v _ _ 1 7 (by decide) (by decide)) ?_
  refine via_ctx _ _ _ (step_ctx_dead _ _ _) ?_
  refine via_ctx _ _ _ (step_ctx _ _ 1 7 (by decide) (by decide) rfl) ?_
  exact to_end h

end Parts

end Cert.KernelIdealProof
-- ==== Proof.PartsSend.lean ====
/-
  The parts that send the slabs on.
-/
module

public import proofs.«01_k».proof.Proof.Parts

@[expose] public section

noncomputable section

namespace Cert.KernelIdealProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

section Parts

variable {A : Dev nD → Ins F} {K : GSem nD τ sig → ℕ} {c : Dev nD}

/-- Slab 0 kept, slab 1 sent. -/
theorem part8 {X : sProp 𝕄} {u1 u2 : BitVec 32} {Q : _ → sProp 𝕄}
    (h : ∀ w1 w2 : BitVec 32, Hold A K c X ⟨8, 2, 2, 0, 0, 1, 20, false, 0, 0, 0, 0⟩ ⊢ Q ⟨w1, w2, (slabV A c 2 (by decide))⟩) :
    Hold A K c X ⟨8, 0, 0, 0, 0, 0, 21, false, 0, 0, 0, 0⟩ ⊢ WP c (onBufs (k0_part8 (F := F)) c u1 u2) Q := by
  simp only [k0_part8_eq_skeleton]
  unfold k0_part8_skel
  simp only [Prog.lift, Prog.bind_op, Prog.bind_ret, Prog.pure_eq_ret]
  refine via_ctx _ _ _ (step_slab _ _ _ 0 (by decide) (by decide) (k0_off1_eq c 0)) ?_
  refine to_rb_dead 0 (by decide) (by decide) ?_
  refine to_rb 0 (by decide) (by decide) rfl ?_
  refine via_ctx _ _ _ (step_slab _ _ _ 1 (by decide) (by decide) (k0_off1_eq c 1)) ?_
  refine to_sb_dead 1 (by decide) (by decide) ?_
  refine to_sb 1 (by decide) (by decide) (by decide) rfl ?_
  refine to_send 1 (by decide) (by decide) (by decide) (by decide) (Fin.ext (k0_dev8_eq c)) rfl rfl ?_
  refine via_ctx _ _ _ (step_slab _ _ _ 2 (by decide) (by decide) (k0_off1_eq c 2)) ?_
  exact to_end (h _ _)

/-- Slab 2 sent, slab 3 filled. -/
theorem part9 {X : sProp 𝕄} {u1 u2 : BitVec 32} {Q : _ → sProp 𝕄}
    (h : ∀ w1 : BitVec 32, Hold A K c X ⟨8, 4, 3, 0, 0, 1, 19, false, 0, 0, 0, 0⟩ ⊢ Q w1) :
    Hold A K c X ⟨8, 2, 2, 0, 0, 1, 20, false, 0, 0, 0, 0⟩ ⊢ WP c (onBufs (k0_part9 (F := F)) c u1 u2 (slabV A c 2 (by decide))) Q := by
  simp only [k0_part9_eq_skeleton]
  unfold k0_part9_skel
  simp only [Prog.lift, Prog.bind_op, Prog.bind_ret, Prog.pure_eq_ret]
  refine to_sb_dead 2 (by decide) (by decide) ?_
  refine to_sb 2 (by decide) (by decide) (by decide) rfl ?_
  refine to_send 2 (by decide) (by decide) (by decide) (by decide) (Fin.ext (k0_dev9_eq c)) rfl rfl ?_
  refine via_ctx _ _ _ (step_slab _ _ _ 3 (by decide) (by decide) (k0_off1_eq c 3)) ?_
  refine to_sb_dead 3 (by decide) (by decide) ?_
  refine to_sb 3 (by decide) (by decide) (by decide) rfl ?_
  exact to_end (h _)

/-- Slabs 3 and 4 sent, slab 5 filled. -/
theorem part10 {X : sProp 𝕄} {u1 : BitVec 32} {Q : _ → sProp 𝕄}
    (h : ∀ w1 w2 : BitVec 32, Hold A K c X ⟨8, 6, 5, 0, 0, 1, 17, false, 0, 0, 0, 0⟩ ⊢ Q ⟨w1, w2⟩) :
    Hold A K c X ⟨8, 4, 3, 0, 0, 1, 19, false, 0, 0, 0, 0⟩ ⊢ WP c (onBufs (k0_part10 (F := F)) c u1) Q := by
  simp only [k0_part10_eq_skeleton]
  unfold k0_part10_skel
  simp only [Prog.lift, Prog.bind_op, Prog.bind_ret, Prog.pure_eq_ret]
  refine to_send 3 (by decide) (by decide) (by decide) (by decide) (Fin.ext (k0_dev10_eq c)) rfl rfl ?_
  refine via_ctx _ _ _ (step_slab _ _ _ 4 (by decide) (by decide) (k0_off1_eq c 4)) ?_
  refine to_sb_dead 4 (by decide) (by decide) ?_
  refine to_sb 4 (by decide) (by decide) (by decide) rfl ?_
  refine to_send 4 (by decide) (by decide) (by decide) (by decide) (Fin.ext (k0_dev11_eq c)) rfl rfl ?_
  refine via_ctx _ _ _ (step_slab _ _ _ 5 (by decide) (by decide) (k0_off1_eq c 5)) ?_
  refine to_sb_dead 5 (by decide) (by decide) ?_
  refine to_sb 5 (by decide) (by decide) (by decide) rfl ?_
  exact to_end (h _ _)

/-- Slabs 5 and 6 sent. -/
theorem part11 {X : sProp 𝕄} {u1 u2 : BitVec 32} {Q : _ → sProp 𝕄}
    (h : ∀ w1 w2 : BitVec 32, Hold A K c X ⟨8, 7, 7, 0, 0, 1, 15, false, 0, 0, 0, 0⟩ ⊢ Q ⟨w1, w2⟩) :
    Hold A K c X ⟨8, 6, 5, 0, 0, 1, 17, false, 0, 0, 0, 0⟩ ⊢ WP c (onBufs (k0_part11 (F := F)) c u1 u2) Q := by
  simp only [k0_part11_eq_skeleton]
  unfold k0_part11_skel
  simp only [Prog.lift, Prog.bind_op, Prog.bind_ret, Prog.pure_eq_ret]
  refine to_send 5 (by decide) (by decide) (by decide) (by decide) (Fin.ext (k0_dev12_eq c)) rfl rfl ?_
  refine via_ctx _ _ _ (step_slab _ _ _ 6 (by decide) (by decide) (k0_off1_eq c 6)) ?_
  refine to_sb_dead 6 (by decide) (by decide) ?_
  refine to_sb 6 (by decide) (by decide) (by decide) rfl ?_
  refine to_send 6 (by decide) (by decide) (by decide) (by decide) (Fin.ext (k0_dev13_eq c)) rfl rfl ?_
  exact to_end (h _ _)

/-- Slab 7 sent; head 4 begun. -/
theorem part12 {X : sProp 𝕄} {u1 : BitVec 32} {Q : _ → sProp 𝕄}
    (h : Hold A K c X ⟨8, 8, 8, 0, 0, 1, 14, false, 0, 0, 0, 0⟩ ⊢ Q ⟨k0_pay31 (qq (A c)) k0_pay2 (headBlk (A c).k 0 4 (by decide) (by decide)), k0_pay32 (qq (A c)) k0_pay2 (headBlk (A c).k 0 4 (by decide) (by decide)) (headBlk (A c).v 0 4 (by decide) (by decide))⟩) :
    Hold A K c X ⟨8, 7, 7, 0, 0, 1, 15, false, 0, 0, 0, 0⟩ ⊢ WP c (onBufs (k0_part12 (F := F)) c (qq (A c)) k0_pay2 u1) Q := by
  simp only [k0_part12_eq_skeleton]
  unfold k0_part12_skel
  simp only [Prog.lift, Prog.bind_op, Prog.bind_ret, Prog.pure_eq_ret]
  refine via_ctx _ _ _ (step_slab _ _ _ 7 (by decide) (by decide) (k0_off1_eq c 7)) ?_
  refine to_sb_dead 7 (by decide) (by decide) ?_
  refine to_sb 7 (by decide) (by decide) (by decide) rfl ?_
  refine to_send 7 (by decide) (by decide) (by decide) (by decide) (Fin.ext (k0_dev14_eq c)) rfl rfl ?_
  refine via_inp _ _ _ (step_k _ _ 0 4 (by decide) (by decide)) ?_
  refine via_inp _ _ _ (step_v _ _ 0 4 (by decide) (by decide)) ?_
  exact to_end h

/-- Slab 8 kept, slab 9 sent. -/
theorem part18 {X : sProp 𝕄} {u1 : BitVec 32} {Q : _ → sProp 𝕄}
    (h : ∀ w1 w2 : BitVec 32, Hold A K c X ⟨16, 10, 10, 0, 0, 2, 13, false, 0, 0, 0, 0⟩ ⊢ Q ⟨w1, w2, (slabV A c 10 (by decide))⟩) :
    Hold A K c X ⟨16, 8, 8, 0, 0, 1, 14, false, 0, 0, 0, 0⟩ ⊢ WP c (onBufs (k0_part18 (F := F)) c u1) Q := by
  simp only [k0_part18_eq_skeleton]
  unfold k0_part18_skel
  simp only [Prog.lift, Prog.bind_op, Prog.bind_ret, Prog.pure_eq_ret]
  refine via_ctx _ _ _ (step_slab _ _ _ 8 (by decide) (by decide) (k0_off2_eq c 0)) ?_
  refine to_rb_dead 1 (by decide) (by decide) ?_
  refine to_rb 1 (by decide) (by decide) rfl ?_
  refine via_ctx _ _ _ (step_slab _ _ _ 9 (by decide) (by decide) (k0_off2_eq c 1)) ?_
  refine to_sb_dead 9 (by decide) (by decide) ?_
  refine to_sb 9 (by decide) (by decide) (by decide) rfl ?_
  refine to_send 9 (by decide) (by decide) (by decide) (by decide) (Fin.ext (k0_dev15_eq c)) rfl rfl ?_
  refine via_ctx _ _ _ (step_slab _ _ _ 10 (by decide) (by decide) (k0_off2_eq c 2)) ?_
  refine to_sb_dead 10 (by decide) (by decide) ?_
  exact to_end (h _ _)

/-- Slabs 10 and 11 sent. -/
theorem part19 {X : sProp 𝕄} {u1 u2 : BitVec 32} {Q : _ → sProp 𝕄}
    (h : ∀ w1 : BitVec 32, Hold A K c X ⟨16, 12, 12, 0, 0, 2, 11, false, 0, 0, 0, 0⟩ ⊢ Q w1) :
    Hold A K c X ⟨16, 10, 10, 0, 0, 2, 13, false, 0, 0, 0, 0⟩ ⊢ WP c (onBufs (k0_part19 (F := F)) c u1 u2 (slabV A c 10 (by decide))) Q := by
  simp only [k0_part19_eq_skeleton]
  unfold k0_part19_skel
  simp only [Prog.lift, Prog.bind_op, Prog.bind_ret, Prog.pure_eq_ret]
  refine to_sb 10 (by decide) (by decide) (by decide) rfl ?_
  refine to_send 10 (by decide) (by decide) (by decide) (by decide) (Fin.ext (k0_dev16_eq c)) rfl rfl ?_
  refine via_ctx _ _ _ (step_slab _ _ _ 11 (by decide) (by decide) (k0_off2_eq c 3)) ?_
  refine to_sb_dead 11 (by decide) (by decide) ?_
  refine to_sb 11 (by decide) (by decide) (by decide) rfl ?_
  refine to_send 11 (by decide) (by decide) (by decide) (by decide) (Fin.ext (k0_dev17_eq c)) rfl rfl ?_
  exact to_end (h _)

/-- Slab 12 sent, slab 13 filled. -/
theorem part20 {X : sProp 𝕄} {u1 : BitVec 32} {Q : _ → sProp 𝕄}
    (h : ∀ w1 w2 w3 w4 : BitVec 32, Hold A K c X ⟨16, 14, 13, 0, 0, 2, 10, false, 0, 0, 0, 0⟩ ⊢ Q ⟨w1, w2, w3, w4⟩) :
    Hold A K c X ⟨16, 12, 12, 0, 0, 2, 11, false, 0, 0, 0, 0⟩ ⊢ WP c (onBufs (k0_part20 (F := F)) c u1) Q := by
  simp only [k0_part20_eq_skeleton]
  unfold k0_part20_skel
  simp only [Prog.lift, Prog.bind_op, Prog.bind_ret, Prog.pure_eq_ret]
  refine via_ctx _ _ _ (step_slab _ _ _ 12 (by decide) (by decide) (k0_off2_eq c 4)) ?_
  refine to_sb_dead 12 (by decide) (by decide) ?_
  refine to_sb 12 (by decide) (by decide) (by decide) rfl ?_
  refine to_send 12 (by decide) (by decide) (by decide) (by decide) (Fin.ext (k0_dev18_eq c)) rfl rfl ?_
  refine via_ctx _ _ _ (step_slab _ _ _ 13 (by decide) (by decide) (k0_off2_eq c 5)) ?_
  refine to_sb_dead 13 (by decide) (by decide) ?_
  refine to_sb 13 (by decide) (by decide) (by decide) rfl ?_
  exact to_end (h _ _ _ _)

/-- Slabs 13 and 14 sent. -/
theorem part21 {X : sProp 𝕄} {u1 u2 u3 : BitVec 32} {Q : _ → sProp 𝕄}
    (h : ∀ w1 w2 : BitVec 32, Hold A K c X ⟨16, 15, 15, 0, 0, 2, 8, false, 0, 0, 0, 0⟩ ⊢ Q ⟨w1, w2, (slabV A c 15 (by decide))⟩) :
    Hold A K c X ⟨16, 14, 13, 0, 0, 2, 10, false, 0, 0, 0, 0⟩ ⊢ WP c (onBufs (k0_part21 (F := F)) c u1 u2 u3) Q := by
  simp only [k0_part21_eq_skeleton]
  unfold k0_part21_skel
  simp only [Prog.lift, Prog.bind_op, Prog.bind_ret, Prog.pure_eq_ret]
  refine to_send 13 (by decide) (by decide) (by decide) (by decide) (Fin.ext (k0_dev19_eq c)) rfl rfl ?_
  refine via_ctx _ _ _ (step_slab _ _ _ 14 (by decide) (by decide) (k0_off2_eq c 6)) ?_
  refine to_sb_dead 14 (by decide) (by decide) ?_
  refine to_sb 14 (by decide) (by decide) (by decide) rfl ?_
  refine to_send 14 (by decide) (by decide) (by decide) (by decide) (Fin.ext (k0_dev20_eq c)) rfl rfl ?_
  refine via_ctx _ _ _ (step_slab _ _ _ 15 (by decide) (by decide) (k0_off2_eq c 7)) ?_
  exact to_end (h _ _)

end Parts

end Cert.KernelIdealProof
-- ==== Proof.PartsReduce.lean ====
/-
  The parts that add up the products of the slabs that arrive.
-/
module

public import proofs.«01_k».proof.Proof.Parts

@[expose] public section

noncomputable section

namespace Cert.KernelIdealProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

section Parts

variable {A : Dev nD → Ins F} {K : GSem nD τ sig → ℕ} {c : Dev nD}

/-- Slab 15 sent; the first partial product. -/
theorem part22 {X : sProp 𝕄} {u1 u2 u3 : BitVec 32} {Q : _ → sProp 𝕄}
    (h : Hold A K c X ⟨16, 16, 16, 0, 0, 2, 7, false, 0, 0, 0, 0⟩ ⊢ Q (redUp A c 1)) :
    Hold A K c X ⟨16, 15, 15, 0, 0, 2, 8, false, 0, 0, 0, 0⟩ ⊢ WP c (onBufs (k0_part22 (F := F)) c u1 u2 u3 (slabV A c 15 (by decide))) Q := by
  simp only [k0_part22_eq_skeleton]
  unfold k0_part22_skel
  simp only [Prog.lift, Prog.bind_op, Prog.bind_ret, Prog.pure_eq_ret]
  refine to_sb_dead 15 (by decide) (by decide) ?_
  refine to_sb 15 (by decide) (by decide) (by decide) rfl ?_
  refine to_send 15 (by decide) (by decide) (by decide) (by decide) (Fin.ext (k0_dev21_eq c)) rfl rfl ?_
  refine via_inp _ _ _ (step_wo _ _ 0 (by decide) (k0_off3_eq c 0 0)) ?_
  refine to_own_load 0 (by decide) (by decide) ?_
  exact to_end h

/-- The second. -/
theorem part23 {X : sProp 𝕄} {u1 u2 : BitVec 32} {Q : _ → sProp 𝕄}
    (h : ∀ w1 : BitVec 32, Hold A K c X ⟨16, 16, 16, 3, 0, 2, 7, false, 0, 0, 0, 0⟩ ⊢ Q ⟨redUp A c 2, w1⟩) :
    Hold A K c X ⟨16, 16, 16, 0, 0, 2, 7, false, 0, 0, 0, 0⟩ ⊢ WP c (onBufs (k0_part23 (F := F)) c u1 u2 (redUp A c 1)) Q := by
  simp only [k0_part23_eq_skeleton]
  unfold k0_part23_skel
  simp only [Prog.lift, Prog.bind_op, Prog.bind_ret, Prog.pure_eq_ret]
  refine to_take 1 (by decide) (by decide) (by decide) rfl rfl (by rfl) ?_
  refine via_inp _ _ _ (step_wo _ _ 1 (by decide) (k0_off3_eq c 1 0)) ?_
  refine to_rb_load 1 (by decide) (by decide) ?_
  refine to_take 2 (by decide) (by decide) (by decide) rfl rfl (by rfl) ?_
  exact to_end (h _)

/-- The third and fourth. -/
theorem part24 {X : sProp 𝕄} {u1 u2 u3 : BitVec 32} {Q : _ → sProp 𝕄}
    (h : ∀ w1 : BitVec 32, Hold A K c X ⟨16, 16, 16, 4, 0, 2, 7, false, 0, 0, 0, 0⟩ ⊢ Q ⟨redUp A c 4, w1⟩) :
    Hold A K c X ⟨16, 16, 16, 3, 0, 2, 7, false, 0, 0, 0, 0⟩ ⊢ WP c (onBufs (k0_part24 (F := F)) c u1 u2 (redUp A c 2) u3) Q := by
  simp only [k0_part24_eq_skeleton]
  unfold k0_part24_skel
  simp only [Prog.lift, Prog.bind_op, Prog.bind_ret, Prog.pure_eq_ret]
  refine via_inp _ _ _ (step_wo _ _ 2 (by decide) (k0_off3_eq c 2 0)) ?_
  refine to_rb_load 2 (by decide) (by decide) ?_
  refine to_take 3 (by decide) (by decide) (by decide) rfl rfl (by rfl) ?_
  refine via_inp _ _ _ (step_wo _ _ 3 (by decide) (k0_off3_eq c 3 0)) ?_
  refine to_rb_load 3 (by decide) (by decide) ?_
  exact to_end (h _)

/-- The fifth. -/
theorem part25 {X : sProp 𝕄} {u1 u2 u3 u4 : BitVec 32} {Q : _ → sProp 𝕄}
    (h : ∀ w1 w2 : BitVec 32, Hold A K c X ⟨16, 16, 16, 6, 0, 2, 7, false, 0, 0, 0, 0⟩ ⊢ Q ⟨redUp A c 5, w1, w2⟩) :
    Hold A K c X ⟨16, 16, 16, 4, 0, 2, 7, false, 0, 0, 0, 0⟩ ⊢ WP c (onBufs (k0_part25 (F := F)) c u1 u2 u3 (redUp A c 4) u4) Q := by
  simp only [k0_part25_eq_skeleton]
  unfold k0_part25_skel
  simp only [Prog.lift, Prog.bind_op, Prog.bind_ret, Prog.pure_eq_ret]
  refine to_take 4 (by decide) (by decide) (by decide) rfl rfl (by rfl) ?_
  refine via_inp _ _ _ (step_wo _ _ 4 (by decide) (k0_off3_eq c 4 0)) ?_
  refine to_rb_load 4 (by decide) (by decide) ?_
  refine to_take 5 (by decide) (by decide) (by decide) rfl rfl (by rfl) ?_
  exact to_end (h _ _)

/-- The sixth and seventh. -/
theorem part26 {X : sProp 𝕄} {u1 u2 u3 u4 : BitVec 32} {Q : _ → sProp 𝕄}
    (h : Hold A K c X ⟨16, 16, 16, 7, 0, 2, 7, false, 0, 0, 0, 0⟩ ⊢ Q (redUp A c 7)) :
    Hold A K c X ⟨16, 16, 16, 6, 0, 2, 7, false, 0, 0, 0, 0⟩ ⊢ WP c (onBufs (k0_part26 (F := F)) c u1 u2 (redUp A c 5) u3 u4) Q := by
  simp only [k0_part26_eq_skeleton]
  unfold k0_part26_skel
  simp only [Prog.lift, Prog.bind_op, Prog.bind_ret, Prog.pure_eq_ret]
  refine via_inp _ _ _ (step_wo _ _ 5 (by decide) (k0_off3_eq c 5 0)) ?_
  refine to_rb_load 5 (by decide) (by decide) ?_
  refine to_take 6 (by decide) (by decide) (by decide) rfl rfl (by rfl) ?_
  refine via_inp _ _ _ (step_wo _ _ 6 (by decide) (k0_off3_eq c 6 0)) ?_
  refine to_rb_load 6 (by decide) (by decide) ?_
  exact to_end h

/-- The eighth, and the product of the ninth. -/
theorem part27 {X : sProp 𝕄} {u1 u2 : BitVec 32} {Q : _ → sProp 𝕄}
    (h : Hold A K c X ⟨16, 16, 16, 8, 0, 2, 7, false, 0, 0, 0, 0⟩ ⊢ Q ⟨redUp A c 8, k0_pay65 (woBlk (A c).wo c 8 (by decide)) (slab1 (rSlab A c) 8 (by decide))⟩) :
    Hold A K c X ⟨16, 16, 16, 7, 0, 2, 7, false, 0, 0, 0, 0⟩ ⊢ WP c (onBufs (k0_part27 (F := F)) c u1 u2 (redUp A c 7)) Q := by
  simp only [k0_part27_eq_skeleton]
  unfold k0_part27_skel
  simp only [Prog.lift, Prog.bind_op, Prog.bind_ret, Prog.pure_eq_ret]
  refine to_take 7 (by decide) (by decide) (by decide) rfl rfl (by rfl) ?_
  refine via_inp _ _ _ (step_wo _ _ 7 (by decide) (k0_off3_eq c 7 0)) ?_
  refine to_rb_load 7 (by decide) (by decide) ?_
  refine via_inp _ _ _ (step_wo _ _ 8 (by decide) (k0_off3_eq c 0 1)) ?_
  refine to_own_load 1 (by decide) (by decide) ?_
  exact to_end h

/-- The ninth and tenth. -/
theorem part28 {X : sProp 𝕄} {u1 u2 u3 : BitVec 32} {Q : _ → sProp 𝕄}
    (h : Hold A K c X ⟨16, 16, 16, 10, 0, 2, 7, false, 0, 0, 0, 0⟩ ⊢ Q (redUp A c 10)) :
    Hold A K c X ⟨16, 16, 16, 8, 0, 2, 7, false, 0, 0, 0, 0⟩ ⊢ WP c (onBufs (k0_part28 (F := F)) c u1 u2 u3 (redUp A c 8) (k0_pay65 (woBlk (A c).wo c 8 (by decide)) (slab1 (rSlab A c) 8 (by decide)))) Q := by
  simp only [k0_part28_eq_skeleton]
  unfold k0_part28_skel
  simp only [Prog.lift, Prog.bind_op, Prog.bind_ret, Prog.pure_eq_ret]
  refine to_take 9 (by decide) (by decide) (by decide) rfl rfl (by rfl) ?_
  refine via_inp _ _ _ (step_wo _ _ 9 (by decide) (k0_off3_eq c 1 1)) ?_
  refine to_rb_load 9 (by decide) (by decide) ?_
  exact to_end h

/-- The eleventh. -/
theorem part29 {X : sProp 𝕄} {u1 u2 : BitVec 32} {Q : _ → sProp 𝕄}
    (h : Hold A K c X ⟨16, 16, 16, 12, 0, 2, 7, false, 0, 0, 0, 0⟩ ⊢ Q ⟨redUp A c 11, k0_pay68 (woBlk (A c).wo c 11 (by decide)), (slab1 (rSlab A c) 11 (by decide))⟩) :
    Hold A K c X ⟨16, 16, 16, 10, 0, 2, 7, false, 0, 0, 0, 0⟩ ⊢ WP c (onBufs (k0_part29 (F := F)) c u1 u2 (redUp A c 10)) Q := by
  simp only [k0_part29_eq_skeleton]
  unfold k0_part29_skel
  simp only [Prog.lift, Prog.bind_op, Prog.bind_ret, Prog.pure_eq_ret]
  refine to_take 10 (by decide) (by decide) (by decide) rfl rfl (by rfl) ?_
  refine via_inp _ _ _ (step_wo _ _ 10 (by decide) (k0_off3_eq c 2 1)) ?_
  refine to_rb_load 10 (by decide) (by decide) ?_
  refine to_take 11 (by decide) (by decide) (by decide) rfl rfl (by rfl) ?_
  refine via_inp _ _ _ (step_wo _ _ 11 (by decide) (k0_off3_eq c 3 1)) ?_
  refine to_rb_load 11 (by decide) (by decide) ?_
  exact to_end h

/-- The twelfth and thirteenth. -/
theorem part30 {X : sProp 𝕄} {u1 u2 u3 : BitVec 32} {Q : _ → sProp 𝕄}
    (h : Hold A K c X ⟨16, 16, 16, 13, 0, 2, 7, false, 0, 0, 0, 0⟩ ⊢ Q (redUp A c 13)) :
    Hold A K c X ⟨16, 16, 16, 12, 0, 2, 7, false, 0, 0, 0, 0⟩ ⊢ WP c (onBufs (k0_part30 (F := F)) c u1 u2 u3 (redUp A c 11) (k0_pay68 (woBlk (A c).wo c 11 (by decide))) (slab1 (rSlab A c) 11 (by decide))) Q := by
  simp only [k0_part30_eq_skeleton]
  unfold k0_part30_skel
  simp only [Prog.lift, Prog.bind_op, Prog.bind_ret, Prog.pure_eq_ret]
  refine to_take 12 (by decide) (by decide) (by decide) rfl rfl (by rfl) ?_
  refine via_inp _ _ _ (step_wo _ _ 12 (by decide) (k0_off3_eq c 4 1)) ?_
  refine to_rb_load 12 (by decide) (by decide) ?_
  exact to_end h

/-- The fourteenth. -/
theorem part31 {X : sProp 𝕄} {u1 u2 : BitVec 32} {Q : _ → sProp 𝕄}
    (h : Hold A K c X ⟨16, 16, 16, 15, 0, 2, 7, false, 0, 0, 0, 0⟩ ⊢ Q ⟨redUp A c 14, k0_pay71 (woBlk (A c).wo c 14 (by decide))⟩) :
    Hold A K c X ⟨16, 16, 16, 13, 0, 2, 7, false, 0, 0, 0, 0⟩ ⊢ WP c (onBufs (k0_part31 (F := F)) c u1 u2 (redUp A c 13)) Q := by
  simp only [k0_part31_eq_skeleton]
  unfold k0_part31_skel
  simp only [Prog.lift, Prog.bind_op, Prog.bind_ret, Prog.pure_eq_ret]
  refine to_take 13 (by decide) (by decide) (by decide) rfl rfl (by rfl) ?_
  refine via_inp _ _ _ (step_wo _ _ 13 (by decide) (k0_off3_eq c 5 1)) ?_
  refine to_rb_load 13 (by decide) (by decide) ?_
  refine to_take 14 (by decide) (by decide) (by decide) rfl rfl (by rfl) ?_
  refine via_inp _ _ _ (step_wo _ _ 14 (by decide) (k0_off3_eq c 6 1)) ?_
  exact to_end h

/-- The fifteenth and sixteenth: the rows this device computes, kept in the result. -/
theorem part32 {X : sProp 𝕄} {u1 u2 : BitVec 32} {Q : _ → sProp 𝕄}
    (h : Hold A K c X ⟨16, 16, 16, 16, 0, 2, 7, false, 0, 0, 0, 1⟩ ⊢ Q (shapeCast S128x768 (redBf A c) shapeCasts_S128x768_S128x768)) :
    Hold A K c X ⟨16, 16, 16, 15, 0, 2, 7, false, 0, 0, 0, 0⟩ ⊢ WP c (onBufs (k0_part32 (F := F)) c u1 u2 (redUp A c 14) (k0_pay71 (woBlk (A c).wo c 14 (by decide)))) Q := by
  simp only [k0_part32_eq_skeleton]
  unfold k0_part32_skel
  simp only [Prog.lift, Prog.bind_op, Prog.bind_ret, Prog.pure_eq_ret]
  refine to_rb_load 14 (by decide) (by decide) ?_
  refine to_take 15 (by decide) (by decide) (by decide) rfl rfl (by rfl) ?_
  refine via_inp _ _ _ (step_wo _ _ 15 (by decide) (k0_off3_eq c 7 1)) ?_
  refine to_rb_load 15 (by decide) (by decide) ?_
  refine via_out _ _ _ (step_out_dead _ _ _) ?_
  refine via_out _ _ _ (step_out _ _ 0 (by decide) (off4_at c) (out_own A c)) ?_
  refine to_bb_dead rfl ?_
  exact to_end h

end Parts

end Cert.KernelIdealProof
-- ==== Proof.PartsGather.lean ====
/-
  The parts that exchange the rows, and the waits for what was sent.
-/
module

public import proofs.«01_k».proof.Proof.Parts

@[expose] public section

noncomputable section

namespace Cert.KernelIdealProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

section Parts

variable {A : Dev nD → Ins F} {K : GSem nD τ sig → ℕ} {c : Dev nD}

/-- The rows rounded, and sent one and two places on. -/
theorem part33 {X : sProp 𝕄} {u1 : BitVec 32} {Q : _ → sProp 𝕄}
    (h : ∀ w1 w2 w3 : BitVec 32, Hold A K c X ⟨16, 16, 16, 16, 0, 2, 5, true, 3, 0, 0, 1⟩ ⊢ Q ⟨w1, w2, w3⟩) :
    Hold A K c X ⟨16, 16, 16, 16, 0, 2, 7, false, 0, 0, 0, 1⟩ ⊢ WP c (onBufs (k0_part33 (F := F)) c u1 (shapeCast S128x768 (redBf A c) shapeCasts_S128x768_S128x768)) Q := by
  simp only [k0_part33_eq_skeleton]
  unfold k0_part33_skel
  simp only [Prog.lift, Prog.bind_op, Prog.bind_ret, Prog.pure_eq_ret]
  refine to_bb (by decide) rfl ?_
  refine to_bsend 1 (by decide) rfl (by decide) (by decide) rfl (Fin.ext (k0_dev22_eq c)) rfl rfl ?_
  refine to_bsend 2 (by decide) rfl (by decide) (by decide) rfl (Fin.ext (k0_dev23_eq c)) rfl rfl ?_
  exact to_end (h _ _ _)

/-- Sent three, four and five places on. -/
theorem part34 {X : sProp 𝕄} {u1 : BitVec 32} {Q : _ → sProp 𝕄}
    (h : ∀ w1 w2 w3 : BitVec 32, Hold A K c X ⟨16, 16, 16, 16, 0, 2, 2, true, 6, 0, 0, 1⟩ ⊢ Q ⟨w1, w2, w3⟩) :
    Hold A K c X ⟨16, 16, 16, 16, 0, 2, 5, true, 3, 0, 0, 1⟩ ⊢ WP c (onBufs (k0_part34 (F := F)) c u1) Q := by
  simp only [k0_part34_eq_skeleton]
  unfold k0_part34_skel
  simp only [Prog.lift, Prog.bind_op, Prog.bind_ret, Prog.pure_eq_ret]
  refine to_bsend 3 (by decide) rfl (by decide) (by decide) rfl (Fin.ext (k0_dev24_eq c)) rfl rfl ?_
  refine to_bsend 4 (by decide) rfl (by decide) (by decide) rfl (Fin.ext (k0_dev25_eq c)) rfl rfl ?_
  refine to_bsend 5 (by decide) rfl (by decide) (by decide) rfl (Fin.ext (k0_dev26_eq c)) rfl rfl ?_
  exact to_end (h _ _ _)

/-- Sent six and seven places on; the rows from one place back. -/
theorem part35 {X : sProp 𝕄} {u1 u2 u3 : BitVec 32} {Q : _ → sProp 𝕄}
    (h : ∀ w1 : BitVec 32, Hold A K c X ⟨16, 16, 16, 16, 0, 2, 0, true, 8, 2, 0, 2⟩ ⊢ Q w1) :
    Hold A K c X ⟨16, 16, 16, 16, 0, 2, 2, true, 6, 0, 0, 1⟩ ⊢ WP c (onBufs (k0_part35 (F := F)) c u1 u2 u3) Q := by
  simp only [k0_part35_eq_skeleton]
  unfold k0_part35_skel
  simp only [Prog.lift, Prog.bind_op, Prog.bind_ret, Prog.pure_eq_ret]
  refine to_bsend 6 (by decide) rfl (by decide) (by decide) rfl (Fin.ext (k0_dev27_eq c)) rfl rfl ?_
  refine to_bsend 7 (by decide) rfl (by decide) (by decide) rfl (Fin.ext (k0_dev28_eq c)) rfl rfl ?_
  refine to_land 1 (by decide) (by decide) (by decide) rfl rfl (by rfl) ?_
  refine to_gb_load 1 (by decide) (by decide) ?_
  refine via_out _ _ _ (step_out_dead _ _ _) ?_
  refine via_out _ _ _ (step_out _ _ 1 (by decide) (off5_at c 1 (by decide) (by decide)) (out_other A c 1 (by decide) (by decide) _ _)) ?_
  exact to_end (h _)

/-- The rows from two and three places back. -/
theorem part36 {X : sProp 𝕄} {u1 u2 : BitVec 32} {Q : _ → sProp 𝕄}
    (h : Hold A K c X ⟨16, 16, 16, 16, 0, 2, 0, true, 8, 4, 0, 4⟩ ⊢ Q ⟨⟩) :
    Hold A K c X ⟨16, 16, 16, 16, 0, 2, 0, true, 8, 2, 0, 2⟩ ⊢ WP c (onBufs (k0_part36 (F := F)) c u1 u2) Q := by
  simp only [k0_part36_eq_skeleton]
  unfold k0_part36_skel
  simp only [Prog.lift, Prog.bind_op, Prog.bind_ret, Prog.pure_eq_ret]
  refine to_land 2 (by decide) (by decide) (by decide) rfl rfl (by rfl) ?_
  refine to_gb_load 2 (by decide) (by decide) ?_
  refine via_out _ _ _ (step_out_dead _ _ _) ?_
  refine via_out _ _ _ (step_out _ _ 2 (by decide) (off5_at c 2 (by decide) (by decide)) (out_other A c 2 (by decide) (by decide) _ _)) ?_
  refine to_land 3 (by decide) (by decide) (by decide) rfl rfl (by rfl) ?_
  refine to_gb_load 3 (by decide) (by decide) ?_
  refine via_out _ _ _ (step_out_dead _ _ _) ?_
  refine via_out _ _ _ (step_out _ _ 3 (by decide) (off5_at c 3 (by decide) (by decide)) (out_other A c 3 (by decide) (by decide) _ _)) ?_
  exact to_end h

/-- From four places back. -/
theorem part37 {X : sProp 𝕄} {u1 u2 u3 : BitVec 32} {Q : _ → sProp 𝕄}
    (h : Hold A K c X ⟨16, 16, 16, 16, 0, 2, 0, true, 8, 6, 0, 5⟩ ⊢ Q (k0_pay78 (rowsV A c 5 (by decide)))) :
    Hold A K c X ⟨16, 16, 16, 16, 0, 2, 0, true, 8, 4, 0, 4⟩ ⊢ WP c (onBufs (k0_part37 (F := F)) c u1 u2 u3) Q := by
  simp only [k0_part37_eq_skeleton]
  unfold k0_part37_skel
  simp only [Prog.lift, Prog.bind_op, Prog.bind_ret, Prog.pure_eq_ret]
  refine to_land 4 (by decide) (by decide) (by decide) rfl rfl (by rfl) ?_
  refine to_gb_load 4 (by decide) (by decide) ?_
  refine via_out _ _ _ (step_out_dead _ _ _) ?_
  refine via_out _ _ _ (step_out _ _ 4 (by decide) (off5_at c 4 (by decide) (by decide)) (out_other A c 4 (by decide) (by decide) _ _)) ?_
  refine to_land 5 (by decide) (by decide) (by decide) rfl rfl (by rfl) ?_
  refine to_gb_load 5 (by decide) (by decide) ?_
  refine via_out _ _ _ (step_out_dead _ _ _) ?_
  exact to_end h

/-- From five and six places back. -/
theorem part38 {X : sProp 𝕄} {u1 u2 u3 : BitVec 32} {Q : _ → sProp 𝕄}
    (h : ∀ w1 w2 : BitVec 32, Hold A K c X ⟨16, 16, 16, 16, 0, 2, 0, true, 8, 8, 0, 7⟩ ⊢ Q ⟨w1, k0_pay80 (rowsV A c 7 (by decide)), w2⟩) :
    Hold A K c X ⟨16, 16, 16, 16, 0, 2, 0, true, 8, 6, 0, 5⟩ ⊢ WP c (onBufs (k0_part38 (F := F)) c u1 u2 u3 (k0_pay78 (rowsV A c 5 (by decide)))) Q := by
  simp only [k0_part38_eq_skeleton]
  unfold k0_part38_skel
  simp only [Prog.lift, Prog.bind_op, Prog.bind_ret, Prog.pure_eq_ret]
  refine via_out _ _ _ (step_out _ _ 5 (by decide) (off5_at c 5 (by decide) (by decide)) (out_other A c 5 (by decide) (by decide) _ _)) ?_
  refine to_land 6 (by decide) (by decide) (by decide) rfl rfl (by rfl) ?_
  refine to_gb_load 6 (by decide) (by decide) ?_
  refine via_out _ _ _ (step_out_dead _ _ _) ?_
  refine via_out _ _ _ (step_out _ _ 6 (by decide) (off5_at c 6 (by decide) (by decide)) (out_other A c 6 (by decide) (by decide) _ _)) ?_
  refine to_land 7 (by decide) (by decide) (by decide) rfl rfl (by rfl) ?_
  refine to_gb_load 7 (by decide) (by decide) ?_
  exact to_end (h _ _)

/-- From seven places back; the sends of slabs 1 to 3 are over. -/
theorem part39 {X : sProp 𝕄} {u1 u2 : BitVec 32} {Q : _ → sProp 𝕄}
    (h : Hold A K c X ⟨16, 16, 16, 16, 4, 2, 0, true, 8, 8, 0, 8⟩ ⊢ Q ⟨⟩) :
    Hold A K c X ⟨16, 16, 16, 16, 0, 2, 0, true, 8, 8, 0, 7⟩ ⊢ WP c (onBufs (k0_part39 (F := F)) c u1 (k0_pay80 (rowsV A c 7 (by decide))) u2) Q := by
  simp only [k0_part39_eq_skeleton]
  unfold k0_part39_skel
  simp only [Prog.lift, Prog.bind_op, Prog.bind_ret, Prog.pure_eq_ret]
  refine via_out _ _ _ (step_out_dead _ _ _) ?_
  refine via_out _ _ _ (step_out _ _ 7 (by decide) (off5_at c 7 (by decide) (by decide)) (out_other A c 7 (by decide) (by decide) _ _)) ?_
  refine to_done 1 (by decide) (by decide) (by decide) rfl rfl (by rfl) ?_
  refine to_done 2 (by decide) (by decide) (by decide) rfl rfl (by rfl) ?_
  refine to_done 3 (by decide) (by decide) (by decide) rfl rfl (by rfl) ?_
  exact to_end h

/-- So are those of slabs 4 to 7, -/
theorem part40 {X : sProp 𝕄} {Q : _ → sProp 𝕄}
    (h : Hold A K c X ⟨16, 16, 16, 16, 8, 2, 0, true, 8, 8, 0, 8⟩ ⊢ Q ⟨⟩) :
    Hold A K c X ⟨16, 16, 16, 16, 4, 2, 0, true, 8, 8, 0, 8⟩ ⊢ WP c (onBufs (k0_part40 (F := F)) ) Q := by
  simp only [k0_part40_eq_skeleton]
  unfold k0_part40_skel
  simp only [Prog.lift, Prog.bind_op, Prog.bind_ret, Prog.pure_eq_ret]
  refine to_done 4 (by decide) (by decide) (by decide) rfl rfl (by rfl) ?_
  refine to_done 5 (by decide) (by decide) (by decide) rfl rfl (by rfl) ?_
  refine to_done 6 (by decide) (by decide) (by decide) rfl rfl (by rfl) ?_
  refine to_done 7 (by decide) (by decide) (by decide) rfl rfl (by rfl) ?_
  exact to_end h

/-- of slabs 9 to 11, -/
theorem part41 {X : sProp 𝕄} {Q : _ → sProp 𝕄}
    (h : Hold A K c X ⟨16, 16, 16, 16, 12, 2, 0, true, 8, 8, 0, 8⟩ ⊢ Q ⟨⟩) :
    Hold A K c X ⟨16, 16, 16, 16, 8, 2, 0, true, 8, 8, 0, 8⟩ ⊢ WP c (onBufs (k0_part41 (F := F)) ) Q := by
  simp only [k0_part41_eq_skeleton]
  unfold k0_part41_skel
  simp only [Prog.lift, Prog.bind_op, Prog.bind_ret, Prog.pure_eq_ret]
  refine to_done 9 (by decide) (by decide) (by decide) rfl rfl (by rfl) ?_
  refine to_done 10 (by decide) (by decide) (by decide) rfl rfl (by rfl) ?_
  refine to_done 11 (by decide) (by decide) (by decide) rfl rfl (by rfl) ?_
  exact to_end h

/-- of slabs 12 to 15, and the first of the rows; -/
theorem part42 {X : sProp 𝕄} {Q : _ → sProp 𝕄}
    (h : Hold A K c X ⟨16, 16, 16, 16, 16, 2, 0, true, 8, 8, 2, 8⟩ ⊢ Q ⟨⟩) :
    Hold A K c X ⟨16, 16, 16, 16, 12, 2, 0, true, 8, 8, 0, 8⟩ ⊢ WP c (onBufs (k0_part42 (F := F)) ) Q := by
  simp only [k0_part42_eq_skeleton]
  unfold k0_part42_skel
  simp only [Prog.lift, Prog.bind_op, Prog.bind_ret, Prog.pure_eq_ret]
  refine to_done 12 (by decide) (by decide) (by decide) rfl rfl (by rfl) ?_
  refine to_done 13 (by decide) (by decide) (by decide) rfl rfl (by rfl) ?_
  refine to_done 14 (by decide) (by decide) (by decide) rfl rfl (by rfl) ?_
  refine to_done 15 (by decide) (by decide) (by decide) rfl rfl (by rfl) ?_
  refine to_bdone 1 (by decide) (by decide) (by decide) rfl rfl (by rfl) ?_
  exact to_end h

/-- and those of the rows up to the sixth. -/
theorem part43 {X : sProp 𝕄} {Q : _ → sProp 𝕄}
    (h : Hold A K c X ⟨16, 16, 16, 16, 16, 2, 0, true, 8, 8, 7, 8⟩ ⊢ Q ⟨⟩) :
    Hold A K c X ⟨16, 16, 16, 16, 16, 2, 0, true, 8, 8, 2, 8⟩ ⊢ WP c (onBufs (k0_part43 (F := F)) ) Q := by
  simp only [k0_part43_eq_skeleton]
  unfold k0_part43_skel
  simp only [Prog.lift, Prog.bind_op, Prog.bind_ret, Prog.pure_eq_ret]
  refine to_bdone 2 (by decide) (by decide) (by decide) rfl rfl (by rfl) ?_
  refine to_bdone 3 (by decide) (by decide) (by decide) rfl rfl (by rfl) ?_
  refine to_bdone 4 (by decide) (by decide) (by decide) rfl rfl (by rfl) ?_
  refine to_bdone 5 (by decide) (by decide) (by decide) rfl rfl (by rfl) ?_
  refine to_bdone 6 (by decide) (by decide) (by decide) rfl rfl (by rfl) ?_
  exact to_end h

end Parts

end Cert.KernelIdealProof
-- ==== Proof.Body.lean ====
/-
  The run of the kernel on one device.
-/
module

public import proofs.«01_k».proof.Proof.Begin
public import proofs.«01_k».proof.Proof.PartsHeads
public import proofs.«01_k».proof.Proof.PartsSend
public import proofs.«01_k».proof.Proof.PartsReduce
public import proofs.«01_k».proof.Proof.PartsGather

@[expose] public section

noncomputable section

namespace Cert.KernelIdealProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

/-- The whole kernel on one device: from what it holds before the barrier to what it holds when every transfer is over. -/
theorem body_run {A : Dev nD → Ins F} {K : GSem nD τ sig → ℕ} {c : Dev nD} {X : sProp 𝕄} {Q : PUnit → sProp 𝕄}
    (h : Hold A K c iprop(atPos ER (barCell c) 1 ∅ 0 ∗ X) ⟨16, 16, 16, 16, 16, 2, 0, true, 8, 8, 8, 8⟩ ⊢ Q ⟨⟩) :
    Begin A K c X 1 ⊢ WP c (onBufs (cc0__body (F := F))) Q := by
  simp only [cc0__body_eq_skeleton]
  unfold cc0__body_skel onBufs
  unfold WP
  rw [wp_bind]
  refine part1 (fun w1_0 w1_1 w1_2 => ?_)
  try dsimp only
  rw [wp_bind]
  refine part2 ?_
  try dsimp only
  rw [wp_bind]
  refine part3 ?_
  try dsimp only
  rw [wp_bind]
  refine part4 ?_
  try dsimp only
  rw [wp_bind]
  refine part5 ?_
  try dsimp only
  rw [wp_bind]
  refine part6 ?_
  try dsimp only
  rw [wp_bind]
  refine part7 (fun w7_0 => ?_)
  try dsimp only
  rw [wp_bind]
  refine part8 (fun w8_0 w8_1 => ?_)
  try dsimp only
  rw [wp_bind]
  refine part9 (fun w9_0 => ?_)
  try dsimp only
  rw [wp_bind]
  refine part10 (fun w10_0 w10_1 => ?_)
  try dsimp only
  rw [wp_bind]
  refine part11 (fun w11_0 w11_1 => ?_)
  try dsimp only
  rw [wp_bind]
  refine part12 ?_
  try dsimp only
  rw [wp_bind]
  refine part13 ?_
  try dsimp only
  rw [wp_bind]
  refine part14 ?_
  try dsimp only
  rw [wp_bind]
  refine part15 ?_
  try dsimp only
  rw [wp_bind]
  refine part16 ?_
  try dsimp only
  rw [wp_bind]
  refine part17 ?_
  try dsimp only
  rw [wp_bind]
  refine part18 (fun w18_0 w18_1 => ?_)
  try dsimp only
  rw [wp_bind]
  refine part19 (fun w19_0 => ?_)
  try dsimp only
  rw [wp_bind]
  refine part20 (fun w20_0 w20_1 w20_2 w20_3 => ?_)
  try dsimp only
  rw [wp_bind]
  refine part21 (fun w21_0 w21_1 => ?_)
  try dsimp only
  rw [wp_bind]
  refine part22 ?_
  try dsimp only
  rw [wp_bind]
  refine part23 (fun w23_0 => ?_)
  try dsimp only
  rw [wp_bind]
  refine part24 (fun w24_0 => ?_)
  try dsimp only
  rw [wp_bind]
  refine part25 (fun w25_0 w25_1 => ?_)
  try dsimp only
  rw [wp_bind]
  refine part26 ?_
  try dsimp only
  rw [wp_bind]
  refine part27 ?_
  try dsimp only
  rw [wp_bind]
  refine part28 ?_
  try dsimp only
  rw [wp_bind]
  refine part29 ?_
  try dsimp only
  rw [wp_bind]
  refine part30 ?_
  try dsimp only
  rw [wp_bind]
  refine part31 ?_
  try dsimp only
  rw [wp_bind]
  refine part32 ?_
  try dsimp only
  rw [wp_bind]
  refine part33 (fun w33_0 w33_1 w33_2 => ?_)
  try dsimp only
  rw [wp_bind]
  refine part34 (fun w34_0 w34_1 w34_2 => ?_)
  try dsimp only
  rw [wp_bind]
  refine part35 (fun w35_0 => ?_)
  try dsimp only
  rw [wp_bind]
  refine part36 ?_
  try dsimp only
  rw [wp_bind]
  refine part37 ?_
  try dsimp only
  rw [wp_bind]
  refine part38 (fun w38_0 w38_1 => ?_)
  try dsimp only
  rw [wp_bind]
  refine part39 ?_
  try dsimp only
  rw [wp_bind]
  refine part40 ?_
  try dsimp only
  rw [wp_bind]
  refine part41 ?_
  try dsimp only
  rw [wp_bind]
  refine part42 ?_
  try dsimp only
  rw [wp_bind]
  refine part43 ?_
  try dsimp only
  simp only [Prog.lift, Prog.bind_op, Prog.bind_ret, Prog.pure_eq_ret]
  refine to_bdone 7 (by decide) (by decide) (by decide) rfl rfl (by rfl) ?_
  exact to_end h

end Cert.KernelIdealProof
-- ==== Proof.Region.lean ====
/-
  The call: what the blocks hold when it begins and ends, and its body.
-/
module

public import proofs.«01_k».proof.Proof.Fund
public import proofs.«01_k».proof.Proof.Body
public import proofs.«01_k».proof.Proof.Gen.KernelIdeal.Points
public import proofs.«01_k».proof.Proof.Gen.KernelIdeal.Regions
public import Idealize.ShloMosaic.Lib.Pipeline.RegionTalk
public import Idealize.ShloMosaic.Lib.Pipeline.ValueKit

@[expose] public section

noncomputable section

namespace Cert.KernelIdealProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg RegionSeg BodyObligation cellOf)

variable {F : FTy → Type} [FloatOps F]

local notation "𝕄" => MT nD τ sig Unit (Elt F) ℕ UU ℕ

section Region

variable (m : (ℓ : Loc nD τ sig) → Buf (Elt F) ℓ)

/-- The blocks device `c`'s body reads. -/
def insOf (c : Dev nD) : Ins F where
  x := V1 m c main_v10
  wq := V1 m c main_v9
  k := V1 m c main_arg2
  v := V1 m c main_arg3
  wo := V1 m c main_arg4

/-- What the call leaves in its result. -/
def outs : Outs (F := F) := fun _ r c => if h : r = main_v11 then h ▸ (outAll (insOf m) c : Buf (Elt F) ((c : Thread nD τ).loc main_v11)) else V1 m c r

/-- The body's state before and after its only point. -/
def PhiOf (c : Dev nD) (n : ℕ) : sProp 𝕄 :=
  if n = 0 then iprop(Scr c ∗ (∃ r, prngReg c r) ∗ Ready (insOf m) c)
  else iprop(Scr c ∗ (∃ r, prngReg c r) ∗ Pipeline.ownSems0 osem c ∗ semVal (barCell c) 0)

def dat0 (c : Dev nD) : Dat τ (Elt F) Unit ℕ UU ℕ cfg0 c where
  A := fun
    | 0 => V1 m c main_v10 | 1 => V1 m c main_v9 | 2 => V1 m c main_arg2 | 3 => V1 m c main_arg3 | 4 => V1 m c main_arg4 | 5 => V1 m c main_v11
    | ⟨_ + 6, h⟩ => absurd h (Nat.not_lt.2 (Nat.le_add_left _ _))
  after := fun
    | 0 => fun _ => (insOf m c).x | 1 => fun _ => (insOf m c).wq | 2 => fun _ => (insOf m c).k | 3 => fun _ => (insOf m c).v | 4 => fun _ => (insOf m c).wo
    | 5 => fun _ => outAll (insOf m) c
    | ⟨_ + 6, h⟩ => absurd h (Nat.not_lt.2 (Nat.le_add_left _ _))
  Φ t := PhiOf m c t.val
  q _ := fullShare
  owed t := if t.val = 0 then debt c 28 else 0

/-! ## What the body finds -/

theorem at_0 : ∀ a, win0_0.index t0_0 a = 0 := by decide +kernel
theorem before_0 (c : Dev nD) (d) : (dat0 m c).before 0 t0_0 d = (insOf m c).x :=
  ((dat0 m c).before_fetched 0 t0_0 (fetch0_0 _) d).trans (by
    unfold Dat.fetched Dat.blockOf
    dsimp only [dat0]
    funext j
    show V1 m c main_v10 (((cfg0.win 0).blk t0_0).view.emb j) = V1 m c main_v10 j
    refine congrArg (V1 m c main_v10) (funext fun a => Fin.ext ?_)
    blk_simp
    rw [at_0, Nat.zero_mul, Nat.zero_add])
theorem at_1 : ∀ a, win0_1.index t0_0 a = 0 := by decide +kernel
theorem before_1 (c : Dev nD) (d) : (dat0 m c).before 1 t0_0 d = (insOf m c).wq :=
  ((dat0 m c).before_fetched 1 t0_0 (fetch0_1 _) d).trans (by
    unfold Dat.fetched Dat.blockOf
    dsimp only [dat0]
    funext j
    show V1 m c main_v9 (((cfg0.win 1).blk t0_0).view.emb j) = V1 m c main_v9 j
    refine congrArg (V1 m c main_v9) (funext fun a => Fin.ext ?_)
    blk_simp
    rw [at_1, Nat.zero_mul, Nat.zero_add])
theorem at_2 : ∀ a, win0_2.index t0_0 a = 0 := by decide +kernel
theorem before_2 (c : Dev nD) (d) : (dat0 m c).before 2 t0_0 d = (insOf m c).k :=
  ((dat0 m c).before_fetched 2 t0_0 (fetch0_2 _) d).trans (by
    unfold Dat.fetched Dat.blockOf
    dsimp only [dat0]
    funext j
    show V1 m c main_arg2 (((cfg0.win 2).blk t0_0).view.emb j) = V1 m c main_arg2 j
    refine congrArg (V1 m c main_arg2) (funext fun a => Fin.ext ?_)
    blk_simp
    rw [at_2, Nat.zero_mul, Nat.zero_add])
theorem at_3 : ∀ a, win0_3.index t0_0 a = 0 := by decide +kernel
theorem before_3 (c : Dev nD) (d) : (dat0 m c).before 3 t0_0 d = (insOf m c).v :=
  ((dat0 m c).before_fetched 3 t0_0 (fetch0_3 _) d).trans (by
    unfold Dat.fetched Dat.blockOf
    dsimp only [dat0]
    funext j
    show V1 m c main_arg3 (((cfg0.win 3).blk t0_0).view.emb j) = V1 m c main_arg3 j
    refine congrArg (V1 m c main_arg3) (funext fun a => Fin.ext ?_)
    blk_simp
    rw [at_3, Nat.zero_mul, Nat.zero_add])
theorem at_4 : ∀ a, win0_4.index t0_0 a = 0 := by decide +kernel
theorem before_4 (c : Dev nD) (d) : (dat0 m c).before 4 t0_0 d = (insOf m c).wo :=
  ((dat0 m c).before_fetched 4 t0_0 (fetch0_4 _) d).trans (by
    unfold Dat.fetched Dat.blockOf
    dsimp only [dat0]
    funext j
    show V1 m c main_arg4 (((cfg0.win 4).blk t0_0).view.emb j) = V1 m c main_arg4 j
    refine congrArg (V1 m c main_arg4) (funext fun a => Fin.ext ?_)
    blk_simp
    rw [at_4, Nat.zero_mul, Nat.zero_add])

/-- The array of results holds what the body left. -/
theorem after_5 (c : Dev nD) : (dat0 m c).arrAt 5 cfg0.N = outAll (insOf m) c := by
  refine (dat0 m c).arrAt_eq_of_after_last 5 t0_0 (by decide +kernel) _ fun j => ?_
  dsimp only [dat0]
  rfl

/-! ## The body's only point -/

theorem owesAt_intro (c : Dev nD) (t : Fin (cfg0.N + 1)) (n : ℕ) (h : (dat0 m c).owed t = debt c n) :
    (Owe c n : sProp 𝕄) ⊢ (dat0 m c).owesAt () t := by
  unfold Owe Dat.owesAt Pipeline.owesWithin Dat.bound
  rw [h]
  iintro ⟨%W, HO⟩
  iexists W
  isplitr; · ipureintro; exact fun _ _ => Or.inl trivial
  iexact HO
theorem owesAt_elim (c : Dev nD) (t : Fin (cfg0.N + 1)) (n : ℕ) (h : (dat0 m c).owed t = debt c n) :
    ((dat0 m c).owesAt () t : sProp 𝕄) ⊢ Owe c n := by
  unfold Owe Dat.owesAt Pipeline.owesWithin
  rw [h]
  iintro ⟨%W, -, HO⟩
  iexists W
  iexact HO

/-- A program that ends holding `Y`, run beside `R`, ends at `Q` where `R` and `Y` become `Q` by an update. -/
theorem wp_close (c : Dev nD) {p : Prog (TpuEff nD τ sig (Elt F) Λ₀ .tc) PUnit} {P R Y : sProp 𝕄} {Q : PUnit → sProp 𝕄}
    (hw : ∀ Y', (Y ⊢ Y') → (P ⊢ WP c p fun _ => Y')) (h : iprop(R ∗ Y) ⊢ |={Set.univ}=> Q ⟨⟩) : iprop(R ∗ P) ⊢ WP c p Q :=
  (sep_mono_right (hw Y .rfl)).trans ((wp_frame_l frame (wpE defs₀ 𝒱₀ c none) Set.univ).trans
    ((wp_mono frame (wpE defs₀ 𝒱₀ c none) Set.univ fun _ => h).trans (wp_fupd frame (wpE defs₀ 𝒱₀ c none) Set.univ p Q)))

/-- From the blocks and the state before the point to those after it. -/
theorem point (c : Dev nD) {Q : PUnit → sProp 𝕄}
    (hQ : iprop(Inp (insOf m c) c ∗ whole c cc0_stg5_0 (outAll (insOf m) c) ∗ PhiOf m c 1 ∗ Owe c 0) ⊢ Q ⟨⟩) :
    iprop(PhiOf m c 0 ∗ Owe c 28 ∗ Inp (insOf m c) c ∗ (∃ f, whole c cc0_stg5_0 f)) ⊢ WP c (onBufs (cc0__body (F := F))) Q := by
  have e0 : PhiOf m c 0 = iprop(Scr c ∗ (∃ r, prngReg c r) ∗ Ready (insOf m) c) := if_pos rfl
  have e1 : PhiOf m c 1 = iprop(Scr c ∗ (∃ r, prngReg c r) ∗ Pipeline.ownSems0 osem c ∗ semVal (barCell c) 0) := if_neg Nat.one_ne_zero
  rw [e1] at hQ
  rw [e0]
  unfold Ready
  iintro ⟨⟨HS, Hp, %K, HR, Hb, HF, HT, HC⟩, HO, HI, HU⟩
  ihave HB := (begin_all (insOf m) K c) $$ [HR Hb HF HT HC HS HI HU HO]
  · iframe
  have h : iprop((∃ r, prngReg c r) ∗ Hold (insOf m) K c iprop(atPos ER (barCell c) 1 ∅ 0 ∗ Idle c) done) ⊢ (|={Set.univ}=> Q ⟨⟩ : sProp 𝕄) := by
    iintro ⟨Hp, HH⟩
    imod (close_all (insOf m) K c) $$ HH with ⟨HI, HU, HS, Hs, Hb, HO⟩
    imodintro
    iapply hQ
    iframe
  ihave HB' := (show iprop((∃ r, prngReg c r) ∗ Begin (insOf m) K c (Idle c) 1) ⊢ WP c (onBufs (cc0__body (F := F))) Q from
    wp_close c (fun Y h' => body_run (Q := fun _ => Y) h') h) $$ [Hp HB]
  · iframe
  iexact HB'

set_option maxRecDepth 65536 in
theorem body0 (c : Dev nD) : BodyObligation (dat0 m c) defs₀ 𝒱₀ () Set.univ := fun t => by
  obtain rfl := fin_N0 t
  rw [bigSep_W0, bigSep_W0]
  show iprop(PhiOf m c 0 ∗ (dat0 m c).owesAt () t0_0.castSucc
      ∗ (∃ d, owns (c : Thread nD τ) (Memref.whole cc0_stg0_0) fullShare ((dat0 m c).before 0 t0_0 d))
      ∗ (∃ d, owns (c : Thread nD τ) (Memref.whole cc0_stg1_0) fullShare ((dat0 m c).before 1 t0_0 d))
      ∗ (∃ d, owns (c : Thread nD τ) (Memref.whole cc0_stg2_0) fullShare ((dat0 m c).before 2 t0_0 d))
      ∗ (∃ d, owns (c : Thread nD τ) (Memref.whole cc0_stg3_0) fullShare ((dat0 m c).before 3 t0_0 d))
      ∗ (∃ d, owns (c : Thread nD τ) (Memref.whole cc0_stg4_0) fullShare ((dat0 m c).before 4 t0_0 d))
      ∗ (∃ d, owns (c : Thread nD τ) (Memref.whole cc0_stg5_0) fullShare ((dat0 m c).before 5 t0_0 d)))
    ⊢ WP c (onBufs (cc0__body (F := F))) fun _ => iprop(PhiOf m c 1 ∗ (dat0 m c).owesAt () t0_0.succ
      ∗ owns (c : Thread nD τ) (Memref.whole cc0_stg0_0) fullShare (insOf m c).x
      ∗ owns (c : Thread nD τ) (Memref.whole cc0_stg1_0) fullShare (insOf m c).wq
      ∗ owns (c : Thread nD τ) (Memref.whole cc0_stg2_0) fullShare (insOf m c).k
      ∗ owns (c : Thread nD τ) (Memref.whole cc0_stg3_0) fullShare (insOf m c).v
      ∗ owns (c : Thread nD τ) (Memref.whole cc0_stg4_0) fullShare (insOf m c).wo
      ∗ owns (c : Thread nD τ) (Memref.whole cc0_stg5_0) fullShare (outAll (insOf m) c))
  simp only [before_0, before_1, before_2, before_3, before_4]
  simp only [owns_whole]
  refine BIBase.Entails.trans ?_ (point m c ?_)
  · iintro ⟨HΦ, HO, ⟨%d0, H0⟩, ⟨%d1, H1⟩, ⟨%d2, H2⟩, ⟨%d3, H3⟩, ⟨%d4, H4⟩, ⟨%d5, H5⟩⟩
    isplitl [HΦ]; · iexact HΦ
    isplitl [HO]; · iapply (owesAt_elim m c t0_0.castSucc 28 rfl); iexact HO
    isplitr [H5]
    · unfold Inp
      iframe
    iexists _
    iexact H5
  · unfold Inp
    iintro ⟨⟨H0, H1, H2, H3, H4⟩, H5, HΦ, HO⟩
    isplitl [HΦ]; · iexact HΦ
    isplitl [HO]; · iapply (owesAt_intro m c t0_0.succ 0 rfl); iexact HO
    iframe

/-! ## The call -/

def pdats : (p : Fin 1) → (c : Dev nD) → Dat τ (Elt F) Unit ℕ UU ℕ (cfgs p) c := fun | 0 => dat0 m

theorem outs_eq (c : Dev nD) : outs m 2 main_v11 c = outAll (insOf m) c := dif_pos rfl

/-- The buffers that the call's blocks are not cut from. -/
abbrev others : Finset (DevRef τ sig) := Pipeline.ucRefs τ sig \ Pipeline.arrRefs (τ := τ) spec0

theorem v11_arr : (Proc.devRef .tc main_v11 : DevRef τ sig) ∈ Pipeline.arrRefs (τ := τ) spec0 := by decide

theorem arrays_before (c : Dev nD) (w : Fin 6) : (dat0 m c).arrAt w 0 = V1 m c (Proc.devRef .tc (Pipeline.arrRef spec0 w)) := by
  fin_cases w <;> rfl
theorem arrays_after (c : Dev nD) (w : Fin 6) : (dat0 m c).arrAt w cfg0.N = V2 m (outs m) c (Proc.devRef .tc (Pipeline.arrRef spec0 w)) := by
  match w with
  | 0 => exact ((dat0 m c).arrAt_in 0 rfl _).trans (V2_of m (outs m) c main_v10 (by decide)).symm
  | 1 => exact ((dat0 m c).arrAt_in 1 rfl _).trans (V2_of m (outs m) c main_v9 (by decide)).symm
  | 2 => exact ((dat0 m c).arrAt_in 2 rfl _).trans (V2_of m (outs m) c main_arg2 (by decide)).symm
  | 3 => exact ((dat0 m c).arrAt_in 3 rfl _).trans (V2_of m (outs m) c main_arg3 (by decide)).symm
  | 4 => exact ((dat0 m c).arrAt_in 4 rfl _).trans (V2_of m (outs m) c main_arg4 (by decide)).symm
  | 5 => exact (after_5 m c).trans ((outs_eq m c).symm.trans (Function.update_self (Proc.devRef .tc main_v11 : DevRef τ sig) (outs m 2 main_v11 c) (V1 m c)).symm)

theorem owed_level (c : Dev nD) (t : Fin (cfg0.N + 1)) (g : GSem nD τ sig) (i : Unit) (h : 0 < (dat0 (F := F) m c).owed t g i) :
    i ∈ L g ∧ (0 : ℕ) < lv g i := by
  have e : (dat0 (F := F) m c).owed t = if t.val = 0 then debt c 28 else 0 := rfl
  rw [e] at h
  split at h
  · obtain ⟨p, -, hp, rfl⟩ := debt_pos c 28 g i h
    refine ⟨by rw [L_payCell]; exact Finset.mem_singleton_self _, ?_⟩
    by_cases h7 : p < 7
    · unfold payCell; rw [if_pos h7]; exact Nat.one_pos
    · exact Nat.lt_trans Nat.one_pos (lv_payCell_two c p (by omega) i)
  · exact absurd h (Nat.lt_irrefl 0)

theorem stage_level (c : Dev nD) (w : Fin 6) (s : Fin (spec0 w).nbuf) : lv ((c : Thread nD τ), .dma ((spec0 w).sem s)) () ≤ 0 := by
  have h : ∀ (w : Fin 6) (s : Fin (spec0 w).nbuf), ((spec0 w).sem s).val < 22 := by decide
  exact le_of_eq (if_pos (h w s))

set_option backward.isDefEq.respectTransparency.types false in
def reg0 : RegionSeg (pcfgs (F := F)) adm (pdats m) () defs₀ 𝒱₀ L lv 0 :=
  RegionSeg.ofTalk (pcfgs (F := F)) adm (pdats m) () defs₀ 𝒱₀ L lv 0 osem (by decide : Pipeline.OwnSemFacts spec0 osem)
    ∅ others (Finset.empty_subset _) launch0.toP rfl (fun c => (body0 m c).loose)
    (fun _ => 0) (fun c => debt c 28) (fun c => (zero_add _).symm) (fun c => rfl) (fun _ => rfl) (fun c w => (show (dat0 m c).share w = fullShare from by fin_cases w <;> rfl))
    (V1 m) (V2 m (outs m))
    (fun c b hb => Function.update_of_ne (fun e => (Finset.mem_sdiff.mp (Finset.mem_sdiff.mp hb).1).2 (by rw [e]; exact v11_arr)) _ _)
    (Dealt (insOf m)) (fun c => semVal (barCell c) 0) (Ready (insOf m)) (fun c => semVal (barCell c) 0) (open_cells (insOf m))
    (fun c => by
      show iprop(Pipeline.scopedRest spec0 c ∗ _ ∗ _ ∗ _) ⊢ PhiOf m c 0
      rw [scopedRest0_eq, show PhiOf m c 0 = iprop(Scr c ∗ (∃ r, prngReg c r) ∗ Ready (insOf m) c) from if_pos rfl]
      unfold Scr
      iintro ⟨HS, Hp, -, HX⟩
      iframe)
    (fun c => by
      show PhiOf m c 1 ⊢ iprop(Pipeline.scopedRest spec0 c ∗ _ ∗ _ ∗ _)
      rw [scopedRest0_eq, show PhiOf m c 1 = iprop(Scr c ∗ (∃ r, prngReg c r) ∗ Pipeline.ownSems0 osem c ∗ semVal (barCell c) 0) from if_neg Nat.one_ne_zero]
      unfold Scr StableHlo.held
      rw [bigSep_empty]
      iintro ⟨HS, Hp, Ho, Hb⟩
      iframe
      iempintro)
    (fun c => by iintro H; imodintro; iexact H)
    (fun _ => 0)
    ⟨fun c w s => by rw [L_tc]; exact Finset.mem_singleton_self _, fun c w s => stage_level c w s, fun c t g i h => owed_level m c t g i h⟩
    (fun _ => iprop(emp))
    (fun c w => arrays_before m c w) (fun c w => arrays_after m c w)

/-- The buffers and what rides beside them are what the call needs, -/
theorem reg0_pre (c : Dev nD) : iprop(StableHlo.held (c : Thread nD τ) (Pipeline.ucRefs τ sig) (V1 m c) ∗ Before (insOf m) c) ⊢ (reg0 m).pre c := by
  show _ ⊢ iprop(StableHlo.held (c.tc : Thread nD τ) (Pipeline.arrRefs (τ := τ) spec0) (V1 m c) ∗ (∃ r, prngReg c r)
    ∗ (StableHlo.held (c.tc : Thread nD τ) others (V1 m c) ∗ emp) ∗ Dealt (insOf m) c ∗ ∃ Wd, owes (c : Thread nD τ) (0 + debt c 28) Wd)
  rw [zero_add, StableHlo.held_sub_split (c.tc : Thread nD τ) (Pipeline.arrRefs_sub_ucRefs spec0 (by decide)) (V1 m c)]
  unfold Before Owe
  iintro ⟨⟨Ha, Ho⟩, HD, Hp, HO⟩
  iframe

/-- What rides beside the buffers after the call. -/
def After (c : Dev nD) : sProp 𝕄 := iprop(semVal (barCell c) 0 ∗ ∃ W, owes (c : Thread nD τ) (0 : CellTallies nD τ sig Unit) W)

/-- and what it leaves. -/
theorem reg0_post (c : Dev nD) : (reg0 m).post c ⊢ iprop(StableHlo.held (c : Thread nD τ) (Pipeline.ucRefs τ sig) (V2 m (outs m) c) ∗ After c) := by
  show iprop(StableHlo.held (c.tc : Thread nD τ) (Pipeline.arrRefs (τ := τ) spec0) (V2 m (outs m) c) ∗ (∃ r, prngReg c r)
    ∗ (StableHlo.held (c.tc : Thread nD τ) others (V2 m (outs m) c) ∗ emp) ∗ semVal (barCell c) 0
      ∗ ∃ Wd, owes (c : Thread nD τ) (0 : CellTallies nD τ sig Unit) Wd) ⊢ _
  rw [StableHlo.held_sub_split (c.tc : Thread nD τ) (Pipeline.arrRefs_sub_ucRefs spec0 (by decide)) (V2 m (outs m) c)]
  unfold After
  iintro ⟨Ha, -, ⟨Ho, -⟩, Hb, HO⟩
  iframe

end Region

end Cert.KernelIdealProof
-- ==== Proof.Run.lean ====
/-
  The whole program on the eight devices, from any memory with zero counters: it ends, the arguments are as launched,
  every counter is zero again, and each device's result is the array that the call leaves, reshaped.
-/
module

public import proofs.«01_k».proof.Proof.Region

@[expose] public section

noncomputable section

namespace Cert.KernelIdealProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

section Run

variable [∀ e, Nonempty (Elt F e)] (m : (ℓ : Loc nD τ sig) → Buf (Elt F) ℓ) (ρ : Dev nD → PrngReg)

/-- What rides beside the buffers before and after the call. -/
def beside : Fin 2 → Dev nD → sProp 𝕄
  | 0 => Before (insOf m)
  | 1 => After

/-- At the end: the buffers at their last contents, the barrier's counter at zero. -/
def Ended (c : Dev nD) : sProp 𝕄 :=
  iprop(StableHlo.held (c : Thread nD τ) (Pipeline.ucRefs τ sig) (V3 m (outs m) c) ∗ semVal (barCell c) 0)

theorem bar_only : ∀ sm : SemLoc sig, sm.isScoped .tc = false → sm = .reg barS := by decide

/-- What device `c`'s memory and barrier counter are at the end. -/
def EndsAt (c : Dev nD) (s : MemSt nD τ sig (Elt F)) : Prop :=
  (s.mem ((c.tc : Thread nD τ).loc main_v12) = V3 m (outs m) c main_v12
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)) ∧ s.sem (barCell c) = 0

theorem ends_at (c : Dev nD) (s' : Phys nD τ sig (Elt F)) : iprop(Ended m c ∗ SI s') ⊢ (|={Set.univ}=> iprop(⌜EndsAt m c s'.mem⌝ ∗ SI s') : sProp 𝕄) := by
  unfold Ended StableHlo.held
  iintro ⟨⟨Hh, Hb⟩, HSI⟩
  icombine HSI Hb gives %hb
  ihave Hr := (pointsTo_read_all (Pipeline.ucRefs τ sig) (fun b => ((c : Thread nD τ).1, b)) (V3 m (outs m) c) s') $$ [Hh HSI]
  · isplitl [Hh] <;> iassumption
  icases Hr with ⟨%h, HSI⟩
  imodintro
  isplitr
  · ipureintro
    exact ⟨⟨h (Proc.devRef .tc main_v12) (Finset.mem_filter.mpr ⟨StableHlo.devRef_mem_tcRefs main_v12, by decide⟩),
      (h (Proc.devRef .tc main_arg0) (Finset.mem_filter.mpr ⟨StableHlo.devRef_mem_tcRefs main_arg0, by decide⟩)).trans (V3_main_arg0 m (outs m) c),
      (h (Proc.devRef .tc main_arg1) (Finset.mem_filter.mpr ⟨StableHlo.devRef_mem_tcRefs main_arg1, by decide⟩)).trans (V3_main_arg1 m (outs m) c),
      (h (Proc.devRef .tc main_arg2) (Finset.mem_filter.mpr ⟨StableHlo.devRef_mem_tcRefs main_arg2, by decide⟩)).trans (V3_main_arg2 m (outs m) c),
      (h (Proc.devRef .tc main_arg3) (Finset.mem_filter.mpr ⟨StableHlo.devRef_mem_tcRefs main_arg3, by decide⟩)).trans (V3_main_arg3 m (outs m) c),
      (h (Proc.devRef .tc main_arg4) (Finset.mem_filter.mpr ⟨StableHlo.devRef_mem_tcRefs main_arg4, by decide⟩)).trans (V3_main_arg4 m (outs m) c)⟩, by simpa using hb⟩
  · iexact HSI

set_option backward.isDefEq.respectTransparency.types false in
/-- From any memory with zero counters, every weakly fair execution ends, with each device's result the call's array reshaped,
    the arguments as launched and every counter zero. -/
theorem run_main : θ_run (defs (F := F)) (onTc (τ := τ) (main (F := F))) ⟨m, fun _ => 0, ρ⟩ (fun r =>
    (∀ c : Dev nD, r.2.mem ((c.tc : Thread nD τ).loc main_v12) = V3 m (outs m) c main_v12
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := by
  refine Pipeline.θ_run_regions_kit_dev_sems (pcfgs (F := F)) adm (pdats m) () cellOf_inj EP defs₀ 𝒱₀ L lv m ρ main
    (segs m (outs m) 𝒱₀ L lv (beside m) () (pdats m) (reg0 m))
    (fun c Q => by
      rewrite [main_chain c, Pipeline.Seg.run_eq_chain,
        show (segs m (outs m) 𝒱₀ L lv (beside m) () (pdats m) (reg0 m) c).map Pipeline.Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Pipeline.Seg.pipes_host, Pipeline.Seg.pipes_region, Pipeline.Seg.pipes_nil]; decide)
    (fun d => debt d 28) L_of_ne kept (u₀ (F := F)) ?_
    (T₀ := fun c => iprop(StableHlo.held (c : Thread nD τ) (Pipeline.ucRefs τ sig) (V0 m c) ∗ Before (insOf m) c))
    (Tₙ := Ended m)
    (hch := fun c => ⟨.rfl, reg0_pre m c, reg0_post m c, ?_⟩)
    (hinit := ?_) (QY := EndsAt m) (hfin := ends_at m)
    (hQ := fun s h hs => ⟨fun c => (h c).1, sem_eq_zero hs fun c sm hsm => by
        obtain rfl := bar_only sm hsm
        exact (h c).2⟩)
  · unfold u₀
    iintro Hu
    ihave H := (ownU_pair _ _) $$ Hu
    icases H with ⟨HP, HX⟩
    imodintro
    isplitl [HP]; · iexact HP
    iapply (Entails.of_eq (all_kept (F := F)).symm)
    iexact HX
  · show iprop(StableHlo.held (c : Thread nD τ) (Pipeline.ucRefs τ sig) (V3 m (outs m) c)
        ∗ (semVal (barCell c) 0 ∗ ∃ W, owes (c : Thread nD τ) (0 : CellTallies nD τ sig Unit) W))
      ⊢ iprop(Ended m c ∗ ∃ W, owes (c : Thread nD τ) (0 : CellTallies nD τ sig Unit) W)
    unfold Ended
    iintro ⟨Hh, Hb, HO⟩
    iframe
  · have hsplit : (bigSep Finset.univ fun c : Dev nD => iprop(unscopedBufs c (fun b => m ((c.tc : Thread nD τ).loc b)) ∗ unscopedSems0 c
          ∗ owes (c.tc : Thread nD τ) (debt c 28) ∅ ∗ Pipeline.launchCred (fun d => debt d 28) c ∗ prngReg c (ρ c) ∗ kept c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (debt c 28) ∅
              ∗ Pipeline.launchCred (fun d => debt d 28) c ∗ prngReg c (ρ c) ∗ kept c)) : sProp 𝕄) := by
      rw [← bigSep_sep']
      exact bigSep_mono fun c _ => by
        rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (deal (insOf m) ρ) $$ [Hr Hla] with HE
    · isplitl [Hr]; · iexact Hr
      iexact Hla
    imodintro
    rw [bigSep_sep']
    isplitl [Hh]; · iexact Hh
    iexact HE

end Run

end Cert.KernelIdealProof
-- ==== Proof.Frames.lean ====
/-
  The three programs run: the kernel at both float instances from the one run of the whole program, the reference from
  its own run.
-/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.KernelIdealProof

open Idealize.ShloMosaic Idealize.SL.Sem

/-- At any floats the kernel's text ends with its arguments unchanged and every counter zero. -/
theorem frame_any {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) ∧ r.2.sem = fun _ => 0) :=
  (θ_run (Cert.KernelIdeal.defs (F := F)) (onTc (τ := Cert.KernelIdeal.τ) (Cert.KernelIdeal.main (F := F))) ⟨m, fun _ => 0, ρ⟩).mono
    (fun _ h => ⟨fun c => (h.1 c).2, h.2⟩) (run_main (F := F) m ρ)

/-- The two printings of the kernel call the same body, -/
theorem body_same (F : FTy → Type) [FloatOps F] : Cert.Kernel.defs₀ (F := F) = Cert.KernelIdeal.defs₀ := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))

/-- under the same launch. -/
theorem defs_same (F : FTy → Type) [FloatOps F] : Cert.Kernel.defs (F := F) = Cert.KernelIdeal.defs :=
  congrArg (Pipeline.defs Cert.KernelIdeal.pcfgs) (body_same F)

/-- The kernel at the machine's floats ends with its arguments unchanged and every counter zero. -/
theorem frame_kernel : Cert.quiescent_Kernel := fun m ρ _ => by
  rw [defs_same]
  exact frame_any (F := Bits) m ρ

/-- So does the kernel over the extended reals, -/
theorem frame_kernelIdeal : Cert.quiescent_KernelIdeal := fun m ρ _ => frame_any (F := Ideal) m ρ

/-- under the equation's precondition too, which the run does not need, -/
theorem frame_kernelIdeal_finite [Cert.Pre_finite_scores_KernelIdeal.Facts] :
    Cert.quiescent_KernelIdeal_pre_finite_scores_KernelIdeal := fun m ρ _ => frame_any (F := Ideal) m ρ

/-- and the reference over the extended reals. -/
theorem frame_referenceIdeal : Cert.quiescent_ReferenceIdeal := fun m ρ _ =>
  (θ_run (Cert.ReferenceIdeal.defs (F := Ideal)) _ _).mono
    (fun r h => ⟨fun c => (h c).2, sem_eq_zero_of_no_sems (by decide) r.2⟩) (Cert.ReferenceIdeal.Value.run (F := Ideal) m ρ)

/-- Its run does not need the precondition either. -/
theorem frame_referenceIdeal_finite [Cert.Pre_finite_scores_ReferenceIdeal.Facts] :
    Cert.quiescent_ReferenceIdeal_pre_finite_scores_ReferenceIdeal := fun m ρ _ => frame_referenceIdeal m ρ trivial

end Cert.KernelIdealProof

end
-- ==== Proof.Finite.lean ====
/-
  The precondition read back: an array of which the absolute values are below infinity holds real numbers, so the
  precondition says that of `x`, `Wq` and each device's block of `K`.
-/
module

public import proofs.«01_k».proof.Defs
public import Idealize.ShloMosaic.Lib.ReduceAll
public import Idealize.ShloMosaic.Lib.Decide

@[expose] public section

noncomputable section

namespace Cert.KernelIdealProof

open Idealize.ShloMosaic

/-- The shape relations the precondition's operations take, over a device's blocks, -/
theorem finiteFacts : Cert.Pre_finite_scores_KernelIdeal.Facts :=
  ⟨by decide, by decide, by decide, by decide, by decide, by decide, by decide⟩

/-- and over the whole arrays. -/
theorem finiteFactsRef : Cert.Pre_finite_scores_ReferenceIdeal.Facts :=
  ⟨by decide, by decide, by decide, by decide, by decide, by decide, by decide⟩

/-- The bit pattern the precondition compares with is infinity. -/
theorem inf_bits : FloatOps.ofBits (F := Ideal) .bf16 0x7F80#16 = (⊤ : EReal) := by
  simp [FloatOps.ofBits, Ideal.ofBits, Ideal.ieee]

/-- A value of which the absolute value is below infinity is a real number. -/
theorem real_of_abs_lt {x : EReal} (h : max x (-x) < ⊤) : ∃ r : ℝ, x = r := by
  refine ⟨x.toReal, (EReal.coe_toReal ?_ ?_).symm⟩
  · rintro rfl
    simp at h
  · rintro rfl
    simp at h

/-- The conjunction of two bits is one only when both are. -/
theorem and_bits : ∀ {a b : BitVec 1}, IntOp.andi a b = 1#1 → a = 1#1 ∧ b = 1#1 := by decide

/-- One array's test: the conjunction over all indices of "the absolute value is below infinity" being one, every element
    is real. -/
theorem real_of_all {s t u : Shape} [Subsingleton t.Idx] {axes : List (Fin s.rank)} (x : FVec Ideal s .bf16) (y : FVec Ideal s .bf16)
    (hy : ∀ i, y i = (⊤ : EReal)) (init : u.Idx → BitVec 1) (h : s.ReducesTo axes t) (hu : 0 < u.numel) (j : t.Idx)
    (e : Host.reduce IntOp.andi (cmpf .olt (Host.absf x) y) init h hu j = 1#1) (i : s.Idx) : ∃ r : ℝ, x i = r := by
  have h1 : BitVec.ofBool (decide (max (x i) (-(x i)) < y i)) = 1#1 := Host.reduce_andi_all _ init h hu j e i
  refine real_of_abs_lt ((hy i) ▸ ?_)
  by_contra hn
  rw [decide_eq_false hn] at h1
  exact absurd h1 (by decide)

/-- The precondition's three tests. -/
theorem reals_of_fn [Cert.Pre_finite_scores_KernelIdeal.Facts] (x : FVec Ideal Cert.Pre_finite_scores_KernelIdeal.S2x512x768 .bf16)
    (wq : FVec Ideal Cert.Pre_finite_scores_KernelIdeal.S768x4096 .bf16) (k v : FVec Ideal Cert.Pre_finite_scores_KernelIdeal.S2x512x8x64 .bf16)
    (wo : FVec Ideal Cert.Pre_finite_scores_KernelIdeal.S4096x768 .bf16)
    (h : Cert.Pre_finite_scores_KernelIdeal.fn x wq k v wo = fun _ => 1#1) :
    (∀ i, ∃ r : ℝ, x i = r) ∧ (∀ i, ∃ r : ℝ, wq i = r) ∧ ∀ i, ∃ r : ℝ, k i = r := by
  have hs : Subsingleton Cert.Pre_finite_scores_KernelIdeal.S_.Idx := ⟨fun a b => funext fun d => absurd d.isLt (Nat.not_lt_zero _)⟩
  have h0 := congrFun h (Shape.Idx.first Cert.Pre_finite_scores_KernelIdeal.Facts.h_S_)
  dsimp only [Cert.Pre_finite_scores_KernelIdeal.fn] at h0
  obtain ⟨h01, h2⟩ := and_bits h0
  obtain ⟨h0, h1⟩ := and_bits h01
  exact ⟨real_of_all x _ (fun _ => inf_bits) _ _ _ _ h0, real_of_all wq _ (fun _ => inf_bits) _ _ _ _ h1,
    real_of_all k _ (fun _ => inf_bits) _ _ _ _ h2⟩

end Cert.KernelIdealProof

end
-- ==== Proof.Softmax.lean ====
/-
  One row of masked attention over the extended reals, computed two ways: weights `exp s` summed and divided once at the
  end, and weights `exp (s - M)` divided one by one. For real scores and a real `M` the two agree, whatever values they weigh.
-/
module

public import Idealize.ShloMosaic.PureOps.Ideal
public import Idealize.ShloMosaic.PureOps.Ideal.Laws
public import Idealize.ShloMosaic.Lib.ValueIdx

@[expose] public section

noncomputable section

namespace Cert.KernelIdealProof

open Idealize.ShloMosaic Idealize.ShloMosaic.ValueIdx
open scoped BigOperators

/-- The mask word of query `i` and key `j`: one where they lie within 128 of each other. -/
def maskW (i j : ℕ) : BitVec 1 :=
  IntOp.cmpi .sle (IntOp.absi (IntOp.subi (BitVec.ofNat 32 i) (BitVec.ofNat 32 j))) 128#32

/-- Every query sees its own key. -/
theorem maskW_self (i : ℕ) : maskW i i = 1#1 := by
  unfold maskW IntOp.subi
  rw [BitVec.sub_self]
  decide

/-- The scale of the scores, an eighth. -/
def scaleC : EReal := Ideal.ofBits .f32 0x3E000000#32

theorem scaleC_real : ∃ r : ℝ, scaleC = r :=
  ⟨_, by unfold scaleC; simp [Ideal.ofBits, Ideal.ieee, -EReal.coe_mul]; rfl⟩

variable {n : ℕ}

/-- The weight of a key before any division: the exponential of its score where the mask keeps it, else zero. -/
def wgt (w : BitVec 1) (s : EReal) : EReal := Scalar.select w (Ideal.exp s) 0

/-- The row as the kernel computes it: the weighted sum, times the reciprocal of the weights' sum. -/
def kRow (w : Fin n → BitVec 1) (s v : Fin n → EReal) : EReal :=
  (∑ j, wgt (w j) (s j) * v j) * Ideal.div 1 (∑ j, wgt (w j) (s j))

/-- The weight of a key with `M` taken off its score, masked scores being `-∞`. -/
def wgtSub (M : EReal) (w : BitVec 1) (s : EReal) : EReal := Ideal.exp (Scalar.select w s ⊥ - M)

/-- The row as the reference computes it: every weight divided by the sum of the weights. -/
def rRow (M : EReal) (w : Fin n → BitVec 1) (s v : Fin n → EReal) : EReal :=
  ∑ j, v j * Ideal.div (wgtSub M (w j) (s j)) (∑ j, wgtSub M (w j) (s j))

/-- The weight as a real number. -/
def wgtR (w : BitVec 1) (s : ℝ) : ℝ := Scalar.select w (Real.exp s) 0

theorem wgt_coe (w : BitVec 1) (s : ℝ) : wgt w s = (wgtR w s : ℝ) := by
  unfold wgt wgtR Scalar.select
  split
  · exact Ideal.exp_coe s
  · rfl

theorem wgtR_nonneg (w : BitVec 1) (s : ℝ) : 0 ≤ wgtR w s := by
  unfold wgtR Scalar.select
  split
  · exact (Real.exp_pos s).le
  · exact le_refl 0

theorem wgtR_pos (s : ℝ) : 0 < wgtR 1#1 s := by
  unfold wgtR Scalar.select
  exact Real.exp_pos s

/-- Taking the real `M` off a score multiplies its weight by `exp (-M)`. -/
theorem wgtSub_coe (M : ℝ) (w : BitVec 1) (s : ℝ) : wgtSub M w s = (wgtR w s * Real.exp (-M) : ℝ) := by
  unfold wgtSub wgtR Scalar.select
  split
  · rw [← EReal.coe_sub, Ideal.exp_coe, ← Real.exp_add, sub_eq_add_neg]
  · rw [EReal.bot_sub, Ideal.exp_bot, zero_mul]; rfl

theorem sum_coe (f : Fin n → ℝ) : ∑ j, (f j : EReal) = ((∑ j, f j : ℝ) : EReal) :=
  (map_sum (⟨⟨fun r : ℝ => (r : EReal), rfl⟩, fun _ _ => EReal.coe_add _ _⟩ : ℝ →+ EReal) f Finset.univ).symm

/-- A sum of extended reals times a nonnegative real is the sum of the products. -/
theorem sum_mul_real (f : Fin n → EReal) (r : ℝ) (hr : 0 ≤ r) : (∑ j, f j) * (r : EReal) = ∑ j, f j * (r : EReal) := by
  classical
  induction (Finset.univ : Finset (Fin n)) using Finset.induction_on with
  | empty => simp
  | insert a s ha ih =>
    rw [Finset.sum_insert ha, Finset.sum_insert ha, EReal.right_distrib_of_nonneg_of_ne_top (EReal.coe_nonneg.2 hr) (EReal.coe_ne_top r), ih]

/-- The division of a real by a positive real. -/
theorem div_coe (a b : ℝ) (hb : 0 < b) : Ideal.div (a : EReal) (b : EReal) = ((a / b : ℝ) : EReal) := by
  unfold Ideal.div
  rw [if_neg (by exact_mod_cast hb.ne'), ← EReal.coe_inv, ← EReal.coe_mul, div_eq_mul_inv]

/-- The two rows agree when the scores and `M` are real and the mask keeps some key. -/
theorem row_eq (w : Fin n → BitVec 1) (s v : Fin n → EReal) (M : EReal) (hs : ∀ j, ∃ r : ℝ, s j = r)
    (hM : ∃ r : ℝ, M = r) (hw : ∃ j, w j = 1#1) : kRow w s v = rRow M w s v := by
  choose σ hσ using hs
  obtain ⟨μ, rfl⟩ := hM
  obtain ⟨j₀, hj₀⟩ := hw
  obtain rfl : s = fun j => (σ j : EReal) := funext hσ
  have hS : 0 < ∑ j, wgtR (w j) (σ j) :=
    Finset.sum_pos' (fun j _ => wgtR_nonneg _ _) ⟨j₀, Finset.mem_univ _, by rw [hj₀]; exact wgtR_pos _⟩
  have hm := Real.exp_pos (-μ)
  unfold kRow rRow
  simp only [wgt_coe, wgtSub_coe, sum_coe]
  rw [← Finset.sum_mul, ← EReal.coe_one, div_coe _ _ hS, sum_mul_real _ _ (by positivity)]
  refine Finset.sum_congr rfl fun j _ => ?_
  rw [div_coe _ _ (mul_pos hS hm), mul_comm _ (v j), mul_assoc, ← EReal.coe_mul]
  refine congrArg (fun t : ℝ => v j * (t : EReal)) ?_
  field_simp

end Cert.KernelIdealProof

end
-- ==== Proof.KernelHead.lean ====
/-
  What one device computes before any exchange, over the extended reals: its queries, and the attention of one head as a
  row of masked attention.
-/
module

public import proofs.«01_k».proof.Proof.Contents
public import proofs.«01_k».proof.Proof.Softmax
public import Idealize.ShloMosaic.Lib.Pointwise
public import Idealize.ShloMosaic.Lib.MatmulPlain

@[expose] public section

noncomputable section

namespace Cert.KernelIdealProof

open Cert.KernelIdeal Cert.KernelIdeal.Gen
open Idealize.ShloMosaic hiding ix1 ix2 ix3 ix4
open Idealize.ShloMosaic.ValueIdx
open scoped BigOperators

/-- A device's query matrix at a row and a column. -/
theorem pay1_apply (x : FVec Ideal S1024x768 .bf16) (wq : FVec Ideal S768x512 .bf16) (r : Fin 1024) (c : Fin 512) :
    k0_pay1 (F := Ideal) x wq (ix2 r c) = ∑ t : Fin 768, x (ix2 r t) * wq (ix2 t c) := by
  unfold k0_pay1
  pointwise
  rfl

/-- The mask the kernel computes. -/
theorem pay2_apply (i j : Fin 512) : k0_pay2 (ix2 i j) = maskW i.val j.val := by
  unfold k0_pay2 maskW
  pointwise

/-- The attention of one head, at a query and a column, given its mask, queries, keys and values. -/
theorem pay9_apply (w : IVec S512x512 1) (q : FVec Ideal S512x64 .bf16) (k v : FVec Ideal S1x512x1x64 .bf16) (i : Fin 512) (d : Fin 64) :
    k0_pay9 (F := Ideal) w q k v (ix2 i d) = kRow (fun j => w (ix2 i j))
      (fun j => (∑ e : Fin 64, q (ix2 i e) * k (ix4 0 j 0 e)) * scaleC) (fun j => v (ix4 0 j 0 d)) := by
  unfold k0_pay9 kRow wgt scaleC
  pointwise
  rfl

/-- The queries of a device at row and column. -/
def qAt (a : Ins Ideal) (r : Fin 1024) (c : Fin 512) : EReal := ∑ t : Fin 768, a.x (ix2 r t) * a.wq (ix2 t c)

/-- The score of query `i` and key `j` in batch `b` and head `h` of a device. -/
def scoreAt (a : Ins Ideal) (b : Fin 2) (h : Fin 8) (i j : Fin 512) : EReal :=
  (∑ e : Fin 64, qAt a ⟨512 * b.val + i.val, by omega⟩ ⟨64 * h.val + e.val, by omega⟩ * a.k (ix4 b j h e)) * scaleC

/-- A device's attention context at batch `b`, query `i`, head `h` and column `d`. -/
theorem head_apply (a : Ins Ideal) (b : Fin 2) (h : Fin 8) (i : Fin 512) (d : Fin 64) :
    head a b.val h.val b.isLt h.isLt (ix2 i d)
      = kRow (fun j : Fin 512 => maskW i.val j.val) (scoreAt a b h i) (fun j => a.v (ix4 b j h d)) := by
  refine (pay9_apply _ _ _ _ i d).trans ?_
  have hq : ∀ e : Fin 64, qBlk (k0_pay1 a.x a.wq) b.val h.val b.isLt h.isLt (ix2 i e)
      = qAt a ⟨512 * b.val + i.val, by omega⟩ ⟨64 * h.val + e.val, by omega⟩ := fun e => by
    refine Eq.trans ?_ (pay1_apply a.x a.wq ⟨512 * b.val + i.val, by omega⟩ ⟨64 * h.val + e.val, by omega⟩)
    refine congrArg (k0_pay1 a.x a.wq) (funext fun t => Fin.ext ?_)
    match t with
    | ⟨0, _⟩ => rfl
    | ⟨1, _⟩ => rfl
  simp only [pay2_apply, hq]
  rfl

end Cert.KernelIdealProof

end
-- ==== Proof.KernelOut.lean ====
/-
  What the kernel leaves on every device, over the extended reals: at each row and column the product of the row of the
  whole attention context, put together from the eight devices, with the column of `Wo`.
-/
module

public import proofs.«01_k».proof.Proof.KernelHead

@[expose] public section

noncomputable section

namespace Cert.KernelIdealProof

open Cert.KernelIdeal Cert.KernelIdeal.Gen
open Idealize.ShloMosaic hiding ix1 ix2 ix3 ix4
open Idealize.ShloMosaic.ValueIdx
open scoped BigOperators

/-- One step of the reduction: the running sum plus the product of a slab and a block of `Wo`. -/
theorem pay60_apply (acc : FVec Ideal S128x768 .f32) (w : FVec Ideal S256x768 .bf16) (s : FVec Ideal S1x128x256 .bf16)
    (r : Fin 128) (n : Fin 768) :
    k0_pay60 (F := Ideal) acc w s (ix2 r n) = acc (ix2 r n) + ∑ k : Fin 256, s (ix3 0 r k) * w (ix2 k n) := by
  unfold k0_pay60
  pointwise
  rfl

/-- What step `t` of device `d`'s reduction adds: the context rows `128 d` on of the device the slab came from, in one
    half of its columns, times the rows of `Wo` for those columns. -/
def part (A : Dev nD → Ins Ideal) (d : Dev nD) (r : Fin 128) (n : Fin 768) (t : ℕ) (ht : t < 16) : EReal :=
  ∑ k : Fin 256, ctxAll (A (bwd d (t % 8))) (ix2 ⟨128 * d.val + r.val, by have := dev_lt d; omega⟩ ⟨256 * (t / 8) + k.val, by omega⟩)
    * (A d).wo (ix2 ⟨512 * ((d.val + 8 - t % 8) % 8) + 256 * (t / 8) + k.val, by omega⟩ n)

/-- The reduction after `t` steps is the sum of what the steps add. -/
theorem redUp_apply (A : Dev nD → Ins Ideal) (d : Dev nD) (r : Fin 128) (n : Fin 768) (t : ℕ) (ht : t ≤ 16) :
    redUp A d t (ix2 r n) = ∑ u : Fin t, part A d r n u.val (by omega) := by
  induction t with
  | zero => exact Ideal.ofBits_zero_f32
  | succ t ih =>
    rw [redUp_succ A d t (by omega), Fin.sum_univ_castSucc]
    refine (pay60_apply _ _ _ r n).trans ?_
    rw [ih (by omega)]
    refine congrArg (fun z => (∑ u : Fin t, part A d r n u.val (by omega)) + z) (Finset.sum_congr rfl fun k _ => ?_)
    refine congrArg₂ (fun y z : EReal => y * z) (congrArg (ctxAll (A (bwd d (t % 8)))) (funext fun a => Fin.ext ?_)) rfl
    match a with
    | ⟨0, _⟩ =>
      have := dev_lt d
      show 128 * (((d.val + 8 - t % 8) % 8 + t % 8) % 8) + r.val = 128 * d.val + r.val
      omega
    | ⟨1, _⟩ => rfl

/-- The result at row `R` and column `n`: the sum, over the 4096 columns of the whole context, of the context times
    `Wo`; column `c` of the context is column `c % 512` of device `c / 512`. -/
def outSum (A : Dev nD → Ins Ideal) (wo : FVec Ideal S4096x768 .bf16) (R : Fin 1024) (n : Fin 768) : EReal :=
  ∑ c : Fin 4096, ctxAll (A ⟨c.val / 512, by show c.val / 512 < 8; omega⟩) (ix2 R ⟨c.val % 512, Nat.mod_lt _ (by decide)⟩) * wo (ix2 c n)

/-- Sixteen steps of 256 columns cover the 4096 columns once. -/
theorem red_apply (A : Dev nD → Ins Ideal) (wo : FVec Ideal S4096x768 .bf16) (hwo : ∀ e, (A e).wo = wo) (d : Dev nD)
    (r : Fin 128) (n : Fin 768) :
    red A d (ix2 r n) = outSum A wo ⟨128 * d.val + r.val, by have := dev_lt d; omega⟩ n := by
  have hd := dev_lt d
  unfold red outSum
  rw [redUp_apply A d r n 16 (le_refl 16)]
  unfold part
  rw [← Fintype.sum_prod_type', hwo d]
  refine Finset.sum_bij' (fun p _ => ⟨512 * ((d.val + 8 - p.1.val % 8) % 8) + 256 * (p.1.val / 8) + p.2.val, by omega⟩)
    (fun c _ => (⟨8 * (c.val % 512 / 256) + (d.val + 8 - c.val / 512) % 8, by omega⟩, ⟨c.val % 256, Nat.mod_lt _ (by decide)⟩))
    (fun _ _ => Finset.mem_univ _) (fun _ _ => Finset.mem_univ _) ?_ ?_ ?_
  · rintro ⟨t, k⟩ _
    refine Prod.ext (Fin.ext ?_) (Fin.ext ?_)
    · have hq : (d.val + 8 - (d.val + 8 - t.val % 8) % 8) % 8 = t.val % 8 := by omega
      have hlt : (d.val + 8 - t.val % 8) % 8 < 8 := Nat.mod_lt _ (by decide)
      revert hq hlt
      dsimp only
      generalize (d.val + 8 - t.val % 8) % 8 = q
      intro hq hlt
      have h1 : (512 * q + 256 * (t.val / 8) + k.val) / 512 = q := by omega
      rw [h1, hq]
      omega
    · dsimp only; omega
  · intro c _
    refine Fin.ext ?_
    dsimp only
    omega
  · rintro ⟨t, k⟩ _
    refine congrArg₂ (fun y z : EReal => y * z) ?_ rfl
    have e : bwd d (t.val % 8) = ⟨(512 * ((d.val + 8 - t.val % 8) % 8) + 256 * (t.val / 8) + k.val) / 512, by show _ < 8; omega⟩ := by
      refine Fin.ext ?_
      rw [bwd_val]
      show _ = (512 * ((d.val + 8 - t.val % 8) % 8) + 256 * (t.val / 8) + k.val) / 512
      omega
    dsimp only
    rw [← e]
    refine congrArg (ctxAll _) (funext fun a => Fin.ext ?_)
    match a with
    | ⟨0, _⟩ => rfl
    | ⟨1, _⟩ =>
      show 256 * (t.val / 8) + k.val = (512 * ((d.val + 8 - t.val % 8) % 8) + 256 * (t.val / 8) + k.val) % 512
      omega

/-- Every device ends with the same result: rounding is nothing here, so the rows it made itself and the rows it was
    sent are the sums above. -/
theorem outAll_apply (A : Dev nD → Ins Ideal) (wo : FVec Ideal S4096x768 .bf16) (hwo : ∀ e, (A e).wo = wo) (d : Dev nD)
    (R : Fin 1024) (n : Fin 768) : outAll A d (ix2 R n) = outSum A wo R n := by
  have hR : R.val / 128 < 8 := by omega
  have key : red A ⟨R.val / 128, hR⟩ (ix2 ⟨R.val % 128, Nat.mod_lt _ (by decide)⟩ n) = outSum A wo R n := by
    refine (red_apply A wo hwo _ _ n).trans (congrArg (fun S => outSum A wo S n) (Fin.ext ?_))
    show 128 * (R.val / 128) + R.val % 128 = R.val
    omega
  refine Eq.trans ?_ key
  show (if R.val / 128 = d.val then red A d (ix2 ⟨R.val % 128, _⟩ n) else red A ⟨R.val / 128, hR⟩ (ix2 ⟨R.val % 128, _⟩ n)) = _
  split
  · rename_i h
    obtain rfl : (⟨R.val / 128, hR⟩ : Dev nD) = d := Fin.ext h
    rfl
  · rfl

end Cert.KernelIdealProof

end
-- ==== Proof.Entry.lean ====
/-
  What the operations around the kernel's call read and write: each device's columns of `Wq` and flattened `x` before it,
  and the result in its final shape after it.
-/
module

public import proofs.«01_k».proof.Proof.Region
public import proofs.«01_k».proof.Proof.KernelOut
public import Idealize.ShloMosaic.Lib.Pointwise
public import Idealize.ShloMosaic.Lib.StableHlo.ReadAt

@[expose] public section

noncomputable section

namespace Cert.KernelIdealProof

open Cert.KernelIdeal Cert.KernelIdeal.Gen
open Idealize.ShloMosaic hiding ix1 ix2 ix3 ix4
open Idealize.ShloMosaic.ValueIdx Idealize.ShloMosaic.TcCoe

variable (m : (ℓ : Loc nD τ sig) → Buf (Elt Ideal) ℓ) (c : Dev nD)

/-- The word the program computes for the first column of a device's slice of `Wq`: 512 times the device's number, -/
def colWord (c : Dev nD) : BitVec 32 :=
  let w := IntOp.muli (Host.remui (Host.divui (constantI S_ 32 (Dev.word c)) (constantI S_ 32 1#32)) (constantI S_ 32 8#32) (Shape.Idx.first h_S_)) 512#32
  Scalar.select (IntOp.cmpi .slt w 0#32) (IntOp.addi w 4096#32) w

/-- as it comes out. -/
theorem colWord_toInt (c : Dev nD) : (colWord c).toInt = ((512 * c.val : ℕ) : ℤ) := by
  revert c; decide

/-- The slice of `Wq` the call is given. -/
theorem V1_main_v9 : V1 m c main_v9 = Host.dynamicSlice S768x512 (m ((c.tc : Thread nD τ).loc main_arg1))
    (fun a => ((![0#32, colWord c] : Fin 2 → BitVec 32) a).toInt) sliceFits_S768x4096_S768x512 := by
  unfold_abbrev_sides
  after_results
  refine congrArg (fun s => Host.dynamicSlice S768x512 (m ((c.tc : Thread nD τ).loc main_arg1)) s sliceFits_S768x4096_S768x512) (funext fun k => ?_)
  refine congrArg BitVec.toInt ?_
  match k with
  | ⟨0, _⟩ => rfl
  | ⟨1, _⟩ => rfl

/-- At its elements, -/
theorem V1_wq (t : Fin 768) (q : Fin 512) : (V1 m c main_v9 : FVec Ideal S768x512 .bf16) (ix2 t q)
    = (m ((c.tc : Thread nD τ).loc main_arg1) : FVec Ideal S768x4096 .bf16) (ix2 t ⟨512 * c.val + q.val, by have : c.val < 8 := c.isLt; omega⟩) := by
  have hc : c.val < 8 := c.isLt
  have h0 := Host.clampedStart_of_le (s := S768x4096) (t := S768x512) rfl (fun a => ((![0#32, colWord c] : Fin 2 → BitVec 32) a).toInt)
    (0 : Fin 2) 0 rfl (by decide)
  have h1 := Host.clampedStart_of_le (s := S768x4096) (t := S768x512) rfl (fun a => ((![0#32, colWord c] : Fin 2 → BitVec 32) a).toInt)
    (1 : Fin 2) (512 * c.val) (colWord_toInt c) (by show 512 * c.val + 512 ≤ 4096; omega)
  rw [V1_main_v9, Host.dynamicSlice_apply]
  refine congrArg (m ((c.tc : Thread nD τ).loc main_arg1) : FVec Ideal S768x4096 .bf16) (funext fun a => Fin.ext ?_)
  match a with
  | ⟨0, _⟩ => exact (congrArg (· + t.val) h0).trans (Nat.zero_add _)
  | ⟨1, _⟩ => exact congrArg (· + q.val) h1

/-- and the flattened `x`, -/
theorem V1_main_v10 : V1 m c main_v10 = shapeCast S1024x768 (m ((c.tc : Thread nD τ).loc main_arg0)) shapeCasts_S2x512x768_S1024x768 := by
  unfold_abbrev_sides
  after_results
  rfl

/-- at its elements. -/
theorem V1_x (b : Fin 2) (i : Fin 512) (t : Fin 768) : (V1 m c main_v10 : FVec Ideal S1024x768 .bf16) (ix2 ⟨512 * b.val + i.val, by omega⟩ t)
    = (m ((c.tc : Thread nD τ).loc main_arg0) : FVec Ideal S2x512x768 .bf16) (ix3 b i t) := by
  refine (congrFun (V1_main_v10 m c) _).trans (shapeCast_apply _ _ _ (ix3 b i t) ?_)
  refine (Shape.rowMajor_val_three _).trans (Eq.trans ?_ (Shape.rowMajor_val_two _).symm)
  show (b.val * 512 + i.val) * 768 + t.val = (512 * b.val + i.val) * 768 + t.val
  omega

/-- The other arguments are as they were. -/
theorem V1_arg2 : V1 m c main_arg2 = m ((c.tc : Thread nD τ).loc main_arg2) := V1_of m c main_arg2 (by decide)
theorem V1_arg3 : V1 m c main_arg3 = m ((c.tc : Thread nD τ).loc main_arg3) := V1_of m c main_arg3 (by decide)
theorem V1_arg4 : V1 m c main_arg4 = m ((c.tc : Thread nD τ).loc main_arg4) := V1_of m c main_arg4 (by decide)

/-- The result is what the call left, in its final shape, -/
theorem V3_main_v12 : V3 m (outs m) c main_v12 = shapeCast S2x512x768 (V2 m (outs m) c main_v11 : FVec Ideal S1024x768 .f32) shapeCasts_S1024x768_S2x512x768 := by
  unfold_abbrev_sides
  after_results
  rfl

/-- element by element. -/
theorem V3_out (b : Fin 2) (i : Fin 512) (n : Fin 768) : (V3 m (outs m) c main_v12 : FVec Ideal S2x512x768 .f32) (ix3 b i n)
    = outAll (insOf m) c (ix2 ⟨512 * b.val + i.val, by omega⟩ n) := by
  refine (congrFun (V3_main_v12 m c) _).trans ((shapeCast_apply _ _ _ (ix2 ⟨512 * b.val + i.val, by omega⟩ n) ?_).trans ?_)
  · refine (Shape.rowMajor_val_two _).trans (Eq.trans ?_ (Shape.rowMajor_val_three _).symm)
    show (512 * b.val + i.val) * 768 + n.val = (b.val * 512 + i.val) * 768 + n.val
    omega
  · exact congrFun ((Function.update_self (Proc.devRef .tc main_v11 : DevRef τ sig) (outs m 2 main_v11 c) (V1 m c)).trans (outs_eq m c)) _

end Cert.KernelIdealProof

end
-- ==== Proof.RefValue.lean ====
/-
  What the reference computes, over the extended reals, read at an index: its queries, its scores, the largest score of a
  row (a real number when every score is real), one row of its attention, and its result.
-/
module

public import proofs.«01_k».proof.Proof.Softmax
public import proofs.«01_k».proof.Proof.Gen.ReferenceIdeal.Read
public import Idealize.ShloMosaic.Lib.ReduceAll

@[expose] public section

noncomputable section

namespace Cert.ReferenceIdealProof

open Cert.ReferenceIdeal Cert.ReferenceIdeal.Gen Cert.ReferenceIdeal.Read Cert.KernelIdealProof
open Idealize.ShloMosaic
open Idealize.ShloMosaic.ValueIdx
open scoped BigOperators

variable (x : FVec Ideal S2x512x768 .bf16) (wq : FVec Ideal S768x4096 .bf16) (k v : FVec Ideal S2x512x64x64 .bf16)
  (wo : FVec Ideal S4096x768 .bf16)

/-- The queries at batch `b`, row `i` and column `c` of all 4096. -/
def qRef (b : Fin 2) (i : Fin 512) (c : Fin 4096) : EReal := ∑ t : Fin 768, x (ix3 b i t) * wq (ix2 t c)

/-- The score of query `i` and key `j` in batch `b` and head `h` of all 64. -/
def scoreRef (b : Fin 2) (h : Fin 64) (i j : Fin 512) : EReal :=
  (∑ e : Fin 64, qRef x wq b i ⟨64 * h.val + e.val, by omega⟩ * k (ix4 b j h e)) * scaleC

theorem q_apply (b : Fin 2) (i : Fin 512) (h e : Fin 64) :
    val_main_v6 (F := Ideal) x wq (ix4 b i h e) = qRef x wq b i ⟨64 * h.val + e.val, by omega⟩ := by
  rw [val_main_v6_apply, val_main_v5_apply]
  unfold qRef
  refine Finset.sum_congr rfl fun t _ => congrArg₂ (fun y z : EReal => y * z) ?_ ?_
  · refine congrArg x (funext fun a => Fin.ext ?_)
    match a with
    | ⟨0, _⟩ => show (((b.val * 512 + i.val) * 64 + h.val) * 64 + e.val) / 2097152 = b.val; omega
    | ⟨1, _⟩ => show (((b.val * 512 + i.val) * 64 + h.val) * 64 + e.val) / 4096 % 512 = i.val; omega
    | ⟨2, _⟩ => rfl
  · refine congrArg wq (funext fun a => Fin.ext ?_)
    match a with
    | ⟨0, _⟩ => rfl
    | ⟨1, _⟩ => show (((b.val * 512 + i.val) * 64 + h.val) * 64 + e.val) % 4096 = 64 * h.val + e.val; omega

theorem score_apply (b : Fin 2) (h : Fin 64) (i j : Fin 512) :
    val_main_v19 (F := Ideal) x wq k (ix4 b h i j) = scoreRef x wq k b h i j := by
  rw [val_main_v19_apply, val_main_v17_apply, val_main_v18_apply, val_main_cst_apply]
  unfold scoreRef
  refine congrArg₂ (fun y z : EReal => y * z) (Finset.sum_congr rfl fun e _ => ?_) rfl
  refine congrArg₂ (fun y z : EReal => y * z) ?_ ?_
  · exact (congrArg (val_main_v6 (F := Ideal) x wq) (eq_ix4 _)).trans (q_apply x wq b i h e)
  · exact congrArg k (eq_ix4 _)

/-- The mask, at a query and a key. -/
theorem mask_apply (i : S512x512.Idx) : val_main_v16 (F := Ideal) i = maskW (i 0).val (i 1).val := by
  rw [val_main_v16_apply, val_main_v14_apply, val_main_v13_apply, val_main_v11_apply, val_main_v8_apply, val_main_v7_apply,
    val_main_v12_apply, val_main_v10_apply, val_main_v9_apply, val_main_v15_apply, val_main_c_apply]
  rfl

/-- The masked scores. -/
theorem masked_apply (i : S2x64x512x512.Idx) :
    val_main_v21 (F := Ideal) x wq k i
      = Scalar.select (maskW (i 2).val (i 3).val) (scoreRef x wq k (i 0) (i 1) (i 2) (i 3)) ⊥ := by
  have hs : val_main_v19 (F := Ideal) x wq k i = scoreRef x wq k (i 0) (i 1) (i 2) (i 3) :=
    (congrArg (val_main_v19 (F := Ideal) x wq k) (eq_ix4 i)).trans (score_apply x wq k (i 0) (i 1) (i 2) (i 3))
  rw [val_main_v21_apply, val_main_call0_v1_apply, val_main_v20_apply, mask_apply, val_main_call0_v2_apply,
    val_main_call0_v0_apply, val_main_cst_0_apply, hs]
  refine congrArg (Scalar.select _ _) ?_
  show Ideal.ofBits .f32 0xFF800000#32 = ⊥
  simp [Ideal.ofBits, Ideal.ieee]

/-- Every query sees some key. -/
theorem any_apply (i : S512.Idx) : val_main_v27 (F := Ideal) i = 1#1 := by
  unfold val_main_v27
  rw [Host.reduce_eq_fold]
  have hmem : (ix2 (i 0) (i 0) : S512x512.Idx) ∈ Finset.univ.filter fun y => reducesTo_S512x512_S512_d1.drop y = i :=
    Finset.mem_filter.2 ⟨Finset.mem_univ _, funext fun a => Fin.ext (match a with | ⟨0, _⟩ => rfl)⟩
  rw [← Finset.insert_erase hmem, Finset.fold_insert (Finset.notMem_erase _ _), mask_apply]
  show IntOp.ori (maskW (i 0).val (i 0).val) _ = 1#1
  rw [maskW_self]
  generalize Finset.fold IntOp.ori _ _ _ = z
  revert z
  decide

/-- The largest score of a row. -/
def top (b : Fin 2) (h : Fin 64) (i : Fin 512) : EReal := val_main_v22 (F := Ideal) x wq k (ix3 b h i)

/-- It is real when every score is: it is below `+∞` as they all are, and no less than the query's score with its own key. -/
theorem top_real (hs : ∀ b h i j, ∃ r : ℝ, scoreRef x wq k b h i j = r) (b : Fin 2) (h : Fin 64) (i : Fin 512) :
    ∃ r : ℝ, top x wq k b h i = r := by
  have hfold : top x wq k b h i = (Finset.univ.filter fun y => reducesTo_S2x64x512x512_S2x64x512_d3.drop y = ix3 b h i).fold
      max (⊥ : EReal) (val_main_v21 (F := Ideal) x wq k) := by
    refine (Host.reduce_eq_fold _ _ _ _ _ _).trans ?_
    refine congrArg (fun z : EReal => Finset.fold max z _ _) ?_
    show Ideal.ofBits .f32 0xFF800000#32 = ⊥
    simp [Ideal.ofBits, Ideal.ieee]
  have hlt : top x wq k b h i < ⊤ := by
    rw [hfold, Finset.fold_max_lt]
    refine ⟨bot_lt_top, fun y _ => ?_⟩
    rw [masked_apply]
    unfold Scalar.select
    split
    · obtain ⟨r, hr⟩ := hs (y 0) (y 1) (y 2) (y 3)
      rw [hr]; exact EReal.coe_lt_top r
    · exact bot_lt_top
  have hgt : ⊥ < top x wq k b h i := by
    rw [hfold, Finset.lt_fold_max]
    refine Or.inr ⟨ix4 b h i i, Finset.mem_filter.2 ⟨Finset.mem_univ _, funext fun a => Fin.ext (match a with
      | ⟨0, _⟩ => rfl
      | ⟨1, _⟩ => rfl
      | ⟨2, _⟩ => rfl)⟩, ?_⟩
    rw [masked_apply]
    obtain ⟨r, hr⟩ := hs b h i i
    show ⊥ < Scalar.select (maskW i.val i.val) (scoreRef x wq k b h i i) ⊥
    rw [maskW_self, hr]
    exact EReal.bot_lt_coe r
  exact ⟨_, (EReal.coe_toReal hlt.ne hgt.ne').symm⟩

/-- The exponential of a masked score less the largest. -/
theorem expo_apply (b : Fin 2) (h : Fin 64) (i j : Fin 512) :
    val_main_v26 (F := Ideal) x wq k (ix4 b h i j)
      = wgtSub (top x wq k b h i) (maskW i.val j.val) (scoreRef x wq k b h i j) := by
  rw [val_main_v26_apply, val_main_v25_apply, masked_apply, val_main_v24_apply, val_main_v23_apply]
  unfold wgtSub top
  refine congrArg (fun z : EReal => Ideal.exp (Scalar.select (maskW i.val j.val) (scoreRef x wq k b h i j) ⊥ - z)) ?_
  exact congrArg (val_main_v22 (F := Ideal) x wq k) (eq_ix3 _)

/-- The sum a row is divided by. -/
theorem denom_apply (b : Fin 2) (h : Fin 64) (i j : Fin 512) :
    val_main_v32 (F := Ideal) x wq k (ix4 b h i j)
      = ∑ j : Fin 512, wgtSub (top x wq k b h i) (maskW i.val j.val) (scoreRef x wq k b h i j) := by
  rw [val_main_v32_apply, val_main_v31_apply, val_main_call1_v1_apply, val_main_v28_apply, any_apply, val_main_v30_apply,
    val_main_v29_apply, val_main_cst_3_apply]
  show Ideal.ofBits .f32 0x00000000#32 + _ = _
  rw [Ideal.ofBits_zero_f32, zero_add]
  refine Finset.sum_congr rfl fun j _ => ?_
  exact (congrArg (val_main_v26 (F := Ideal) x wq k) (eq_ix4 _)).trans (expo_apply x wq k b h i j)

/-- The attention of batch `b`, query `i`, head `h` and column `d`. -/
theorem ctx_apply (b : Fin 2) (h d : Fin 64) (i : Fin 512) :
    val_main_v36 (F := Ideal) x wq k v (ix4 b h d i)
      = rRow (top x wq k b h i) (fun j : Fin 512 => maskW i.val j.val) (scoreRef x wq k b h i) (fun j => v (ix4 b j h d)) := by
  rw [val_main_v36_apply]
  unfold rRow
  refine Finset.sum_congr rfl fun j _ => congrArg₂ (fun y z : EReal => y * z) (congrArg v (eq_ix4 _)) ?_
  refine (congrArg (val_main_v35 (F := Ideal) x wq k) (eq_ix4 _)).trans ?_
  show val_main_v35 (F := Ideal) x wq k (ix4 b h i j) = _
  rw [val_main_v35_apply, val_main_call2_v1_apply, val_main_v34_apply, any_apply, val_main_v33_apply, expo_apply, denom_apply]
  rfl

/-- The result at batch `b`, row `i` and column `n`: the product of the row of the context with the column of `Wo`. -/
theorem out_apply (b : Fin 2) (i : Fin 512) (n : Fin 768) :
    val_main_v39 (F := Ideal) x wq k v wo (ix3 b i n)
      = ∑ c : Fin 4096, val_main_v36 (F := Ideal) x wq k v
          (ix4 b ⟨c.val / 64, by omega⟩ ⟨c.val % 64, Nat.mod_lt _ (by decide)⟩ i) * wo (ix2 c n) := by
  rw [val_main_v39_apply]
  refine Finset.sum_congr rfl fun c _ => congrArg₂ (fun y z : EReal => y * z) ?_ (congrArg wo (eq_ix2 _))
  rw [val_main_v38_apply, val_main_v37_apply]
  refine congrArg (val_main_v36 (F := Ideal) x wq k v) (funext fun a => Fin.ext ?_)
  match a with
  | ⟨0, _⟩ => show ((b.val * 512 + i.val) * 4096 + c.val) / 2097152 = b.val; omega
  | ⟨1, _⟩ => show ((b.val * 512 + i.val) * 4096 + c.val) / 64 % 64 = c.val / 64; omega
  | ⟨2, _⟩ => show ((b.val * 512 + i.val) * 4096 + c.val) % 64 = c.val % 64; omega
  | ⟨3, _⟩ => show ((b.val * 512 + i.val) * 4096 + c.val) / 4096 % 512 = i.val; omega

end Cert.ReferenceIdealProof

end
-- ==== Proof.Equation.lean ====
/-
  The equation: when the eight devices' blocks are blocks of whole arrays whose scores are real, the kernel's result is
  the reference's.
-/
module

public import proofs.«01_k».proof.Proof.KernelOut
public import proofs.«01_k».proof.Proof.RefValue

@[expose] public section

noncomputable section

namespace Cert.KernelIdealProof

open Cert.ReferenceIdealProof Cert.ReferenceIdeal.Read
open Idealize.ShloMosaic hiding ix1 ix2 ix3 ix4
open Idealize.ShloMosaic.ValueIdx
open scoped BigOperators

/-- A product of real numbers is real, -/
theorem real_mul {y z : EReal} (hy : ∃ r : ℝ, y = r) (hz : ∃ r : ℝ, z = r) : ∃ r : ℝ, y * z = r := by
  obtain ⟨a, rfl⟩ := hy
  obtain ⟨b, rfl⟩ := hz
  exact ⟨a * b, (EReal.coe_mul a b).symm⟩

/-- and so is a sum of them. -/
theorem real_sum {n : ℕ} (f : Fin n → EReal) (hf : ∀ j, ∃ r : ℝ, f j = r) : ∃ r : ℝ, ∑ j, f j = r := by
  choose g hg using hf
  exact ⟨∑ j, g j, by rw [← sum_coe]; exact Finset.sum_congr rfl fun j _ => hg j⟩

/-- The whole arrays the eight devices' blocks are blocks of. -/
structure Whole where
  x : FVec Ideal Cert.ReferenceIdeal.S2x512x768 .bf16
  wq : FVec Ideal Cert.ReferenceIdeal.S768x4096 .bf16
  k : FVec Ideal Cert.ReferenceIdeal.S2x512x64x64 .bf16
  v : FVec Ideal Cert.ReferenceIdeal.S2x512x64x64 .bf16
  wo : FVec Ideal Cert.ReferenceIdeal.S4096x768 .bf16

/-- The devices' blocks are the whole arrays' blocks: all of `x`, columns `512 e` on of `Wq`, heads `8 e` on of `K` and
    `V`, and all of `Wo`. -/
structure Blocks (A : Dev Cert.KernelIdeal.nD → Ins Ideal) (W : Whole) : Prop where
  x : ∀ e (b : Fin 2) (i : Fin 512) (t : Fin 768), (A e).x (ix2 ⟨512 * b.val + i.val, by omega⟩ t) = W.x (ix3 b i t)
  wq : ∀ (e : Dev Cert.KernelIdeal.nD) (t : Fin 768) (c : Fin 512),
    (A e).wq (ix2 t c) = W.wq (ix2 t ⟨512 * e.val + c.val, by have := dev_lt e; omega⟩)
  k : ∀ (e : Dev Cert.KernelIdeal.nD) (b : Fin 2) (j : Fin 512) (h : Fin 8) (d : Fin 64),
    (A e).k (ix4 b j h d) = W.k (ix4 b j ⟨8 * e.val + h.val, by have := dev_lt e; omega⟩ d)
  v : ∀ (e : Dev Cert.KernelIdeal.nD) (b : Fin 2) (j : Fin 512) (h : Fin 8) (d : Fin 64),
    (A e).v (ix4 b j h d) = W.v (ix4 b j ⟨8 * e.val + h.val, by have := dev_lt e; omega⟩ d)
  wo : ∀ e, (A e).wo = W.wo

/-- Every element of `x`, `Wq` and `K` is a real number. -/
structure RealScores (W : Whole) : Prop where
  x : ∀ i, ∃ r : ℝ, W.x i = r
  wq : ∀ i, ∃ r : ℝ, W.wq i = r
  k : ∀ i, ∃ r : ℝ, W.k i = r

variable {A : Dev Cert.KernelIdeal.nD → Ins Ideal} {W : Whole}

/-- Then every score is real. -/
theorem scores_real (hr : RealScores W) (b : Fin 2) (h : Fin 64) (i j : Fin 512) :
    ∃ r : ℝ, scoreRef W.x W.wq W.k b h i j = r :=
  real_mul (real_sum _ fun _ => real_mul (real_sum _ fun _ => real_mul (hr.x _) (hr.wq _)) (hr.k _)) scaleC_real

/-- A device's scores in its head `h` are the whole scores in head `8 e + h`. -/
theorem score_eq (hb : Blocks A W) (e : Dev Cert.KernelIdeal.nD) (b : Fin 2) (h : Fin 8) (i j : Fin 512) :
    scoreAt (A e) b h i j = scoreRef W.x W.wq W.k b ⟨8 * e.val + h.val, by have := dev_lt e; omega⟩ i j := by
  unfold scoreAt scoreRef qAt qRef
  refine congrArg (fun z : EReal => z * scaleC) (Finset.sum_congr rfl fun d _ => ?_)
  refine congrArg₂ (fun y z : EReal => y * z) (Finset.sum_congr rfl fun t _ => ?_) (hb.k e b j h d)
  refine congrArg₂ (fun y z : EReal => y * z) (hb.x e b i t) ((hb.wq e t _).trans ?_)
  refine congrArg (fun c => W.wq (ix2 t c)) (Fin.ext ?_)
  show 512 * e.val + (64 * h.val + d.val) = 64 * (8 * e.val + h.val) + d.val
  omega

/-- A device's context is the whole context in its heads: the two ways of dividing agree. -/
theorem ctx_eq (hb : Blocks A W) (hr : RealScores W) (e : Dev Cert.KernelIdeal.nD) (b : Fin 2) (i : Fin 512) (h : Fin 8) (d : Fin 64) :
    head (A e) b.val h.val b.isLt h.isLt (ix2 i d)
      = val_main_v36 (F := Ideal) W.x W.wq W.k W.v (ix4 b ⟨8 * e.val + h.val, by have := dev_lt e; omega⟩ d i) := by
  rw [head_apply, ctx_apply, ← row_eq _ _ _ _ (scores_real hr b _ i)
    (top_real W.x W.wq W.k (scores_real hr) b _ i) ⟨i, maskW_self i.val⟩]
  refine congrArg₂ (kRow _) (funext fun j => score_eq hb e b h i j) (funext fun j => hb.v e b j h d)

/-- The kernel's result at a batch, a row and a column is the reference's. -/
theorem out_eq (hb : Blocks A W) (hr : RealScores W) (b : Fin 2) (i : Fin 512) (n : Fin 768) :
    outSum A W.wo ⟨512 * b.val + i.val, by omega⟩ n
      = val_main_v39 (F := Ideal) W.x W.wq W.k W.v W.wo (ix3 b i n) := by
  rw [out_apply]
  refine Finset.sum_congr rfl fun c _ => congrArg (fun z : EReal => z * W.wo (ix2 c n)) ?_
  have hR : (512 * b.val + i.val) / 512 = b.val := by omega
  have hI : (512 * b.val + i.val) % 512 = i.val := by omega
  refine Eq.trans ?_ ((ctx_eq hb hr ⟨c.val / 512, by show _ < 8; omega⟩ b i ⟨c.val % 512 / 64, by omega⟩
    ⟨c.val % 64, Nat.mod_lt _ (by decide)⟩).trans ?_)
  · unfold ctxAll
    show head _ ((512 * b.val + i.val) / 512) (c.val % 512 / 64) _ _ (ix2 ⟨(512 * b.val + i.val) % 512, _⟩ ⟨c.val % 512 % 64, _⟩) = _
    have hc : c.val % 512 % 64 = c.val % 64 := by omega
    simp only [hR, hI, hc]
  · refine congrArg (fun h => val_main_v36 (F := Ideal) W.x W.wq W.k W.v (ix4 b h _ i)) (Fin.ext ?_)
    show 8 * (c.val / 512) + c.val % 512 / 64 = c.val / 64
    omega

end Cert.KernelIdealProof

end
-- ==== Proof.Algebraic.lean ====
/-
  The kernel on its eight devices and the reference on one compute the same: from blocks of the same arrays, with `x`, `Wq`
  and `K` finite, every device ends with the reference's result.
-/
module

public import proofs.«01_k».proof.Defs
public import proofs.«01_k».proof.Proof.Run
public import proofs.«01_k».proof.Proof.Entry
public import proofs.«01_k».proof.Proof.Equation
public import proofs.«01_k».proof.Proof.Finite
public import proofs.«01_k».proof.Proof.Gen.ReferenceIdeal.Run
public import proofs.«01_k».proof.Proof.Gen.ReferenceIdeal.Read
public import Idealize.ShloMosaic.Lib.Layout

@[expose] public section

noncomputable section

namespace Cert.KernelIdealProof

open Idealize.ShloMosaic hiding ix1 ix2 ix3 ix4 eq_ix3 eq_ix4
open Idealize.ShloMosaic.ValueIdx Idealize.ShloMosaic.TcCoe Idealize.SL.Sem

/-- The reference's argument arrays. -/
def wholeOf (m' : (ℓ : Loc Cert.ReferenceIdeal.nD Cert.ReferenceIdeal.τ Cert.ReferenceIdeal.sig) → Buf (Elt Ideal) ℓ) : Whole where
  x := m' (((0 : Dev Cert.ReferenceIdeal.nD).tc : Thread Cert.ReferenceIdeal.nD Cert.ReferenceIdeal.τ).loc Cert.ReferenceIdeal.main_arg0)
  wq := m' (((0 : Dev Cert.ReferenceIdeal.nD).tc : Thread Cert.ReferenceIdeal.nD Cert.ReferenceIdeal.τ).loc Cert.ReferenceIdeal.main_arg1)
  k := m' (((0 : Dev Cert.ReferenceIdeal.nD).tc : Thread Cert.ReferenceIdeal.nD Cert.ReferenceIdeal.τ).loc Cert.ReferenceIdeal.main_arg2)
  v := m' (((0 : Dev Cert.ReferenceIdeal.nD).tc : Thread Cert.ReferenceIdeal.nD Cert.ReferenceIdeal.τ).loc Cert.ReferenceIdeal.main_arg3)
  wo := m' (((0 : Dev Cert.ReferenceIdeal.nD).tc : Thread Cert.ReferenceIdeal.nD Cert.ReferenceIdeal.τ).loc Cert.ReferenceIdeal.main_arg4)

/-- Block `e` of an array cut along its heads, at its elements. -/
theorem heads_block (y : FVec Ideal Cert.ReferenceIdeal.S2x512x64x64 .bf16) (e : Fin 8) (b : Fin 2) (j : Fin 512) (h : Fin 8) (d : Fin 64) :
    (Layout.block ⟨4, ![2, 512, 8, 64]⟩ ⟨4, ![2, 512, 64, 64]⟩ 2 8 e y : FVec Ideal ⟨4, ![2, 512, 8, 64]⟩ .bf16) (ix4 b j h d) = y (ix4 b j ⟨8 * e.val + h.val, by omega⟩ d) := by
  refine congrArg y (funext fun a => Fin.ext ?_)
  match a with
  | ⟨0, _⟩ => rfl
  | ⟨1, _⟩ => rfl
  | ⟨2, _⟩ => exact congrArg (· + h.val) (Nat.mul_comm e.val 8)
  | ⟨3, _⟩ => rfl

section

variable {m : (ℓ : Loc Cert.KernelIdeal.nD Cert.KernelIdeal.τ Cert.KernelIdeal.sig) → Buf (Elt Ideal) ℓ} {W : Whole}

/-- Device memories that hold the blocks of `W` give the call the blocks of `W`. -/
theorem blocks_of
    (h : ∀ c : Dev Cert.KernelIdeal.nD,
      m ((c.tc : Thread Cert.KernelIdeal.nD Cert.KernelIdeal.τ).loc Cert.KernelIdeal.main_arg0) = W.x
      ∧ m ((c.tc : Thread Cert.KernelIdeal.nD Cert.KernelIdeal.τ).loc Cert.KernelIdeal.main_arg1) = W.wq
      ∧ m ((c.tc : Thread Cert.KernelIdeal.nD Cert.KernelIdeal.τ).loc Cert.KernelIdeal.main_arg2) = Layout.block ⟨4, ![2, 512, 8, 64]⟩ ⟨4, ![2, 512, 64, 64]⟩ 2 8 c W.k
      ∧ m ((c.tc : Thread Cert.KernelIdeal.nD Cert.KernelIdeal.τ).loc Cert.KernelIdeal.main_arg3) = Layout.block ⟨4, ![2, 512, 8, 64]⟩ ⟨4, ![2, 512, 64, 64]⟩ 2 8 c W.v
      ∧ m ((c.tc : Thread Cert.KernelIdeal.nD Cert.KernelIdeal.τ).loc Cert.KernelIdeal.main_arg4) = W.wo) :
    Blocks (insOf m) W where
  x e b i t := (V1_x m e b i t).trans (congrFun (h e).1 _)
  wq e t c := (V1_wq m e t c).trans (congrFun (h e).2.1 _)
  k e b j d t := (congrFun ((V1_arg2 m e).trans (h e).2.2.1) _).trans (heads_block W.k e b j d t)
  v e b j d t := (congrFun ((V1_arg3 m e).trans (h e).2.2.2.1) _).trans (heads_block W.v e b j d t)
  wo e := (V1_arg4 m e).trans (h e).2.2.2.2

/-- Under the precondition the whole `x`, `Wq` and `K` are real: head `h` of `K` is head `h % 8` of device `h / 8`. -/
theorem reals_of [Cert.Pre_finite_scores_KernelIdeal.Facts] (hp : Cert.Pre_KernelIdeal_finite_scores_KernelIdeal m)
    (h : ∀ c : Dev Cert.KernelIdeal.nD,
      m ((c.tc : Thread Cert.KernelIdeal.nD Cert.KernelIdeal.τ).loc Cert.KernelIdeal.main_arg0) = W.x
      ∧ m ((c.tc : Thread Cert.KernelIdeal.nD Cert.KernelIdeal.τ).loc Cert.KernelIdeal.main_arg1) = W.wq
      ∧ m ((c.tc : Thread Cert.KernelIdeal.nD Cert.KernelIdeal.τ).loc Cert.KernelIdeal.main_arg2) = Layout.block ⟨4, ![2, 512, 8, 64]⟩ ⟨4, ![2, 512, 64, 64]⟩ 2 8 c W.k) :
    RealScores W where
  x i := (congrFun (h 0).1 i) ▸ (reals_of_fn _ _ _ _ _ (hp 0)).1 i
  wq i := (congrFun (h 0).2.1 i) ▸ (reals_of_fn _ _ _ _ _ (hp 0)).2.1 i
  k i := by
    have h64 : (i 2).val < 64 := (i 2).isLt
    have h8 : (i 2).val / 8 < 8 := by omega
    obtain ⟨r, hr⟩ := (reals_of_fn _ _ _ _ _ (hp ⟨(i 2).val / 8, h8⟩)).2.2 (ix4 (i 0) (i 1) ⟨(i 2).val % 8, Nat.mod_lt _ (by decide)⟩ (i 3))
    refine ⟨r, Eq.trans ?_ hr⟩
    refine Eq.trans ?_ ((congrFun (h ⟨(i 2).val / 8, h8⟩).2.2 _).trans (heads_block W.k _ _ _ _ _)).symm
    refine congrArg W.k (funext fun a => Fin.ext ?_)
    match a with
    | ⟨0, _⟩ => rfl
    | ⟨1, _⟩ => rfl
    | ⟨2, _⟩ => exact (Nat.div_add_mod (i 2).val 8).symm
    | ⟨3, _⟩ => rfl

/-- Then every device's result is the reference's function of `W`. -/
theorem result_eq (hb : Blocks (insOf m) W) (hr : RealScores W) (c : Dev Cert.KernelIdeal.nD) :
    (Cert.KernelIdeal.Gen.V3 m (outs m) c Cert.KernelIdeal.main_v12 : FVec Ideal Cert.KernelIdeal.S2x512x768 .f32)
      = Cert.ReferenceIdeal.Read.val_main_v39 (F := Ideal) W.x W.wq W.k W.v W.wo := by
  funext i
  refine (congrArg _ (eq_ix3 i)).trans (Eq.trans ?_ (congrArg _ (eq_ix3 i)).symm)
  exact (V3_out m c (i 0) (i 1) (i 2)).trans ((outAll_apply (insOf m) W.wo hb.wo c _ _).trans (out_eq hb hr (i 0) (i 1) (i 2)))

end

/-- From memories that hold blocks of the same arrays, with the scores' operands finite, both programs run, every device of
    the kernel ends with the reference's result, and the arguments of both end unchanged. -/
theorem algebraic [Cert.Pre_finite_scores_KernelIdeal.Facts] :
    Cert.algebraic_KernelIdeal_ReferenceIdeal_pre_finite_scores_KernelIdeal := fun m g m' g' hp h => by
  have hb : Blocks (insOf m) (wholeOf m') := blocks_of h
  have hr : RealScores (wholeOf m') := reals_of hp fun c => ⟨(h c).1, (h c).2.1, (h c).2.2.1⟩
  refine ⟨Cert.ReferenceIdeal.Read.val_main_v39 (F := Ideal) (wholeOf m').x (wholeOf m').wq (wholeOf m').k (wholeOf m').v (wholeOf m').wo, ?_, ?_⟩
  · exact (θ_run (Cert.KernelIdeal.defs (F := Ideal)) _ _).mono
      (fun _ hs c => ⟨((hs.1 c).1).trans (result_eq hb hr c), (hs.1 c).2⟩) (run_main (F := Ideal) m g)
  · exact (θ_run (Cert.ReferenceIdeal.defs (F := Ideal)) _ _).mono
      (fun _ hs => ⟨((hs 0).1).trans (Cert.ReferenceIdeal.Read.val_main_v39_eq m' 0), (hs 0).2⟩) (Cert.ReferenceIdeal.Value.run (F := Ideal) m' g')

end Cert.KernelIdealProof

end
-- ==== Proof.lean ====
/-
  The certificate: the kernel runs, at the machine's floats and over the extended reals, and so does the reference; and
  over the extended reals the kernel on its eight devices computes the reference's function.
-/
module

public import proofs.«01_k».proof.Defs
public import proofs.«01_k».proof.Proof.Frames
public import proofs.«01_k».proof.Proof.Finite
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read

@[expose] public section

noncomputable section

namespace Cert.Proof

open Cert.KernelIdealProof

/-- Everything the certificate claims. -/
theorem claim : Cert.Claim :=
  have := finiteFacts
  have := finiteFactsRef
  ⟨Cert.Kernel.Gen.facts, Cert.KernelIdeal.Gen.facts, Cert.ReferenceIdeal.Gen.facts, finiteFacts, finiteFactsRef,
    frame_kernel, frame_kernelIdeal, frame_kernelIdeal_finite, frame_referenceIdeal, frame_referenceIdeal_finite, trivial, algebraic⟩

end Cert.Proof

end
